-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v84)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v84) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S32x2048x3248 : Shape := ⟨3, ![32, 2048, 3248]⟩
abbrev S1696 : Shape := ⟨1, ![1696]⟩
abbrev S512 : Shape := ⟨1, ![512]⟩
abbrev S32x512 : Shape := ⟨2, ![32, 512]⟩
abbrev S32x2048x1696 : Shape := ⟨3, ![32, 2048, 1696]⟩
abbrev S_ : Shape := ⟨0, ![]⟩
abbrev S32x2049x1696 : Shape := ⟨3, ![32, 2049, 1696]⟩
abbrev S1x1x1696 : Shape := ⟨3, ![1, 1, 1696]⟩
abbrev S32x2048x512 : Shape := ⟨3, ![32, 2048, 512]⟩
abbrev S32x2048x32 : Shape := ⟨3, ![32, 2048, 32]⟩
abbrev S32x2048x96 : Shape := ⟨3, ![32, 2048, 96]⟩
abbrev S1x1x512 : Shape := ⟨3, ![1, 1, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S2048x64x32x8 : Shape := ⟨4, ![2048, 64, 32, 8]⟩
abbrev S2048x64x256 : Shape := ⟨3, ![2048, 64, 256]⟩
abbrev S16x64x128 : Shape := ⟨3, ![16, 64, 128]⟩
abbrev S64x64x128 : Shape := ⟨3, ![64, 64, 128]⟩
abbrev S64x128 : Shape := ⟨2, ![64, 128]⟩
abbrev S1x64x128 : Shape := ⟨3, ![1, 64, 128]⟩
abbrev S1x1x128 : Shape := ⟨3, ![1, 1, 128]⟩
abbrev S1x128 : Shape := ⟨2, ![1, 128]⟩

abbrev nBuf : Space → Nat
  | .hbm => 107
  | .vmem => 15
  | .smem => 0
  | _ => 0

abbrev bufTy : (tb : Table) → Fin (tcTables nBuf tb) → BufTy
  | .hbm, ⟨0, _⟩ => ⟨S32x2048x3248, .f32⟩
  | .hbm, ⟨1, _⟩ => ⟨S1696, .f32⟩
  | .hbm, ⟨2, _⟩ => ⟨S512, .f32⟩
  | .hbm, ⟨3, _⟩ => ⟨S32x512, .f32⟩
  | .hbm, ⟨4, _⟩ => ⟨S512, .f32⟩
  | .hbm, ⟨5, _⟩ => ⟨S32x512, .f32⟩
  | .hbm, ⟨6, _⟩ => ⟨S512, .f32⟩
  | .hbm, ⟨7, _⟩ => ⟨S512, .f32⟩
  | .hbm, ⟨8, _⟩ => ⟨S32x2048x1696, .f32⟩
  | .hbm, ⟨9, _⟩ => ⟨S_, .i32⟩
  | .hbm, ⟨10, _⟩ => ⟨S_, .f32⟩
  | .hbm, ⟨11, _⟩ => ⟨S32x2049x1696, .f32⟩
  | .hbm, ⟨12, _⟩ => ⟨S32x2048x1696, .f32⟩
  | .hbm, ⟨13, _⟩ => ⟨S32x2048x1696, .f32⟩
  | .hbm, ⟨14, _⟩ => ⟨S1x1x1696, .f32⟩
  | .hbm, ⟨15, _⟩ => ⟨S32x2048x1696, .f32⟩
  | .hbm, ⟨16, _⟩ => ⟨S32x2048x1696, .f32⟩
  | .hbm, ⟨17, _⟩ => ⟨S32x2048x1696, .f32⟩
  | .hbm, ⟨18, _⟩ => ⟨S32x2048x512, .f32⟩
  | .hbm, ⟨19, _⟩ => ⟨S32x2048x512, .f32⟩
  | .hbm, ⟨20, _⟩ => ⟨S32x2048x512, .f32⟩
  | .hbm, ⟨21, _⟩ => ⟨S32x2048x32, .f32⟩
  | .hbm, ⟨22, _⟩ => ⟨S32x2048x32, .f32⟩
  | .hbm, ⟨23, _⟩ => ⟨S32x2048x96, .f32⟩
  | .hbm, ⟨24, _⟩ => ⟨S32x2048x32, .f32⟩
  | .hbm, ⟨25, _⟩ => ⟨S32x2048x512, .f32⟩
  | .hbm, ⟨26, _⟩ => ⟨S1x1x512, .f32⟩
  | .hbm, ⟨27, _⟩ => ⟨S32x2048x512, .f32⟩
  | .hbm, ⟨28, _⟩ => ⟨S32x2048x512, .f32⟩
  | .hbm, ⟨29, _⟩ => ⟨S32x2048x512, .f32⟩
  | .hbm, ⟨30, _⟩ => ⟨S_, .f32⟩
  | .hbm, ⟨31, _⟩ => ⟨S32x2048x512, .f32⟩
  | .hbm, ⟨32, _⟩ => ⟨S32x2048x512, .f32⟩
  | .hbm, ⟨33, _⟩ => ⟨S32x2048x512, .f32⟩
  | .hbm, ⟨34, _⟩ => ⟨S32x2048x512, .f32⟩
  | .hbm, ⟨35, _⟩ => ⟨S32x2048x512, .i1⟩
  | .hbm, ⟨36, _⟩ => ⟨S32x2048x512, .f32⟩
  | .hbm, ⟨37, _⟩ => ⟨S32x2048x512, .f32⟩
  | .hbm, ⟨38, _⟩ => ⟨S32x2048x512, .f32⟩
  | .hbm, ⟨39, _⟩ => ⟨S32x2048x512, .f32⟩
  | .hbm, ⟨40, _⟩ => ⟨S32x2048x512, .f32⟩
  | .hbm, ⟨41, _⟩ => ⟨S32x2048x512, .f32⟩
  | .hbm, ⟨42, _⟩ => ⟨S32x2048x512, .f32⟩
  | .hbm, ⟨43, _⟩ => ⟨S32x2048x512, .f32⟩
  | .hbm, ⟨44, _⟩ => ⟨S32x2048x512, .f32⟩
  | .hbm, ⟨45, _⟩ => ⟨S_, .f32⟩
  | .hbm, ⟨46, _⟩ => ⟨S32x2048x512, .f32⟩
  | .hbm, ⟨47, _⟩ => ⟨S32x2048x512, .f32⟩
  | .hbm, ⟨48, _⟩ => ⟨S32x2048x512, .f32⟩
  | .hbm, ⟨49, _⟩ => ⟨S32x2048x512, .f32⟩
  | .hbm, ⟨50, _⟩ => ⟨S32x2048x512, .f32⟩
  | .hbm, ⟨51, _⟩ => ⟨S32x2048x512, .f32⟩
  | .hbm, ⟨52, _⟩ => ⟨S1x1x512, .f32⟩
  | .hbm, ⟨53, _⟩ => ⟨S32x2048x512, .f32⟩
  | .hbm, ⟨54, _⟩ => ⟨S32x2048x512, .f32⟩
  | .hbm, ⟨55, _⟩ => ⟨S32x2048x512, .f32⟩
  | .hbm, ⟨56, _⟩ => ⟨S32x2048x512, .f32⟩
  | .hbm, ⟨57, _⟩ => ⟨S_, .f32⟩
  | .hbm, ⟨58, _⟩ => ⟨S32x2048x512, .f32⟩
  | .hbm, ⟨59, _⟩ => ⟨S32x2048x512, .f32⟩
  | .hbm, ⟨60, _⟩ => ⟨S_, .f32⟩
  | .hbm, ⟨61, _⟩ => ⟨S32x2048x512, .f32⟩
  | .hbm, ⟨62, _⟩ => ⟨S32x2048x512, .f32⟩
  | .hbm, ⟨63, _⟩ => ⟨S1x1x512, .f32⟩
  | .hbm, ⟨64, _⟩ => ⟨S32x2048x512, .f32⟩
  | .hbm, ⟨65, _⟩ => ⟨S32x2048x512, .f32⟩
  | .hbm, ⟨66, _⟩ => ⟨S32x2048x8x64, .f32⟩
  | .hbm, ⟨67, _⟩ => ⟨S32x2048x8x64, .f32⟩
  | .hbm, ⟨68, _⟩ => ⟨S_, .f32⟩
  | .hbm, ⟨69, _⟩ => ⟨S32x2048x8, .f32⟩
  | .hbm, ⟨70, _⟩ => ⟨S32x2048x8x1, .f32⟩
  | .hbm, ⟨71, _⟩ => ⟨S32x2048x8x1, .f32⟩
  | .hbm, ⟨72, _⟩ => ⟨S_, .f32⟩
  | .hbm, ⟨73, _⟩ => ⟨S32x2048x8x1, .f32⟩
  | .hbm, ⟨74, _⟩ => ⟨S32x2048x8x1, .f32⟩
  | .hbm, ⟨75, _⟩ => ⟨S32x2048x8x64, .f32⟩
  | .hbm, ⟨76, _⟩ => ⟨S32x2048x8x64, .f32⟩
  | .hbm, ⟨77, _⟩ => ⟨S_, .f32⟩
  | .hbm, ⟨78, _⟩ => ⟨S32x2048x512, .f32⟩
  | .hbm, ⟨79, _⟩ => ⟨S32x2048x512, .f32⟩
  | .hbm, ⟨80, _⟩ => ⟨S1x1x512, .f32⟩
  | .hbm, ⟨81, _⟩ => ⟨S32x2048x512, .f32⟩
  | .hbm, ⟨82, _⟩ => ⟨S32x2048x512, .f32⟩
  | .hbm, ⟨83, _⟩ => ⟨S_, .f32⟩
  | .hbm, ⟨84, _⟩ => ⟨S32x2048x512, .f32⟩
  | .hbm, ⟨85, _⟩ => ⟨S32x2048x512, .f32⟩
  | .hbm, ⟨86, _⟩ => ⟨S32x2048x512, .f32⟩
  | .hbm, ⟨87, _⟩ => ⟨S32x2048x8x64, .f32⟩
  | .hbm, ⟨88, _⟩ => ⟨S32x2048x8x64, .f32⟩
  | .hbm, ⟨89, _⟩ => ⟨S32x2048x8x64, .f32⟩
  | .hbm, ⟨90, _⟩ => ⟨S32x2048x8x64, .f32⟩
  | .hbm, ⟨91, _⟩ => ⟨S32x2048x8x64, .f32⟩
  | .hbm, ⟨92, _⟩ => ⟨S32x2048x8x64, .f32⟩
  | .hbm, ⟨93, _⟩ => ⟨S32x2048x8x64, .f32⟩
  | .hbm, ⟨94, _⟩ => ⟨S2048x64x32x8, .f32⟩
  | .hbm, ⟨95, _⟩ => ⟨S2048x64x256, .f32⟩
  | .hbm, ⟨96, _⟩ => ⟨S2048x64x32x8, .f32⟩
  | .hbm, ⟨97, _⟩ => ⟨S2048x64x256, .f32⟩
  | .hbm, ⟨98, _⟩ => ⟨S2048x64x32x8, .f32⟩
  | .hbm, ⟨99, _⟩ => ⟨S2048x64x256, .f32⟩
  | .hbm, ⟨100, _⟩ => ⟨S2048x64x32x8, .f32⟩
  | .hbm, ⟨101, _⟩ => ⟨S2048x64x256, .f32⟩
  | .hbm, ⟨102, _⟩ => ⟨S2048x64x32x8, .f32⟩
  | .hbm, ⟨103, _⟩ => ⟨S2048x64x256, .f32⟩
  | .hbm, ⟨104, _⟩ => ⟨S2048x64x32x8, .f32⟩
  | .hbm, ⟨105, _⟩ => ⟨S2048x64x256, .f32⟩
  | .hbm, ⟨106, _⟩ => ⟨S2048x64x256, .f32⟩
  | .local _ .vmem, ⟨0, _⟩ => ⟨S16x64x128, .f32⟩
  | .local _ .vmem, ⟨1, _⟩ => ⟨S16x64x128, .f32⟩
  | .local _ .vmem, ⟨2, _⟩ => ⟨S16x64x128, .f32⟩
  | .local _ .vmem, ⟨3, _⟩ => ⟨S16x64x128, .f32⟩
  | .local _ .vmem, ⟨4, _⟩ => ⟨S16x64x128, .f32⟩
  | .local _ .vmem, ⟨5, _⟩ => ⟨S16x64x128, .f32⟩
  | .local _ .vmem, ⟨6, _⟩ => ⟨S16x64x128, .f32⟩
  | .local _ .vmem, ⟨7, _⟩ => ⟨S16x64x128, .f32⟩
  | .local _ .vmem, ⟨8, _⟩ => ⟨S16x64x128, .f32⟩
  | .local _ .vmem, ⟨9, _⟩ => ⟨S16x64x128, .f32⟩
  | .local _ .vmem, ⟨10, _⟩ => ⟨S16x64x128, .f32⟩
  | .local _ .vmem, ⟨11, _⟩ => ⟨S16x64x128, .f32⟩
  | .local _ .vmem, ⟨12, _⟩ => ⟨S16x64x128, .f32⟩
  | .local _ .vmem, ⟨13, _⟩ => ⟨S16x64x128, .f32⟩
  | .local _ .vmem, ⟨14, _⟩ => ⟨S64x64x128, .f32⟩
  | _, _ => ⟨S32x2048x3248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_0 : Ref sig .tc := ⟨.hbm, 57, rfl⟩
abbrev main_v33 : Ref sig .tc := ⟨.hbm, 58, rfl⟩
abbrev main_v34 : Ref sig .tc := ⟨.hbm, 59, rfl⟩
abbrev main_cst_1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_4 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_5 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 128], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v7 : Index := Scalar.indexCast arg10
  let c0_5 : Index := 0#32
  let c0_6 : Index := 0#32
  ![v7.toNat, 0, 0]
def k0_off2 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v15 : Index := Scalar.indexCast arg10
  let c1_9 : Index := 1#32
  let c0_10 : Index := 0#32
  ![v15.toNat, 1, 0]
def k0_off3 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v23 : Index := Scalar.indexCast arg10
  let c2_13 : Index := 2#32
  let c0_14 : Index := 0#32
  ![v23.toNat, 2, 0]
def k0_off4 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v31 : Index := Scalar.indexCast arg10
  let c3_17 : Index := 3#32
  let c0_18 : Index := 0#32
  ![v31.toNat, 3, 0]
def k0_off5 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v39 : Index := Scalar.indexCast arg10
  let c4_21 : Index := 4#32
  let c0_22 : Index := 0#32
  ![v39.toNat, 4, 0]
def k0_off6 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v47 : Index := Scalar.indexCast arg10
  let c5_25 : Index := 5#32
  let c0_26 : Index := 0#32
  ![v47.toNat, 5, 0]
def k0_off7 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v55 : Index := Scalar.indexCast arg10
  let c6_29 : Index := 6#32
  let c0_30 : Index := 0#32
  ![v55.toNat, 6, 0]
def k0_off8 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v63 : Index := Scalar.indexCast arg10
  let c7_33 : Index := 7#32
  let c0_34 : Index := 0#32
  ![v63.toNat, 7, 0]
def k0_off9 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v71 : Index := Scalar.indexCast arg10
  let c8_37 : Index := 8#32
  let c0_38 : Index := 0#32
  ![v71.toNat, 8, 0]
def k0_off10 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v79 : Index := Scalar.indexCast arg10
  let c9_41 : Index := 9#32
  let c0_42 : Index := 0#32
  ![v79.toNat, 9, 0]
def k0_off11 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v87 : Index := Scalar.indexCast arg10
  let c10_45 : Index := 10#32
  let c0_46 : Index := 0#32
  ![v87.toNat, 10, 0]
def k0_off12 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v95 : Index := Scalar.indexCast arg10
  let c11_49 : Index := 11#32
  let c0_50 : Index := 0#32
  ![v95.toNat, 11, 0]
def k0_off13 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v103 : Index := Scalar.indexCast arg10
  let c12_53 : Index := 12#32
  let c0_54 : Index := 0#32
  ![v103.toNat, 12, 0]
def k0_off14 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v111 : Index := Scalar.indexCast arg10
  let c13_57 : Index := 13#32
  let c0_58 : Index := 0#32
  ![v111.toNat, 13, 0]
def k0_off15 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v119 : Index := Scalar.indexCast arg10
  let c14_61 : Index := 14#32
  let c0_62 : Index := 0#32
  ![v119.toNat, 14, 0]
def k0_off16 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v127 : Index := Scalar.indexCast arg10
  let c15_65 : Index := 15#32
  let c0_66 : Index := 0#32
  ![v127.toNat, 15, 0]
def k0_off17 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v135 : Index := Scalar.indexCast arg10
  let c16_69 : Index := 16#32
  let c0_70 : Index := 0#32
  ![v135.toNat, 16, 0]
def k0_off18 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v143 : Index := Scalar.indexCast arg10
  let c17_73 : Index := 17#32
  let c0_74 : Index := 0#32
  ![v143.toNat, 17, 0]
def k0_off19 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v151 : Index := Scalar.indexCast arg10
  let c18_77 : Index := 18#32
  let c0_78 : Index := 0#32
  ![v151.toNat, 18, 0]
def k0_off20 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v159 : Index := Scalar.indexCast arg10
  let c19_81 : Index := 19#32
  let c0_82 : Index := 0#32
  ![v159.toNat, 19, 0]
def k0_off21 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v167 : Index := Scalar.indexCast arg10
  let c20_85 : Index := 20#32
  let c0_86 : Index := 0#32
  ![v167.toNat, 20, 0]
def k0_off22 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v175 : Index := Scalar.indexCast arg10
  let c21_89 : Index := 21#32
  let c0_90 : Index := 0#32
  ![v175.toNat, 21, 0]
def k0_off23 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v183 : Index := Scalar.indexCast arg10
  let c22_93 : Index := 22#32
  let c0_94 : Index := 0#32
  ![v183.toNat, 22, 0]
def k0_off24 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v191 : Index := Scalar.indexCast arg10
  let c23_97 : Index := 23#32
  let c0_98 : Index := 0#32
  ![v191.toNat, 23, 0]
def k0_off25 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v199 : Index := Scalar.indexCast arg10
  let c24_101 : Index := 24#32
  let c0_102 : Index := 0#32
  ![v199.toNat, 24, 0]
def k0_off26 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v207 : Index := Scalar.indexCast arg10
  let c25_105 : Index := 25#32
  let c0_106 : Index := 0#32
  ![v207.toNat, 25, 0]
def k0_off27 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v215 : Index := Scalar.indexCast arg10
  let c26_109 : Index := 26#32
  let c0_110 : Index := 0#32
  ![v215.toNat, 26, 0]
def k0_off28 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v223 : Index := Scalar.indexCast arg10
  let c27_113 : Index := 27#32
  let c0_114 : Index := 0#32
  ![v223.toNat, 27, 0]
def k0_off29 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v231 : Index := Scalar.indexCast arg10
  let c28_117 : Index := 28#32
  let c0_118 : Index := 0#32
  ![v231.toNat, 28, 0]
def k0_off30 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v239 : Index := Scalar.indexCast arg10
  let c29_121 : Index := 29#32
  let c0_122 : Index := 0#32
  ![v239.toNat, 29, 0]
def k0_off31 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v247 : Index := Scalar.indexCast arg10
  let c30_125 : Index := 30#32
  let c0_126 : Index := 0#32
  ![v247.toNat, 30, 0]
def k0_off32 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v255 : Index := Scalar.indexCast arg10
  let c31_129 : Index := 31#32
  let c0_130 : Index := 0#32
  ![v255.toNat, 31, 0]
def k0_off33 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v263 : Index := Scalar.indexCast arg10
  let c32_133 : Index := 32#32
  let c0_134 : Index := 0#32
  ![v263.toNat, 32, 0]
def k0_off34 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v271 : Index := Scalar.indexCast arg10
  let c33_137 : Index := 33#32
  let c0_138 : Index := 0#32
  ![v271.toNat, 33, 0]
def k0_off35 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v279 : Index := Scalar.indexCast arg10
  let c34_141 : Index := 34#32
  let c0_142 : Index := 0#32
  ![v279.toNat, 34, 0]
def k0_off36 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v287 : Index := Scalar.indexCast arg10
  let c35_145 : Index := 35#32
  let c0_146 : Index := 0#32
  ![v287.toNat, 35, 0]
def k0_off37 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v295 : Index := Scalar.indexCast arg10
  let c36_149 : Index := 36#32
  let c0_150 : Index := 0#32
  ![v295.toNat, 36, 0]
def k0_off38 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v303 : Index := Scalar.indexCast arg10
  let c37_153 : Index := 37#32
  let c0_154 : Index := 0#32
  ![v303.toNat, 37, 0]
def k0_off39 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v311 : Index := Scalar.indexCast arg10
  let c38_157 : Index := 38#32
  let c0_158 : Index := 0#32
  ![v311.toNat, 38, 0]
def k0_off40 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v319 : Index := Scalar.indexCast arg10
  let c39_161 : Index := 39#32
  let c0_162 : Index := 0#32
  ![v319.toNat, 39, 0]
def k0_off41 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v327 : Index := Scalar.indexCast arg10
  let c40_165 : Index := 40#32
  let c0_166 : Index := 0#32
  ![v327.toNat, 40, 0]
def k0_off42 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v335 : Index := Scalar.indexCast arg10
  let c41_169 : Index := 41#32
  let c0_170 : Index := 0#32
  ![v335.toNat, 41, 0]
def k0_off43 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v343 : Index := Scalar.indexCast arg10
  let c42_173 : Index := 42#32
  let c0_174 : Index := 0#32
  ![v343.toNat, 42, 0]
def k0_off44 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v351 : Index := Scalar.indexCast arg10
  let c43_177 : Index := 43#32
  let c0_178 : Index := 0#32
  ![v351.toNat, 43, 0]
def k0_off45 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v359 : Index := Scalar.indexCast arg10
  let c44_181 : Index := 44#32
  let c0_182 : Index := 0#32
  ![v359.toNat, 44, 0]
def k0_off46 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v367 : Index := Scalar.indexCast arg10
  let c45_185 : Index := 45#32
  let c0_186 : Index := 0#32
  ![v367.toNat, 45, 0]
def k0_off47 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v375 : Index := Scalar.indexCast arg10
  let c46_189 : Index := 46#32
  let c0_190 : Index := 0#32
  ![v375.toNat, 46, 0]
def k0_off48 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v383 : Index := Scalar.indexCast arg10
  let c47_193 : Index := 47#32
  let c0_194 : Index := 0#32
  ![v383.toNat, 47, 0]
def k0_off49 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v391 : Index := Scalar.indexCast arg10
  let c48_197 : Index := 48#32
  let c0_198 : Index := 0#32
  ![v391.toNat, 48, 0]
def k0_off50 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v399 : Index := Scalar.indexCast arg10
  let c49_201 : Index := 49#32
  let c0_202 : Index := 0#32
  ![v399.toNat, 49, 0]
def k0_off51 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v407 : Index := Scalar.indexCast arg10
  let c50_205 : Index := 50#32
  let c0_206 : Index := 0#32
  ![v407.toNat, 50, 0]
def k0_off52 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v415 : Index := Scalar.indexCast arg10
  let c51_209 : Index := 51#32
  let c0_210 : Index := 0#32
  ![v415.toNat, 51, 0]
def k0_off53 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v423 : Index := Scalar.indexCast arg10
  let c52_213 : Index := 52#32
  let c0_214 : Index := 0#32
  ![v423.toNat, 52, 0]
def k0_off54 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v431 : Index := Scalar.indexCast arg10
  let c53_217 : Index := 53#32
  let c0_218 : Index := 0#32
  ![v431.toNat, 53, 0]
def k0_off55 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v439 : Index := Scalar.indexCast arg10
  let c54_221 : Index := 54#32
  let c0_222 : Index := 0#32
  ![v439.toNat, 54, 0]
def k0_off56 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v447 : Index := Scalar.indexCast arg10
  let c55_225 : Index := 55#32
  let c0_226 : Index := 0#32
  ![v447.toNat, 55, 0]
def k0_off57 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v455 : Index := Scalar.indexCast arg10
  let c56_229 : Index := 56#32
  let c0_230 : Index := 0#32
  ![v455.toNat, 56, 0]
def k0_off58 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v463 : Index := Scalar.indexCast arg10
  let c57_233 : Index := 57#32
  let c0_234 : Index := 0#32
  ![v463.toNat, 57, 0]
def k0_off59 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v471 : Index := Scalar.indexCast arg10
  let c58_237 : Index := 58#32
  let c0_238 : Index := 0#32
  ![v471.toNat, 58, 0]
def k0_off60 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v479 : Index := Scalar.indexCast arg10
  let c59_241 : Index := 59#32
  let c0_242 : Index := 0#32
  ![v479.toNat, 59, 0]
def k0_off61 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v487 : Index := Scalar.indexCast arg10
  let c60_245 : Index := 60#32
  let c0_246 : Index := 0#32
  ![v487.toNat, 60, 0]
def k0_off62 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v495 : Index := Scalar.indexCast arg10
  let c61_249 : Index := 61#32
  let c0_250 : Index := 0#32
  ![v495.toNat, 61, 0]
def k0_off63 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v503 : Index := Scalar.indexCast arg10
  let c62_253 : Index := 62#32
  let c0_254 : Index := 0#32
  ![v503.toNat, 62, 0]
def k0_off64 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v511 : Index := Scalar.indexCast arg10
  let c63_257 : Index := 63#32
  let c0_258 : Index := 0#32
  ![v511.toNat, 63, 0]
def k0_off65 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v517 : Index := Scalar.indexCast arg10
  let c0_259 : Index := 0#32
  let c0_260 : Index := 0#32
  ![v517.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x2048x3248 : Shape := ⟨3, ![32, 2048, 3248]⟩
abbrev S1696 : Shape := ⟨1, ![1696]⟩
abbrev S512 : Shape := ⟨1, ![512]⟩
abbrev S32x512 : Shape := ⟨2, ![32, 512]⟩
abbrev S32x2048x1696 : Shape := ⟨3, ![32, 2048, 1696]⟩
abbrev S_ : Shape := ⟨0, ![]⟩
abbrev S32x2049x1696 : Shape := ⟨3, ![32, 2049, 1696]⟩
abbrev S1x1x1696 : Shape := ⟨3, ![1, 1, 1696]⟩
abbrev S32x2048x512 : Shape := ⟨3, ![32, 2048, 512]⟩
abbrev S32x2048x32 : Shape := ⟨3, ![32, 2048, 32]⟩
abbrev S1x1x512 : Shape := ⟨3, ![1, 1, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S2048x32x8x64 : Shape := ⟨4, ![2048, 32, 8, 64]⟩
abbrev S32x8x64x64 : Shape := ⟨4, ![32, 8, 64, 64]⟩
abbrev S1x32x8x64 : Shape := ⟨4, ![1, 32, 8, 64]⟩
abbrev S32x8x64 : Shape := ⟨3, ![32, 8, 64]⟩
abbrev S32x8x1x64 : Shape := ⟨4, ![32, 8, 1, 64]⟩
abbrev S32x8x64x1 : Shape := ⟨4, ![32, 8, 64, 1]⟩
abbrev S2048x64x32x8 : Shape := ⟨4, ![2048, 64, 32, 8]⟩
abbrev S2048x64x256 : Shape := ⟨3, ![2048, 64, 256]⟩

abbrev nBuf : Space → Nat
  | .hbm => 171
  | .vmem => 0
  | .smem => 0
  | _ => 0

abbrev hbmTy0_0 (i : Nat) : BufTy := match i % 128 with
  | 0 => ⟨S32x2048x3248, .f32⟩
  | 1 => ⟨S1696, .f32⟩
  | 2 => ⟨S512, .f32⟩
  | 3 => ⟨S32x512, .f32⟩
  | 4 => ⟨S512, .f32⟩
  | 5 => ⟨S32x512, .f32⟩
  | 6 => ⟨S512, .f32⟩
  | 7 => ⟨S512, .f32⟩
  | 8 => ⟨S32x2048x1696, .f32⟩
  | 9 => ⟨S_, .i32⟩
  | 10 => ⟨S_, .f32⟩
  | 11 => ⟨S32x2049x1696, .f32⟩
  | 12 => ⟨S32x2048x1696, .f32⟩
  | 13 => ⟨S32x2048x1696, .f32⟩
  | 14 => ⟨S1x1x1696, .f32⟩
  | 15 => ⟨S32x2048x1696, .f32⟩
  | 16 => ⟨S32x2048x1696, .f32⟩
  | 17 => ⟨S32x2048x1696, .f32⟩
  | 18 => ⟨S32x2048x512, .f32⟩
  | 19 => ⟨S32x2048x512, .f32⟩
  | 20 => ⟨S32x2048x512, .f32⟩
  | 21 => ⟨S32x2048x32, .f32⟩
  | 22 => ⟨S32x2048x32, .f32⟩
  | 23 => ⟨S32x2048x32, .f32⟩
  | 24 => ⟨S32x2048x512, .f32⟩
  | 25 => ⟨S1x1x512, .f32⟩
  | 26 => ⟨S32x2048x512, .f32⟩
  | 27 => ⟨S32x2048x512, .f32⟩
  | 28 => ⟨S32x2048x512, .f32⟩
  | 29 => ⟨S_, .f32⟩
  | 30 => ⟨S32x2048x512, .f32⟩
  | 31 => ⟨S32x2048x512, .f32⟩
  | 32 => ⟨S32x2048x512, .f32⟩
  | 33 => ⟨S32x2048x512, .f32⟩
  | 34 => ⟨S32x2048x512, .i1⟩
  | 35 => ⟨S32x2048x512, .f32⟩
  | 36 => ⟨S32x2048x512, .f32⟩
  | 37 => ⟨S32x2048x512, .f32⟩
  | 38 => ⟨S32x2048x512, .f32⟩
  | 39 => ⟨S32x2048x512, .f32⟩
  | 40 => ⟨S32x2048x512, .f32⟩
  | 41 => ⟨S32x2048x512, .f32⟩
  | 42 => ⟨S32x2048x512, .f32⟩
  | 43 => ⟨S32x2048x512, .f32⟩
  | 44 => ⟨S_, .f32⟩
  | 45 => ⟨S32x2048x512, .f32⟩
  | 46 => ⟨S32x2048x512, .f32⟩
  | 47 => ⟨S32x2048x512, .f32⟩
  | 48 => ⟨S32x2048x512, .f32⟩
  | 49 => ⟨S32x2048x512, .f32⟩
  | 50 => ⟨S32x2048x512, .f32⟩
  | 51 => ⟨S1x1x512, .f32⟩
  | 52 => ⟨S32x2048x512, .f32⟩
  | 53 => ⟨S32x2048x512, .f32⟩
  | 54 => ⟨S32x2048x512, .f32⟩
  | 55 => ⟨S32x2048x512, .f32⟩
  | 56 => ⟨S_, .f32⟩
  | 57 => ⟨S32x2048x512, .f32⟩
  | 58 => ⟨S32x2048x512, .f32⟩
  | 59 => ⟨S_, .f32⟩
  | 60 => ⟨S32x2048x512, .f32⟩
  | 61 => ⟨S32x2048x512, .f32⟩
  | 62 => ⟨S1x1x512, .f32⟩
  | 63 => ⟨S32x2048x512, .f32⟩
  | 64 => ⟨S32x2048x512, .f32⟩
  | 65 => ⟨S32x2048x8x64, .f32⟩
  | 66 => ⟨S32x2048x8x64, .f32⟩
  | 67 => ⟨S_, .f32⟩
  | 68 => ⟨S32x2048x8, .f32⟩
  | 69 => ⟨S32x2048x8x1, .f32⟩
  | 70 => ⟨S32x2048x8x1, .f32⟩
  | 71 => ⟨S_, .f32⟩
  | 72 => ⟨S32x2048x8x1, .f32⟩
  | 73 => ⟨S32x2048x8x1, .f32⟩
  | 74 => ⟨S32x2048x8x64, .f32⟩
  | 75 => ⟨S32x2048x8x64, .f32⟩
  | 76 => ⟨S_, .f32⟩
  | 77 => ⟨S32x2048x512, .f32⟩
  | 78 => ⟨S32x2048x512, .f32⟩
  | 79 => ⟨S1x1x512, .f32⟩
  | 80 => ⟨S32x2048x512, .f32⟩
  | 81 => ⟨S32x2048x512, .f32⟩
  | 82 => ⟨S_, .f32⟩
  | 83 => ⟨S32x2048x512, .f32⟩
  | 84 => ⟨S32x2048x512, .f32⟩
  | 85 => ⟨S32x2048x512, .f32⟩
  | 86 => ⟨S32x2048x8x64, .f32⟩
  | 87 => ⟨S32x2048x8x64, .f32⟩
  | 88 => ⟨S32x2048x8x64, .f32⟩
  | 89 => ⟨S32x2048x8x64, .f32⟩
  | 90 => ⟨S32x2048x8x64, .f32⟩
  | 91 => ⟨S32x2048x8x64, .f32⟩
  | 92 => ⟨S32x2048x8x64, .f32⟩
  | 93 => ⟨S2048x32x8x64, .f32⟩
  | 94 => ⟨S2048x32x8x64, .f32⟩
  | 95 => ⟨S2048x32x8x64, .f32⟩
  | 96 => ⟨S2048x32x8x64, .f32⟩
  | 97 => ⟨S2048x32x8x64, .f32⟩
  | 98 => ⟨S2048x32x8x64, .f32⟩
  | 99 => ⟨S_, .f32⟩
  | 100 => ⟨S32x8x64x64, .f32⟩
  | 101 => ⟨S_, .f32⟩
  | 102 => ⟨S2048x32x8x64, .f32⟩
  | 103 => ⟨S_, .i32⟩
  | 104 => ⟨S2048x32x8x64, .f32⟩
  | 105 => ⟨S2048x32x8x64, .f32⟩
  | 106 => ⟨S2048x32x8x64, .f32⟩
  | 107 => ⟨S2048x32x8x64, .f32⟩
  | 108 => ⟨S2048x32x8x64, .f32⟩
  | 109 => ⟨S2048x32x8x64, .f32⟩
  | 110 => ⟨S_, .i32⟩
  | 111 => ⟨S32x8x64x64, .f32⟩
  | 112 => ⟨S2048x32x8x64, .f32⟩
  | 113 => ⟨S_, .i32⟩
  | 114 => ⟨S_, .i1⟩
  | 115 => ⟨S_, .i32⟩
  | 116 => ⟨S_, .i32⟩
  | 117 => ⟨S_, .i32⟩
  | 118 => ⟨S1x32x8x64, .f32⟩
  | 119 => ⟨S32x8x64, .f32⟩
  | 120 => ⟨S_, .i32⟩
  | 121 => ⟨S_, .i32⟩
  | 122 => ⟨S_, .i32⟩
  | 123 => ⟨S1x32x8x64, .f32⟩
  | 124 => ⟨S32x8x64, .f32⟩
  | 125 => ⟨S_, .i32⟩
  | 126 => ⟨S_, .i32⟩
  | 127 => ⟨S_, .i32⟩
  | _ => ⟨S32x2048x3248, .f32⟩

abbrev hbmTy0_1 (i : Nat) : BufTy := match i % 128 with
  | 0 => ⟨S1x32x8x64, .f32⟩
  | 1 => ⟨S32x8x64, .f32⟩
  | 2 => ⟨S_, .i32⟩
  | 3 => ⟨S_, .i32⟩
  | 4 => ⟨S_, .i32⟩
  | 5 => ⟨S1x32x8x64, .f32⟩
  | 6 => ⟨S32x8x64, .f32⟩
  | 7 => ⟨S_, .i32⟩
  | 8 => ⟨S_, .i32⟩
  | 9 => ⟨S_, .i32⟩
  | 10 => ⟨S1x32x8x64, .f32⟩
  | 11 => ⟨S32x8x64, .f32⟩
  | 12 => ⟨S_, .i32⟩
  | 13 => ⟨S_, .i32⟩
  | 14 => ⟨S_, .i32⟩
  | 15 => ⟨S1x32x8x64, .f32⟩
  | 16 => ⟨S32x8x64, .f32⟩
  | 17 => ⟨S32x8x64, .f32⟩
  | 18 => ⟨S32x8x1x64, .f32⟩
  | 19 => ⟨S32x8x64x64, .f32⟩
  | 20 => ⟨S32x8x64x64, .f32⟩
  | 21 => ⟨S32x8x64x1, .f32⟩
  | 22 => ⟨S32x8x1x64, .f32⟩
  | 23 => ⟨S32x8x64x64, .f32⟩
  | 24 => ⟨S32x8x64x64, .f32⟩
  | 25 => ⟨S32x8x64x64, .f32⟩
  | 26 => ⟨S32x8x64x64, .f32⟩
  | 27 => ⟨S32x8x64x1, .f32⟩
  | 28 => ⟨S32x8x1x64, .f32⟩
  | 29 => ⟨S32x8x64x64, .f32⟩
  | 30 => ⟨S32x8x64x64, .f32⟩
  | 31 => ⟨S32x8x64x64, .f32⟩
  | 32 => ⟨S32x8x64x64, .f32⟩
  | 33 => ⟨S32x8x64, .f32⟩
  | 34 => ⟨S1x32x8x64, .f32⟩
  | 35 => ⟨S_, .i32⟩
  | 36 => ⟨S_, .i32⟩
  | 37 => ⟨S_, .i32⟩
  | 38 => ⟨S2048x32x8x64, .f32⟩
  | 39 => ⟨S_, .i32⟩
  | 40 => ⟨S_, .i32⟩
  | 41 => ⟨S2048x64x32x8, .f32⟩
  | 42 => ⟨S2048x64x256, .f32⟩
  | _ => ⟨S32x2048x3248, .f32⟩

abbrev hbmTy (i : Nat) : BufTy := match i / 128 with
  | 0 => hbmTy0_0 i
  | 1 => hbmTy0_1 i
  | _ => ⟨S32x2048x3248, .f32⟩

abbrev bufTy : (tb : Table) → Fin (tcTables nBuf tb) → BufTy
  | .hbm, ⟨i, _⟩ => hbmTy i
  | _, _ => ⟨S32x2048x3248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_0 : Ref sig .tc := ⟨.hbm, 56, rfl⟩
abbrev main_v32 : Ref sig .tc := ⟨.hbm, 57, rfl⟩
abbrev main_v33 : Ref sig .tc := ⟨.hbm, 58, rfl⟩
abbrev main_cst_1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_3 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_5 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_6 : Ref sig .tc := ⟨.hbm, 99, rfl⟩
abbrev main_v69 : Ref sig .tc := ⟨.hbm, 100, rfl⟩
abbrev main_cst_7 : Ref sig .tc := ⟨.hbm, 101, rfl⟩
abbrev main_v70 : Ref sig .tc := ⟨.hbm, 102, rfl⟩
abbrev main_c_8 : Ref sig .tc := ⟨.hbm, 103, rfl⟩
abbrev main_v71_0 : Ref sig .tc := ⟨.hbm, 104, rfl⟩
abbrev main_v71_1 : Ref sig .tc := ⟨.hbm, 105, rfl⟩
abbrev main_v71_2 : Ref sig .tc := ⟨.hbm, 106, rfl⟩
abbrev main_v71_3 : Ref sig .tc := ⟨.hbm, 107, rfl⟩
abbrev main_v71_4 : Ref sig .tc := ⟨.hbm, 108, rfl⟩
abbrev main_v71_5 : Ref sig .tc := ⟨.hbm, 109, rfl⟩
abbrev main_v71_6 : Ref sig .tc := ⟨.hbm, 110, rfl⟩
abbrev main_v71_7 : Ref sig .tc := ⟨.hbm, 111, rfl⟩
abbrev main_v71_8 : Ref sig .tc := ⟨.hbm, 112, rfl⟩
abbrev main_while0c_c_17 : Ref sig .tc := ⟨.hbm, 113, rfl⟩
abbrev main_while0c_v74 : Ref sig .tc := ⟨.hbm, 114, rfl⟩
abbrev main_while0b_call2_c : Ref sig .tc := ⟨.hbm, 115, rfl⟩
abbrev main_while0b_call2_c_0 : Ref sig .tc := ⟨.hbm, 116, rfl⟩
abbrev main_while0b_call2_c_1 : Ref sig .tc := ⟨.hbm, 117, rfl⟩
abbrev main_while0b_call2_v0 : Ref sig .tc := ⟨.hbm, 118, rfl⟩
abbrev main_while0b_v74 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_c_1 : Ref sig .tc := ⟨.hbm, 122, rfl⟩
abbrev main_while0b_call3_v0 : Ref sig .tc := ⟨.hbm, 123, rfl⟩
abbrev main_while0b_v75 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_v0 : Ref sig .tc := ⟨.hbm, 128, rfl⟩
abbrev main_while0b_v76 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_c_1 : Ref sig .tc := ⟨.hbm, 132, rfl⟩
abbrev main_while0b_call5_v0 : Ref sig .tc := ⟨.hbm, 133, rfl⟩
abbrev main_while0b_v77 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_c_1 : Ref sig .tc := ⟨.hbm, 137, rfl⟩
abbrev main_while0b_call6_v0 : Ref sig .tc := ⟨.hbm, 138, rfl⟩
abbrev main_while0b_v78 : Ref sig .tc := ⟨.hbm, 139, rfl⟩
abbrev main_while0b_call7_c : Ref sig .tc := ⟨.hbm, 140, rfl⟩
abbrev main_while0b_call7_c_0 : Ref sig .tc := ⟨.hbm, 141, rfl⟩
abbrev main_while0b_call7_c_1 : Ref sig .tc := ⟨.hbm, 142, rfl⟩
abbrev main_while0b_call7_v0 : Ref sig .tc := ⟨.hbm, 143, rfl⟩
abbrev main_while0b_v79 : Ref sig .tc := ⟨.hbm, 144, rfl⟩
abbrev main_while0b_v80 : Ref sig .tc := ⟨.hbm, 145, rfl⟩
abbrev main_while0b_v81 : Ref sig .tc := ⟨.hbm, 146, rfl⟩
abbrev main_while0b_v82 : Ref sig .tc := ⟨.hbm, 147, rfl⟩
abbrev main_while0b_v83 : Ref sig .tc := ⟨.hbm, 148, rfl⟩
abbrev main_while0b_v84 : Ref sig .tc := ⟨.hbm, 149, rfl⟩
abbrev main_while0b_v85 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_call8_v0 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_v97 : Ref sig .tc := ⟨.hbm, 166, rfl⟩
abbrev main_while0b_c_17 : Ref sig .tc := ⟨.hbm, 167, rfl⟩
abbrev main_while0b_v98 : Ref sig .tc := ⟨.hbm, 168, rfl⟩
abbrev main_v72 : Ref sig .tc := ⟨.hbm, 169, rfl⟩
abbrev main_v73 : Ref sig .tc := ⟨.hbm, 170, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S32x2048x1024 : Shape := ⟨3, ![32, 2048, 1024]⟩
abbrev S1024x3248 : Shape := ⟨2, ![1024, 3248]⟩
abbrev S65536x1024 : Shape := ⟨2, ![65536, 1024]⟩
abbrev S65536x3248 : Shape := ⟨2, ![65536, 3248]⟩
abbrev S512x1024 : Shape := ⟨2, ![512, 1024]⟩
abbrev S512x3248 : Shape := ⟨2, ![512, 3248]⟩

abbrev nBuf : Space → Nat
  | .hbm => 5
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x3248, .f32⟩
  | .hbm, ⟨2, _⟩ => ⟨S65536x1024, .f32⟩
  | .hbm, ⟨3, _⟩ => ⟨S1024x3248, .bf16⟩
  | .hbm, ⟨4, _⟩ => ⟨S65536x3248, .f32⟩
  | .local _ .vmem, ⟨0, _⟩ => ⟨S512x1024, .f32⟩
  | .local _ .vmem, ⟨1, _⟩ => ⟨S512x1024, .f32⟩
  | .local _ .vmem, ⟨2, _⟩ => ⟨S1024x3248, .bf16⟩
  | .local _ .vmem, ⟨3, _⟩ => ⟨S512x3248, .f32⟩
  | .local _ .vmem, ⟨4, _⟩ => ⟨S512x3248, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3248 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3248 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S32x2048x1024 : Shape := ⟨3, ![32, 2048, 1024]⟩
abbrev S1024x3248 : Shape := ⟨2, ![1024, 3248]⟩
abbrev S32x2048x3248 : Shape := ⟨3, ![32, 2048, 3248]⟩
abbrev S65536x3248 : Shape := ⟨2, ![65536, 3248]⟩

abbrev nBuf : Space → Nat
  | .hbm => 4
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x3248, .f32⟩
  | .hbm, ⟨2, _⟩ => ⟨S32x2048x3248, .f32⟩
  | .hbm, ⟨3, _⟩ => ⟨S65536x3248, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024x1864 : Shape := ⟨2, ![1024, 1864]⟩
abbrev S1024x1024 : Shape := ⟨2, ![1024, 1024]⟩
abbrev S1024x128 : Shape := ⟨2, ![1024, 128]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x56 : Shape := ⟨2, ![1024, 56]⟩
abbrev S1024x1920 : Shape := ⟨2, ![1024, 1920]⟩
abbrev S65536x1024 : Shape := ⟨2, ![65536, 1024]⟩
abbrev S65536x1920 : Shape := ⟨2, ![65536, 1920]⟩
abbrev S512x1024 : Shape := ⟨2, ![512, 1024]⟩
abbrev S512x1920 : Shape := ⟨2, ![512, 1920]⟩

abbrev nBuf : Space → Nat
  | .hbm => 14
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x1864, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S_, .f32⟩
  | .hbm, ⟨9, _⟩ => ⟨S1024x56, .f32⟩
  | .hbm, ⟨10, _⟩ => ⟨S1024x1920, .f32⟩
  | .hbm, ⟨11, _⟩ => ⟨S65536x1024, .f32⟩
  | .hbm, ⟨12, _⟩ => ⟨S1024x1920, .bf16⟩
  | .hbm, ⟨13, _⟩ => ⟨S65536x1920, .f32⟩
  | .local _ .vmem, ⟨0, _⟩ => ⟨S512x1024, .f32⟩
  | .local _ .vmem, ⟨1, _⟩ => ⟨S512x1024, .f32⟩
  | .local _ .vmem, ⟨2, _⟩ => ⟨S1024x1920, .bf16⟩
  | .local _ .vmem, ⟨3, _⟩ => ⟨S512x1920, .f32⟩
  | .local _ .vmem, ⟨4, _⟩ => ⟨S512x1920, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S32x2048x1024 : Shape := ⟨3, ![32, 2048, 1024]⟩
abbrev S1024x1864 : Shape := ⟨2, ![1024, 1864]⟩
abbrev S32x2048x1864 : Shape := ⟨3, ![32, 2048, 1864]⟩
abbrev S65536x1864 : Shape := ⟨2, ![65536, 1864]⟩
abbrev S65536x1024 : Shape := ⟨2, ![65536, 1024]⟩
abbrev S65536x128 : Shape := ⟨2, ![65536, 128]⟩
abbrev S65536x512 : Shape := ⟨2, ![65536, 512]⟩
abbrev S65536x64 : Shape := ⟨2, ![65536, 64]⟩
abbrev S65536x8 : Shape := ⟨2, ![65536, 8]⟩
abbrev S_ : Shape := ⟨0, ![]⟩
abbrev S65536x56 : Shape := ⟨2, ![65536, 56]⟩
abbrev S65536x1920 : Shape := ⟨2, ![65536, 1920]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1864, .f32⟩
  | .hbm, ⟨2, _⟩ => ⟨S32x2048x1864, .f32⟩
  | .hbm, ⟨3, _⟩ => ⟨S65536x1864, .f32⟩
  | .hbm, ⟨4, _⟩ => ⟨S65536x1024, .f32⟩
  | .hbm, ⟨5, _⟩ => ⟨S65536x128, .f32⟩
  | .hbm, ⟨6, _⟩ => ⟨S65536x128, .f32⟩
  | .hbm, ⟨7, _⟩ => ⟨S65536x512, .f32⟩
  | .hbm, ⟨8, _⟩ => ⟨S65536x64, .f32⟩
  | .hbm, ⟨9, _⟩ => ⟨S65536x8, .f32⟩
  | .hbm, ⟨10, _⟩ => ⟨S_, .f32⟩
  | .hbm, ⟨11, _⟩ => ⟨S65536x56, .f32⟩
  | .hbm, ⟨12, _⟩ => ⟨S65536x1920, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S32x2048x512 : Shape := ⟨3, ![32, 2048, 512]⟩
abbrev S1024x1024 : Shape := ⟨2, ![1024, 1024]⟩
abbrev S32x2048x1024 : Shape := ⟨3, ![32, 2048, 1024]⟩
abbrev S65536x1024 : Shape := ⟨2, ![65536, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S1024x1024, .f32⟩
  | .hbm, ⟨3, _⟩ => ⟨S32x2048x1024, .f32⟩
  | .hbm, ⟨4, _⟩ => ⟨S65536x1024, .f32⟩
  | .hbm, ⟨5, _⟩ => ⟨S1024x1024, .bf16⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32x2048x512 : Shape := ⟨3, ![32, 2048, 512]⟩
abbrev S1024x1024 : Shape := ⟨2, ![1024, 1024]⟩
abbrev S32x2048x1024 : Shape := ⟨3, ![32, 2048, 1024]⟩
abbrev S65536x1024 : Shape := ⟨2, ![65536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S1024x1024, .f32⟩
  | .hbm, ⟨3, _⟩ => ⟨S32x2048x1024, .f32⟩
  | .hbm, ⟨4, _⟩ => ⟨S32x2048x1024, .f32⟩
  | .hbm, ⟨5, _⟩ => ⟨S65536x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S32x2048x3248 : Shape := ⟨3, ![32, 2048, 3248]⟩
abbrev S16x256 : Shape := ⟨2, ![16, 256]⟩
abbrev S256 : Shape := ⟨1, ![256]⟩
abbrev S128 : Shape := ⟨1, ![128]⟩
abbrev S65536x3248 : Shape := ⟨2, ![65536, 3248]⟩
abbrev S1x256 : Shape := ⟨2, ![1, 256]⟩
abbrev S1x128 : Shape := ⟨2, ![1, 128]⟩
abbrev S65536x512 : Shape := ⟨2, ![65536, 512]⟩
abbrev S256x256 : Shape := ⟨2, ![256, 256]⟩
abbrev S256x512 : Shape := ⟨2, ![256, 512]⟩
abbrev S256x128 : Shape := ⟨2, ![256, 128]⟩
abbrev S4x128x64 : Shape := ⟨3, ![4, 128, 64]⟩
abbrev S256x16 : Shape := ⟨2, ![256, 16]⟩
abbrev S64x256 : Shape := ⟨2, ![64, 256]⟩
abbrev S64x64 : Shape := ⟨2, ![64, 64]⟩
abbrev S64x128 : Shape := ⟨2, ![64, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S64x1 : Shape := ⟨2, ![64, 1]⟩

abbrev nBuf : Space → Nat
  | .hbm => 9
  | .vmem => 16
  | .smem => 0
  | _ => 0

abbrev bufTy : (tb : Table) → Fin (tcTables nBuf tb) → BufTy
  | .hbm, ⟨0, _⟩ => ⟨S32x2048x3248, .f32⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S65536x3248, .f32⟩
  | .hbm, ⟨5, _⟩ => ⟨S16x256, .bf16⟩
  | .hbm, ⟨6, _⟩ => ⟨S1x256, .f32⟩
  | .hbm, ⟨7, _⟩ => ⟨S1x128, .f32⟩
  | .hbm, ⟨8, _⟩ => ⟨S65536x512, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S16x256, .bf16⟩
  | .local _ .vmem, ⟨11, _⟩ => ⟨S1x256, .f32⟩
  | .local _ .vmem, ⟨12, _⟩ => ⟨S1x128, .f32⟩
  | .local _ .vmem, ⟨13, _⟩ => ⟨S256x512, .f32⟩
  | .local _ .vmem, ⟨14, _⟩ => ⟨S256x512, .f32⟩
  | .local _ .vmem, ⟨15, _⟩ => ⟨S4x128x64, .f32⟩
  | _, _ => ⟨S32x2048x3248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c12_i32 : BitVec 32 := 12#32
  let c0_i32 : BitVec 32 := 0#32
  ![v1.toNat, c12_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S32x2048x3248 : Shape := ⟨3, ![32, 2048, 3248]⟩
abbrev S16x256 : Shape := ⟨2, ![16, 256]⟩
abbrev S256 : Shape := ⟨1, ![256]⟩
abbrev S128 : Shape := ⟨1, ![128]⟩
abbrev S32x2048x1552 : Shape := ⟨3, ![32, 2048, 1552]⟩
abbrev S32x2048x256 : Shape := ⟨3, ![32, 2048, 256]⟩
abbrev S32x2048x512 : Shape := ⟨3, ![32, 2048, 512]⟩
abbrev S32x2048x16 : Shape := ⟨3, ![32, 2048, 16]⟩
abbrev S1x1x256 : Shape := ⟨3, ![1, 1, 256]⟩
abbrev S_ : Shape := ⟨0, ![]⟩
abbrev S32x2048x4x64 : Shape := ⟨4, ![32, 2048, 4, 64]⟩
abbrev S32x2048x4x128 : Shape := ⟨4, ![32, 2048, 4, 128]⟩
abbrev S32x32x64x4x64 : Shape := ⟨5, ![32, 32, 64, 4, 64]⟩
abbrev S32x4x32x64x64 : Shape := ⟨5, ![32, 4, 32, 64, 64]⟩
abbrev S32x32x64x4x128 : Shape := ⟨5, ![32, 32, 64, 4, 128]⟩
abbrev S32x4x32x64x128 : Shape := ⟨5, ![32, 4, 32, 64, 128]⟩
abbrev S32x4x32x1x64 : Shape := ⟨5, ![32, 4, 32, 1, 64]⟩
abbrev S64x64 : Shape := ⟨2, ![64, 64]⟩
abbrev S32x4x32x64 : Shape := ⟨4, ![32, 4, 32, 64]⟩
abbrev S32x4x64x128 : Shape := ⟨4, ![32, 4, 64, 128]⟩
abbrev S32x32x4x64 : Shape := ⟨4, ![32, 32, 4, 64]⟩
abbrev S32x32x4x64x128 : Shape := ⟨5, ![32, 32, 4, 64, 128]⟩
abbrev S1x32x4x64 : Shape := ⟨4, ![1, 32, 4, 64]⟩
abbrev S32x4x64 : Shape := ⟨3, ![32, 4, 64]⟩
abbrev S1x32x4x64x128 : Shape := ⟨5, ![1, 32, 4, 64, 128]⟩
abbrev S32x4x64x1 : Shape := ⟨4, ![32, 4, 64, 1]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S65536x512 : Shape := ⟨2, ![65536, 512]⟩

abbrev nBuf : Space → Nat
  | .hbm => 152
  | .vmem => 0
  | .smem => 0
  | _ => 0

abbrev hbmTy0_0 (i : Nat) : BufTy := match i % 128 with
  | 0 => ⟨S32x2048x3248, .f32⟩
  | 1 => ⟨S16x256, .f32⟩
  | 2 => ⟨S256, .f32⟩
  | 3 => ⟨S128, .f32⟩
  | 4 => ⟨S32x2048x1552, .f32⟩
  | 5 => ⟨S32x2048x256, .f32⟩
  | 6 => ⟨S32x2048x256, .f32⟩
  | 7 => ⟨S32x2048x512, .f32⟩
  | 8 => ⟨S32x2048x512, .f32⟩
  | 9 => ⟨S32x2048x16, .f32⟩
  | 10 => ⟨S32x2048x256, .f32⟩
  | 11 => ⟨S1x1x256, .f32⟩
  | 12 => ⟨S32x2048x256, .f32⟩
  | 13 => ⟨S32x2048x256, .f32⟩
  | 14 => ⟨S32x2048x256, .f32⟩
  | 15 => ⟨S_, .f32⟩
  | 16 => ⟨S32x2048x256, .f32⟩
  | 17 => ⟨S32x2048x256, .f32⟩
  | 18 => ⟨S32x2048x256, .f32⟩
  | 19 => ⟨S32x2048x256, .f32⟩
  | 20 => ⟨S32x2048x256, .i1⟩
  | 21 => ⟨S32x2048x256, .f32⟩
  | 22 => ⟨S32x2048x256, .f32⟩
  | 23 => ⟨S32x2048x256, .f32⟩
  | 24 => ⟨S32x2048x256, .f32⟩
  | 25 => ⟨S32x2048x256, .f32⟩
  | 26 => ⟨S32x2048x256, .f32⟩
  | 27 => ⟨S32x2048x256, .f32⟩
  | 28 => ⟨S32x2048x256, .f32⟩
  | 29 => ⟨S32x2048x256, .f32⟩
  | 30 => ⟨S_, .f32⟩
  | 31 => ⟨S32x2048x256, .f32⟩
  | 32 => ⟨S32x2048x256, .f32⟩
  | 33 => ⟨S32x2048x4x64, .f32⟩
  | 34 => ⟨S32x2048x4x64, .f32⟩
  | 35 => ⟨S32x2048x4x128, .f32⟩
  | 36 => ⟨S32x2048x4x64, .f32⟩
  | 37 => ⟨S32x32x64x4x64, .f32⟩
  | 38 => ⟨S32x4x32x64x64, .f32⟩
  | 39 => ⟨S_, .f32⟩
  | 40 => ⟨S32x4x32x64x64, .f32⟩
  | 41 => ⟨S32x4x32x64x64, .f32⟩
  | 42 => ⟨S32x32x64x4x64, .f32⟩
  | 43 => ⟨S32x4x32x64x64, .f32⟩
  | 44 => ⟨S32x32x64x4x128, .f32⟩
  | 45 => ⟨S32x4x32x64x128, .f32⟩
  | 46 => ⟨S32x32x64x4x64, .f32⟩
  | 47 => ⟨S32x4x32x64x64, .f32⟩
  | 48 => ⟨S_, .f32⟩
  | 49 => ⟨S_, .f32⟩
  | 50 => ⟨S32x4x32x64x64, .f32⟩
  | 51 => ⟨S32x4x32x1x64, .f32⟩
  | 52 => ⟨S32x4x32x64x64, .f32⟩
  | 53 => ⟨S32x4x32x64x64, .f32⟩
  | 54 => ⟨S32x4x32x64x64, .f32⟩
  | 55 => ⟨S32x4x32x64x64, .f32⟩
  | 56 => ⟨S32x4x32x64x64, .f32⟩
  | 57 => ⟨S32x4x32x64x64, .f32⟩
  | 58 => ⟨S32x4x32x64x64, .f32⟩
  | 59 => ⟨S32x4x32x64x64, .f32⟩
  | 60 => ⟨S32x4x32x64x64, .f32⟩
  | 61 => ⟨S_, .i1⟩
  | 62 => ⟨S64x64, .i1⟩
  | 63 => ⟨S64x64, .i32⟩
  | 64 => ⟨S_, .i32⟩
  | 65 => ⟨S64x64, .i32⟩
  | 66 => ⟨S64x64, .i32⟩
  | 67 => ⟨S64x64, .i32⟩
  | 68 => ⟨S64x64, .i1⟩
  | 69 => ⟨S_, .i1⟩
  | 70 => ⟨S64x64, .i1⟩
  | 71 => ⟨S64x64, .i1⟩
  | 72 => ⟨S32x4x32x64x64, .f32⟩
  | 73 => ⟨S_, .f32⟩
  | 74 => ⟨S_, .f32⟩
  | 75 => ⟨S32x4x32x64x64, .i1⟩
  | 76 => ⟨S32x4x32x64x64, .f32⟩
  | 77 => ⟨S32x4x32x64x64, .f32⟩
  | 78 => ⟨S32x4x32x64x128, .f32⟩
  | 79 => ⟨S32x4x32x64x128, .f32⟩
  | 80 => ⟨S32x4x32x64, .f32⟩
  | 81 => ⟨S32x4x32x64, .f32⟩
  | 82 => ⟨S_, .f32⟩
  | 83 => ⟨S32x4x64x128, .f32⟩
  | 84 => ⟨S32x32x4x64, .f32⟩
  | 85 => ⟨S32x32x4x64x128, .f32⟩
  | 86 => ⟨S_, .f32⟩
  | 87 => ⟨S32x32x4x64x128, .f32⟩
  | 88 => ⟨S_, .i32⟩
  | 89 => ⟨S32x32x4x64, .f32⟩
  | 90 => ⟨S32x32x4x64x128, .f32⟩
  | 91 => ⟨S_, .i32⟩
  | 92 => ⟨S32x4x64x128, .f32⟩
  | 93 => ⟨S32x32x4x64x128, .f32⟩
  | 94 => ⟨S_, .i32⟩
  | 95 => ⟨S_, .i1⟩
  | 96 => ⟨S_, .i32⟩
  | 97 => ⟨S_, .i32⟩
  | 98 => ⟨S_, .i32⟩
  | 99 => ⟨S1x32x4x64, .f32⟩
  | 100 => ⟨S32x4x64, .f32⟩
  | 101 => ⟨S_, .i32⟩
  | 102 => ⟨S_, .i32⟩
  | 103 => ⟨S_, .i32⟩
  | 104 => ⟨S_, .i32⟩
  | 105 => ⟨S1x32x4x64x128, .f32⟩
  | 106 => ⟨S32x4x64x128, .f32⟩
  | 107 => ⟨S32x4x64x1, .f32⟩
  | 108 => ⟨S32x4x64x128, .f32⟩
  | 109 => ⟨S32x4x64x128, .f32⟩
  | 110 => ⟨S32x4x64x128, .f32⟩
  | 111 => ⟨S1x32x4x64x128, .f32⟩
  | 112 => ⟨S_, .i32⟩
  | 113 => ⟨S_, .i32⟩
  | 114 => ⟨S_, .i32⟩
  | 115 => ⟨S_, .i32⟩
  | 116 => ⟨S32x32x4x64x128, .f32⟩
  | 117 => ⟨S_, .i32⟩
  | 118 => ⟨S_, .i32⟩
  | 119 => ⟨S32x4x32x64x128, .f32⟩
  | 120 => ⟨S32x4x32x64x128, .f32⟩
  | 121 => ⟨S32x4x32x64x128, .f32⟩
  | 122 => ⟨S32x32x64x4x128, .f32⟩
  | 123 => ⟨S32x2048x4x128, .f32⟩
  | 124 => ⟨S32x2048x4x128, .f32⟩
  | 125 => ⟨S_, .f32⟩
  | 126 => ⟨S32x2048x4, .f32⟩
  | 127 => ⟨S32x2048x4x1, .f32⟩
  | _ => ⟨S32x2048x3248, .f32⟩

abbrev hbmTy0_1 (i : Nat) : BufTy := match i % 128 with
  | 0 => ⟨S_, .f32⟩
  | 1 => ⟨S32x2048x4x1, .f32⟩
  | 2 => ⟨S32x2048x4x1, .f32⟩
  | 3 => ⟨S_, .f32⟩
  | 4 => ⟨S32x2048x4x1, .f32⟩
  | 5 => ⟨S32x2048x4x1, .f32⟩
  | 6 => ⟨S32x2048x4x1, .f32⟩
  | 7 => ⟨S32x2048x4x128, .f32⟩
  | 8 => ⟨S32x2048x4x128, .f32⟩
  | 9 => ⟨S1x1x1x128, .f32⟩
  | 10 => ⟨S32x2048x4x128, .f32⟩
  | 11 => ⟨S32x2048x4x128, .f32⟩
  | 12 => ⟨S32x2048x512, .f32⟩
  | 13 => ⟨S32x2048x512, .f32⟩
  | 14 => ⟨S32x2048x512, .f32⟩
  | 15 => ⟨S_, .f32⟩
  | 16 => ⟨S32x2048x512, .f32⟩
  | 17 => ⟨S32x2048x512, .f32⟩
  | 18 => ⟨S_, .f32⟩
  | 19 => ⟨S32x2048x512, .f32⟩
  | 20 => ⟨S32x2048x512, .f32⟩
  | 21 => ⟨S32x2048x512, .f32⟩
  | 22 => ⟨S32x2048x512, .f32⟩
  | 23 => ⟨S65536x512, .f32⟩
  | _ => ⟨S32x2048x3248, .f32⟩

abbrev hbmTy (i : Nat) : BufTy := match i / 128 with
  | 0 => hbmTy0_0 i
  | 1 => hbmTy0_1 i
  | _ => ⟨S32x2048x3248, .f32⟩

abbrev bufTy : (tb : Table) → Fin (tcTables nBuf tb) → BufTy
  | .hbm, ⟨i, _⟩ => hbmTy i
  | _, _ => ⟨S32x2048x3248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_call0_cst : Ref sig .tc := ⟨.hbm, 48, rfl⟩
abbrev main_call1_call0_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c : Ref sig .tc := ⟨.hbm, 61, rfl⟩
abbrev main_v38 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_0 : Ref sig .tc := ⟨.hbm, 69, rfl⟩
abbrev main_call2_v5 : Ref sig .tc := ⟨.hbm, 70, rfl⟩
abbrev main_v39 : Ref sig .tc := ⟨.hbm, 71, rfl⟩
abbrev main_v40 : Ref sig .tc := ⟨.hbm, 72, rfl⟩
abbrev main_cst_1 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_2 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_3 : Ref sig .tc := ⟨.hbm, 86, rfl⟩
abbrev main_v49 : Ref sig .tc := ⟨.hbm, 87, rfl⟩
abbrev main_c_4 : Ref sig .tc := ⟨.hbm, 88, rfl⟩
abbrev main_v50_0 : Ref sig .tc := ⟨.hbm, 89, rfl⟩
abbrev main_v50_1 : Ref sig .tc := ⟨.hbm, 90, rfl⟩
abbrev main_v50_2 : Ref sig .tc := ⟨.hbm, 91, rfl⟩
abbrev main_v50_3 : Ref sig .tc := ⟨.hbm, 92, rfl⟩
abbrev main_v50_4 : Ref sig .tc := ⟨.hbm, 93, rfl⟩
abbrev main_while0c_c_12 : Ref sig .tc := ⟨.hbm, 94, rfl⟩
abbrev main_while0c_v73 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_v0 : Ref sig .tc := ⟨.hbm, 99, rfl⟩
abbrev main_while0b_v73 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_call6_v0 : Ref sig .tc := ⟨.hbm, 111, rfl⟩
abbrev main_while0b_call6_c : Ref sig .tc := ⟨.hbm, 112, rfl⟩
abbrev main_while0b_call6_c_0 : Ref sig .tc := ⟨.hbm, 113, rfl⟩
abbrev main_while0b_call6_c_1 : Ref sig .tc := ⟨.hbm, 114, rfl⟩
abbrev main_while0b_call6_c_2 : Ref sig .tc := ⟨.hbm, 115, rfl⟩
abbrev main_while0b_v79 : Ref sig .tc := ⟨.hbm, 116, rfl⟩
abbrev main_while0b_c_12 : Ref sig .tc := ⟨.hbm, 117, rfl⟩
abbrev main_while0b_v80 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_5 : Ref sig .tc := ⟨.hbm, 125, rfl⟩
abbrev main_v57 : Ref sig .tc := ⟨.hbm, 126, rfl⟩
abbrev main_v58 : Ref sig .tc := ⟨.hbm, 127, rfl⟩
abbrev main_cst_6 : Ref sig .tc := ⟨.hbm, 128, rfl⟩
abbrev main_v59 : Ref sig .tc := ⟨.hbm, 129, rfl⟩
abbrev main_v60 : Ref sig .tc := ⟨.hbm, 130, rfl⟩
abbrev main_cst_7 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_call7_v0 : Ref sig .tc := ⟨.hbm, 141, rfl⟩
abbrev main_call7_v1 : Ref sig .tc := ⟨.hbm, 142, rfl⟩
abbrev main_call7_cst : Ref sig .tc := ⟨.hbm, 143, rfl⟩
abbrev main_call7_v2 : Ref sig .tc := ⟨.hbm, 144, rfl⟩
abbrev main_call7_v3 : Ref sig .tc := ⟨.hbm, 145, rfl⟩
abbrev main_call7_cst_0 : Ref sig .tc := ⟨.hbm, 146, rfl⟩
abbrev main_call7_v4 : Ref sig .tc := ⟨.hbm, 147, rfl⟩
abbrev main_call7_v5 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩

abbrev nD : Nat := 1
abbrev τ : Topo := Topo.v7x

variable {F : FTy → Type} [FloatOps F]

abbrev main_while0_count : Scf.Loop 32 := ⟨0#32, 32#32, 1#32⟩
-- ==== Kernel6.lean ====
abbrev S32x2048x1024 : Shape := ⟨3, ![32, 2048, 1024]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S1024, .f32⟩
  | .hbm, ⟨3, _⟩ => ⟨S1024, .f32⟩
  | .hbm, ⟨4, _⟩ => ⟨S65536x1024, .f32⟩
  | .hbm, ⟨5, _⟩ => ⟨S65536x1024, .f32⟩
  | .hbm, ⟨6, _⟩ => ⟨S1x1024, .f32⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S32x2048x1024, .f32⟩
  | .hbm, ⟨6, _⟩ => ⟨S32x2048x1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S_, .f32⟩
  | .hbm, ⟨18, _⟩ => ⟨S32x2048, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S32x2048x1, .f32⟩
  | .hbm, ⟨29, _⟩ => ⟨S32x2048x1024, .f32⟩
  | .hbm, ⟨30, _⟩ => ⟨S32x2048x1024, .f32⟩
  | .hbm, ⟨31, _⟩ => ⟨S1x1x1024, .f32⟩
  | .hbm, ⟨32, _⟩ => ⟨S32x2048x1024, .f32⟩
  | .hbm, ⟨33, _⟩ => ⟨S32x2048x1024, .f32⟩
  | .hbm, ⟨34, _⟩ => ⟨S1x1x1024, .f32⟩
  | .hbm, ⟨35, _⟩ => ⟨S32x2048x1024, .f32⟩
  | .hbm, ⟨36, _⟩ => ⟨S32x2048x1024, .f32⟩
  | .hbm, ⟨37, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel7.lean ====
abbrev S32x2048x3248 : Shape := ⟨3, ![32, 2048, 3248]⟩
abbrev S2048x64x256 : Shape := ⟨3, ![2048, 64, 256]⟩
abbrev S32x2048x512 : Shape := ⟨3, ![32, 2048, 512]⟩
abbrev S1696 : Shape := ⟨1, ![1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S1024x1024 : Shape := ⟨2, ![1024, 1024]⟩
abbrev S32x2048x1696 : Shape := ⟨3, ![32, 2048, 1696]⟩
abbrev S_ : Shape := ⟨0, ![]⟩
abbrev S32x2049x1696 : Shape := ⟨3, ![32, 2049, 1696]⟩
abbrev S1x1x1696 : Shape := ⟨3, ![1, 1, 1696]⟩
abbrev S32x2048x32 : Shape := ⟨3, ![32, 2048, 32]⟩
abbrev S32x2048x96 : Shape := ⟨3, ![32, 2048, 96]⟩
abbrev S1x1x512 : Shape := ⟨3, ![1, 1, 512]⟩
abbrev S32x2048x8x64 : Shape := ⟨4, ![32, 2048, 8, 64]⟩
abbrev S2048x64x32x8 : Shape := ⟨4, ![2048, 64, 32, 8]⟩
abbrev S32x2048x8 : Shape := ⟨3, ![32, 2048, 8]⟩
abbrev S32x2048x8x1 : Shape := ⟨4, ![32, 2048, 8, 1]⟩
abbrev S1x1x8x64 : Shape := ⟨4, ![1, 1, 8, 64]⟩
abbrev S32x2048x1024 : Shape := ⟨3, ![32, 2048, 1024]⟩
abbrev S65536x1024 : Shape := ⟨2, ![65536, 1024]⟩
abbrev S512x1024 : Shape := ⟨2, ![512, 1024]⟩

abbrev nBuf : Space → Nat
  | .hbm => 111
  | .vmem => 5
  | .smem => 0
  | _ => 0

abbrev bufTy : (tb : Table) → Fin (tcTables nBuf tb) → BufTy
  | .hbm, ⟨0, _⟩ => ⟨S32x2048x3248, .f32⟩
  | .hbm, ⟨1, _⟩ => ⟨S2048x64x256, .f32⟩
  | .hbm, ⟨2, _⟩ => ⟨S32x2048x512, .f32⟩
  | .hbm, ⟨3, _⟩ => ⟨S1696, .f32⟩
  | .hbm, ⟨4, _⟩ => ⟨S512, .f32⟩
  | .hbm, ⟨5, _⟩ => ⟨S32x512, .f32⟩
  | .hbm, ⟨6, _⟩ => ⟨S96x512, .f32⟩
  | .hbm, ⟨7, _⟩ => ⟨S512, .f32⟩
  | .hbm, ⟨8, _⟩ => ⟨S8x64, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S32x2048x1696, .f32⟩
  | .hbm, ⟨13, _⟩ => ⟨S_, .i32⟩
  | .hbm, ⟨14, _⟩ => ⟨S_, .f32⟩
  | .hbm, ⟨15, _⟩ => ⟨S32x2049x1696, .f32⟩
  | .hbm, ⟨16, _⟩ => ⟨S32x2048x1696, .f32⟩
  | .hbm, ⟨17, _⟩ => ⟨S32x2048x1696, .f32⟩
  | .hbm, ⟨18, _⟩ => ⟨S1x1x1696, .f32⟩
  | .hbm, ⟨19, _⟩ => ⟨S32x2048x1696, .f32⟩
  | .hbm, ⟨20, _⟩ => ⟨S32x2048x1696, .f32⟩
  | .hbm, ⟨21, _⟩ => ⟨S32x2048x1696, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S32x2048x32, .f32⟩
  | .hbm, ⟨26, _⟩ => ⟨S32x2048x32, .f32⟩
  | .hbm, ⟨27, _⟩ => ⟨S32x2048x96, .f32⟩
  | .hbm, ⟨28, _⟩ => ⟨S32x2048x512, .f32⟩
  | .hbm, ⟨29, _⟩ => ⟨S1x1x512, .f32⟩
  | .hbm, ⟨30, _⟩ => ⟨S32x2048x512, .f32⟩
  | .hbm, ⟨31, _⟩ => ⟨S32x2048x512, .f32⟩
  | .hbm, ⟨32, _⟩ => ⟨S32x2048x512, .f32⟩
  | .hbm, ⟨33, _⟩ => ⟨S32x2048x512, .f32⟩
  | .hbm, ⟨34, _⟩ => ⟨S_, .f32⟩
  | .hbm, ⟨35, _⟩ => ⟨S32x2048x512, .f32⟩
  | .hbm, ⟨36, _⟩ => ⟨S32x2048x512, .f32⟩
  | .hbm, ⟨37, _⟩ => ⟨S_, .f32⟩
  | .hbm, ⟨38, _⟩ => ⟨S32x2048x512, .f32⟩
  | .hbm, ⟨39, _⟩ => ⟨S32x2048x512, .f32⟩
  | .hbm, ⟨40, _⟩ => ⟨S32x2048x96, .f32⟩
  | .hbm, ⟨41, _⟩ => ⟨S32x2048x96, .f32⟩
  | .hbm, ⟨42, _⟩ => ⟨S_, .f32⟩
  | .hbm, ⟨43, _⟩ => ⟨S32x2048x96, .f32⟩
  | .hbm, ⟨44, _⟩ => ⟨S32x2048x96, .f32⟩
  | .hbm, ⟨45, _⟩ => ⟨S_, .f32⟩
  | .hbm, ⟨46, _⟩ => ⟨S32x2048x96, .f32⟩
  | .hbm, ⟨47, _⟩ => ⟨S32x2048x96, .f32⟩
  | .hbm, ⟨48, _⟩ => ⟨S32x2048x512, .f32⟩
  | .hbm, ⟨49, _⟩ => ⟨S_, .f32⟩
  | .hbm, ⟨50, _⟩ => ⟨S32x2048x512, .f32⟩
  | .hbm, ⟨51, _⟩ => ⟨S32x2048x512, .f32⟩
  | .hbm, ⟨52, _⟩ => ⟨S1x1x512, .f32⟩
  | .hbm, ⟨53, _⟩ => ⟨S32x2048x512, .f32⟩
  | .hbm, ⟨54, _⟩ => ⟨S32x2048x512, .f32⟩
  | .hbm, ⟨55, _⟩ => ⟨S_, .f32⟩
  | .hbm, ⟨56, _⟩ => ⟨S32x2048x512, .f32⟩
  | .hbm, ⟨57, _⟩ => ⟨S32x2048x512, .f32⟩
  | .hbm, ⟨58, _⟩ => ⟨S32x2048x512, .f32⟩
  | .hbm, ⟨59, _⟩ => ⟨S32x2048x8x64, .f32⟩
  | .hbm, ⟨60, _⟩ => ⟨S32x2048x8x64, .f32⟩
  | .hbm, ⟨61, _⟩ => ⟨S32x2048x8x64, .f32⟩
  | .hbm, ⟨62, _⟩ => ⟨S2048x64x32x8, .f32⟩
  | .hbm, ⟨63, _⟩ => ⟨S32x2048x8x64, .f32⟩
  | .hbm, ⟨64, _⟩ => ⟨S_, .f32⟩
  | .hbm, ⟨65, _⟩ => ⟨S32x2048x8, .f32⟩
  | .hbm, ⟨66, _⟩ => ⟨S32x2048x8x1, .f32⟩
  | .hbm, ⟨67, _⟩ => ⟨S_, .f32⟩
  | .hbm, ⟨68, _⟩ => ⟨S32x2048x8x1, .f32⟩
  | .hbm, ⟨69, _⟩ => ⟨S32x2048x8x1, .f32⟩
  | .hbm, ⟨70, _⟩ => ⟨S32x2048x8x64, .f32⟩
  | .hbm, ⟨71, _⟩ => ⟨S32x2048x8x64, .f32⟩
  | .hbm, ⟨72, _⟩ => ⟨S32x2048x8x64, .f32⟩
  | .hbm, ⟨73, _⟩ => ⟨S_, .f32⟩
  | .hbm, ⟨74, _⟩ => ⟨S32x2048x8, .f32⟩
  | .hbm, ⟨75, _⟩ => ⟨S32x2048x8x1, .f32⟩
  | .hbm, ⟨76, _⟩ => ⟨S_, .f32⟩
  | .hbm, ⟨77, _⟩ => ⟨S32x2048x8x1, .f32⟩
  | .hbm, ⟨78, _⟩ => ⟨S32x2048x8x1, .f32⟩
  | .hbm, ⟨79, _⟩ => ⟨S32x2048x8x64, .f32⟩
  | .hbm, ⟨80, _⟩ => ⟨S32x2048x8x64, .f32⟩
  | .hbm, ⟨81, _⟩ => ⟨S_, .f32⟩
  | .hbm, ⟨82, _⟩ => ⟨S32x2048x8x1, .f32⟩
  | .hbm, ⟨83, _⟩ => ⟨S32x2048x8x1, .f32⟩
  | .hbm, ⟨84, _⟩ => ⟨S32x2048x8x1, .f32⟩
  | .hbm, ⟨85, _⟩ => ⟨S32x2048x8x64, .f32⟩
  | .hbm, ⟨86, _⟩ => ⟨S32x2048x8x64, .f32⟩
  | .hbm, ⟨87, _⟩ => ⟨S8x64, .f32⟩
  | .hbm, ⟨88, _⟩ => ⟨S1x1x8x64, .f32⟩
  | .hbm, ⟨89, _⟩ => ⟨S32x2048x8x64, .f32⟩
  | .hbm, ⟨90, _⟩ => ⟨S32x2048x8x64, .f32⟩
  | .hbm, ⟨91, _⟩ => ⟨S8x64, .f32⟩
  | .hbm, ⟨92, _⟩ => ⟨S1x1x8x64, .f32⟩
  | .hbm, ⟨93, _⟩ => ⟨S32x2048x8x64, .f32⟩
  | .hbm, ⟨94, _⟩ => ⟨S32x2048x8x64, .f32⟩
  | .hbm, ⟨95, _⟩ => ⟨S32x2048x8x64, .f32⟩
  | .hbm, ⟨96, _⟩ => ⟨S1x1x8x64, .f32⟩
  | .hbm, ⟨97, _⟩ => ⟨S32x2048x8x64, .f32⟩
  | .hbm, ⟨98, _⟩ => ⟨S32x2048x8x64, .f32⟩
  | .hbm, ⟨99, _⟩ => ⟨S_, .f32⟩
  | .hbm, ⟨100, _⟩ => ⟨S32x2048x8, .f32⟩
  | .hbm, ⟨101, _⟩ => ⟨S32x2048x8x1, .f32⟩
  | .hbm, ⟨102, _⟩ => ⟨S32x2048x8x64, .f32⟩
  | .hbm, ⟨103, _⟩ => ⟨S32x2048x8x64, .f32⟩
  | .hbm, ⟨104, _⟩ => ⟨S32x2048x8x64, .f32⟩
  | .hbm, ⟨105, _⟩ => ⟨S32x2048x512, .f32⟩
  | .hbm, ⟨106, _⟩ => ⟨S32x2048x512, .f32⟩
  | .hbm, ⟨107, _⟩ => ⟨S32x2048x1024, .f32⟩
  | .hbm, ⟨108, _⟩ => ⟨S65536x1024, .f32⟩
  | .hbm, ⟨109, _⟩ => ⟨S1024x1024, .bf16⟩
  | .hbm, ⟨110, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S32x2048x3248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_10 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S32x2048x3248 : Shape := ⟨3, ![32, 2048, 3248]⟩
abbrev S2048x64x256 : Shape := ⟨3, ![2048, 64, 256]⟩
abbrev S32x2048x512 : Shape := ⟨3, ![32, 2048, 512]⟩
abbrev S1696 : Shape := ⟨1, ![1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S1024x1024 : Shape := ⟨2, ![1024, 1024]⟩
abbrev S32x2048x1696 : Shape := ⟨3, ![32, 2048, 1696]⟩
abbrev S_ : Shape := ⟨0, ![]⟩
abbrev S32x2049x1696 : Shape := ⟨3, ![32, 2049, 1696]⟩
abbrev S1x1x1696 : Shape := ⟨3, ![1, 1, 1696]⟩
abbrev S32x2048x32 : Shape := ⟨3, ![32, 2048, 32]⟩
abbrev S32x2048x96 : Shape := ⟨3, ![32, 2048, 96]⟩
abbrev S1x1x512 : Shape := ⟨3, ![1, 1, 512]⟩
abbrev S2048x64x32x8 : Shape := ⟨4, ![2048, 64, 32, 8]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S1x1x8x64 : Shape := ⟨4, ![1, 1, 8, 64]⟩
abbrev S32x2048x1024 : Shape := ⟨3, ![32, 2048, 1024]⟩
abbrev S65536x1024 : Shape := ⟨2, ![65536, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32x2048x3248, .f32⟩
  | .hbm, ⟨1, _⟩ => ⟨S2048x64x256, .f32⟩
  | .hbm, ⟨2, _⟩ => ⟨S32x2048x512, .f32⟩
  | .hbm, ⟨3, _⟩ => ⟨S1696, .f32⟩
  | .hbm, ⟨4, _⟩ => ⟨S512, .f32⟩
  | .hbm, ⟨5, _⟩ => ⟨S32x512, .f32⟩
  | .hbm, ⟨6, _⟩ => ⟨S96x512, .f32⟩
  | .hbm, ⟨7, _⟩ => ⟨S512, .f32⟩
  | .hbm, ⟨8, _⟩ => ⟨S8x64, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S32x2048x1696, .f32⟩
  | .hbm, ⟨13, _⟩ => ⟨S_, .i32⟩
  | .hbm, ⟨14, _⟩ => ⟨S_, .f32⟩
  | .hbm, ⟨15, _⟩ => ⟨S32x2049x1696, .f32⟩
  | .hbm, ⟨16, _⟩ => ⟨S32x2048x1696, .f32⟩
  | .hbm, ⟨17, _⟩ => ⟨S32x2048x1696, .f32⟩
  | .hbm, ⟨18, _⟩ => ⟨S1x1x1696, .f32⟩
  | .hbm, ⟨19, _⟩ => ⟨S32x2048x1696, .f32⟩
  | .hbm, ⟨20, _⟩ => ⟨S32x2048x1696, .f32⟩
  | .hbm, ⟨21, _⟩ => ⟨S32x2048x1696, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S32x2048x32, .f32⟩
  | .hbm, ⟨26, _⟩ => ⟨S32x2048x96, .f32⟩
  | .hbm, ⟨27, _⟩ => ⟨S32x2048x512, .f32⟩
  | .hbm, ⟨28, _⟩ => ⟨S1x1x512, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S32x2048x512, .f32⟩
  | .hbm, ⟨33, _⟩ => ⟨S_, .f32⟩
  | .hbm, ⟨34, _⟩ => ⟨S32x2048x512, .f32⟩
  | .hbm, ⟨35, _⟩ => ⟨S32x2048x512, .f32⟩
  | .hbm, ⟨36, _⟩ => ⟨S_, .f32⟩
  | .hbm, ⟨37, _⟩ => ⟨S32x2048x512, .f32⟩
  | .hbm, ⟨38, _⟩ => ⟨S32x2048x512, .f32⟩
  | .hbm, ⟨39, _⟩ => ⟨S32x2048x96, .f32⟩
  | .hbm, ⟨40, _⟩ => ⟨S32x2048x96, .f32⟩
  | .hbm, ⟨41, _⟩ => ⟨S_, .f32⟩
  | .hbm, ⟨42, _⟩ => ⟨S32x2048x96, .f32⟩
  | .hbm, ⟨43, _⟩ => ⟨S32x2048x96, .f32⟩
  | .hbm, ⟨44, _⟩ => ⟨S_, .f32⟩
  | .hbm, ⟨45, _⟩ => ⟨S32x2048x96, .f32⟩
  | .hbm, ⟨46, _⟩ => ⟨S32x2048x96, .f32⟩
  | .hbm, ⟨47, _⟩ => ⟨S32x2048x512, .f32⟩
  | .hbm, ⟨48, _⟩ => ⟨S_, .f32⟩
  | .hbm, ⟨49, _⟩ => ⟨S32x2048x512, .f32⟩
  | .hbm, ⟨50, _⟩ => ⟨S32x2048x512, .f32⟩
  | .hbm, ⟨51, _⟩ => ⟨S1x1x512, .f32⟩
  | .hbm, ⟨52, _⟩ => ⟨S32x2048x512, .f32⟩
  | .hbm, ⟨53, _⟩ => ⟨S32x2048x512, .f32⟩
  | .hbm, ⟨54, _⟩ => ⟨S_, .f32⟩
  | .hbm, ⟨55, _⟩ => ⟨S32x2048x512, .f32⟩
  | .hbm, ⟨56, _⟩ => ⟨S32x2048x512, .f32⟩
  | .hbm, ⟨57, _⟩ => ⟨S32x2048x512, .f32⟩
  | .hbm, ⟨58, _⟩ => ⟨S2048x64x32x8, .f32⟩
  | .hbm, ⟨59, _⟩ => ⟨S32x2048x8x64, .f32⟩
  | .hbm, ⟨60, _⟩ => ⟨S_, .f32⟩
  | .hbm, ⟨61, _⟩ => ⟨S32x2048x8, .f32⟩
  | .hbm, ⟨62, _⟩ => ⟨S32x2048x8x1, .f32⟩
  | .hbm, ⟨63, _⟩ => ⟨S_, .f32⟩
  | .hbm, ⟨64, _⟩ => ⟨S32x2048x8x1, .f32⟩
  | .hbm, ⟨65, _⟩ => ⟨S32x2048x8x1, .f32⟩
  | .hbm, ⟨66, _⟩ => ⟨S32x2048x8x64, .f32⟩
  | .hbm, ⟨67, _⟩ => ⟨S32x2048x8x64, .f32⟩
  | .hbm, ⟨68, _⟩ => ⟨S32x2048x8x64, .f32⟩
  | .hbm, ⟨69, _⟩ => ⟨S_, .f32⟩
  | .hbm, ⟨70, _⟩ => ⟨S32x2048x8, .f32⟩
  | .hbm, ⟨71, _⟩ => ⟨S32x2048x8x1, .f32⟩
  | .hbm, ⟨72, _⟩ => ⟨S_, .f32⟩
  | .hbm, ⟨73, _⟩ => ⟨S32x2048x8x1, .f32⟩
  | .hbm, ⟨74, _⟩ => ⟨S32x2048x8x1, .f32⟩
  | .hbm, ⟨75, _⟩ => ⟨S32x2048x8x64, .f32⟩
  | .hbm, ⟨76, _⟩ => ⟨S32x2048x8x64, .f32⟩
  | .hbm, ⟨77, _⟩ => ⟨S_, .f32⟩
  | .hbm, ⟨78, _⟩ => ⟨S32x2048x8x1, .f32⟩
  | .hbm, ⟨79, _⟩ => ⟨S32x2048x8x1, .f32⟩
  | .hbm, ⟨80, _⟩ => ⟨S32x2048x8x1, .f32⟩
  | .hbm, ⟨81, _⟩ => ⟨S32x2048x8x64, .f32⟩
  | .hbm, ⟨82, _⟩ => ⟨S32x2048x8x64, .f32⟩
  | .hbm, ⟨83, _⟩ => ⟨S8x64, .f32⟩
  | .hbm, ⟨84, _⟩ => ⟨S1x1x8x64, .f32⟩
  | .hbm, ⟨85, _⟩ => ⟨S32x2048x8x64, .f32⟩
  | .hbm, ⟨86, _⟩ => ⟨S32x2048x8x64, .f32⟩
  | .hbm, ⟨87, _⟩ => ⟨S8x64, .f32⟩
  | .hbm, ⟨88, _⟩ => ⟨S1x1x8x64, .f32⟩
  | .hbm, ⟨89, _⟩ => ⟨S32x2048x8x64, .f32⟩
  | .hbm, ⟨90, _⟩ => ⟨S32x2048x8x64, .f32⟩
  | .hbm, ⟨91, _⟩ => ⟨S32x2048x8x64, .f32⟩
  | .hbm, ⟨92, _⟩ => ⟨S32x2048x8x64, .f32⟩
  | .hbm, ⟨93, _⟩ => ⟨S32x2048x8x64, .f32⟩
  | .hbm, ⟨94, _⟩ => ⟨S1x1x8x64, .f32⟩
  | .hbm, ⟨95, _⟩ => ⟨S32x2048x8x64, .f32⟩
  | .hbm, ⟨96, _⟩ => ⟨S32x2048x8x64, .f32⟩
  | .hbm, ⟨97, _⟩ => ⟨S_, .f32⟩
  | .hbm, ⟨98, _⟩ => ⟨S32x2048x8, .f32⟩
  | .hbm, ⟨99, _⟩ => ⟨S32x2048x8x1, .f32⟩
  | .hbm, ⟨100, _⟩ => ⟨S32x2048x8x64, .f32⟩
  | .hbm, ⟨101, _⟩ => ⟨S32x2048x8x64, .f32⟩
  | .hbm, ⟨102, _⟩ => ⟨S32x2048x8x64, .f32⟩
  | .hbm, ⟨103, _⟩ => ⟨S32x2048x8x64, .f32⟩
  | .hbm, ⟨104, _⟩ => ⟨S32x2048x512, .f32⟩
  | .hbm, ⟨105, _⟩ => ⟨S32x2048x512, .f32⟩
  | .hbm, ⟨106, _⟩ => ⟨S32x2048x1024, .f32⟩
  | .hbm, ⟨107, _⟩ => ⟨S32x2048x1024, .f32⟩
  | .hbm, ⟨108, _⟩ => ⟨S65536x1024, .f32⟩
  | _, _ => ⟨S32x2048x3248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Proof.Trip.lean ====
/- One time step of the scan body, read as arithmetic: the pieces its stores leave, in closed form. -/
module

public import proofs.«01_k».proof.Proof.Gen.KernelIdeal.Loops
public import Idealize.ShloMosaic.Lib.Pipeline.Value
public import Idealize.ShloMosaic.Lib.Pipeline.FrameBody
public import Idealize.ShloMosaic.Lib.Ring
public import Idealize.ShloMosaic.Lib.ValueLayout
public import Idealize.ShloMosaic.Lib.ValueIdxCore
public import Idealize.ShloMosaic.Lib.Pointwise.ElementwiseCore
public import Idealize.ShloMosaic.Lib.WordArith.Masks

@[expose] public section

set_option maxRecDepth 16384
set_option maxHeartbeats 4000000

noncomputable section

namespace Cert.Scan

open Cert.KernelIdeal Cert.KernelIdeal.Gen
open Idealize.ShloMosaic Idealize.ShloMosaic.TcCoe Idealize.SL.Sem
open Idealize.ShloMosaic.ValueIdx (ix2 ix3 eq_ix3 broadcast_apply shapeCast_1ab_ab_apply shapeCast_ab_1ab_apply broadcastTo_1b_ab_apply)

variable {F : FTy → Type} [FloatOps F]

/-- The index `n` of a table of 64 rows. -/
def fi (n : ℕ) : Fin 64 := ⟨n % 64, Nat.mod_lt _ (by decide)⟩

/-- The first `n` terms of `g` added up in order, starting from zero. -/
def addUpTo (g : ℕ → F .f32) : ℕ → F .f32
  | 0 => Scalar.ofBits .f32 0x00000000#32
  | n + 1 => FloatOps.addf (addUpTo g n) (g n)

/-- The state times the vector `a` of step `k`: the sum over the columns. -/
def saAt (A : Vec F S16x64x128 .f32) (S : Vec F S64x64x128 .f32) (k : Fin 16) (i : Fin 64) (l : Fin 128) : F .f32 :=
  addUpTo (fun n => FloatOps.mulf (S (ix3 (fi n) i l)) (A (ix3 k (fi n) l))) 64

/-- The state after step `k`: column `j` decayed by `w`, plus the two rank-one updates. -/
def stepAt (W K V A B : Vec F S16x64x128 .f32) (S : Vec F S64x64x128 .f32) (k : Fin 16) (j i : Fin 64) (l : Fin 128) : F .f32 :=
  FloatOps.addf (FloatOps.addf (FloatOps.mulf (S (ix3 j i l)) (W (ix3 k j l)))
    (FloatOps.mulf (saAt A S k i l) (B (ix3 k j l)))) (FloatOps.mulf (V (ix3 k i l)) (K (ix3 k j l)))

/-- What step `k` puts out: the new state times `r`. -/
def yAt (R W K V A B : Vec F S16x64x128 .f32) (S : Vec F S64x64x128 .f32) (k : Fin 16) (i : Fin 64) (l : Fin 128) : F .f32 :=
  addUpTo (fun n => FloatOps.mulf (stepAt W K V A B S k (fi n) i l) (R (ix3 k (fi n) l))) 64

/-- The state after step `k` as an array. -/
def stepS (W K V A B : Vec F S16x64x128 .f32) (k : Fin 16) (S : Vec F S64x64x128 .f32) : Vec F S64x64x128 .f32 :=
  fun y => stepAt W K V A B S k (y 0) (y 1) (y 2)

/-- The index `n` of a block of sixteen steps. -/
def ri (n : ℕ) : Fin 16 := ⟨n % 16, Nat.mod_lt _ (by decide)⟩

/-- The loop's trip as a step of the block of sixteen: the word the loop carries, read as a number. -/
def tripIx (k : Fin k0_t1_loop.trips) : Fin 16 := ri (BitVec.toNat (Scalar.indexCast (Scf.iv 0#32 1#32 k.val)))

/-- The word the loop carries at trip `k` is `k`. -/
theorem iv_toNat (k : Fin k0_t1_loop.trips) : BitVec.toNat (Scalar.indexCast (Scf.iv 0#32 1#32 k.val)) = k.val :=
  WordArith.toNat_iv_zero_one k.val (by have : k.val < 16 := Nat.lt_of_lt_of_le k.isLt k0_t1_abs.2.1; omega)

/-- Trip `k` is step `k`. -/
theorem tripIx_val (k : Fin k0_t1_loop.trips) : (tripIx k).val = k.val := by
  have : k.val < 16 := Nat.lt_of_lt_of_le k.isLt k0_t1_abs.2.1
  show BitVec.toNat (Scalar.indexCast (Scf.iv 0#32 1#32 k.val)) % 16 = k.val
  rw [iv_toNat]; omega

section reads

variable {κ : Kind} {sp : Space}

/-- A load of plane `j` of the state. -/
theorem readRow (v : View sig κ sp S64x64x128 .f32) (f : v.ty.Contents (Elt F)) (j : ℕ) (inb) (i : Fin 64) (l : Fin 128) :
    v.readAt (Elt F) (Rect.unit (s := S64x64x128) ![j, 0, 0] ![1, 64, 128] inb).toLoadRect f (ix3 (0 : Fin 1) i l)
      = v.read (Elt F) f (ix3 (fi j) i l) := by
  have hj : j + 1 ≤ 64 := inb 0
  show v.read (Elt F) f _ = _
  congr 1
  funext a
  apply Fin.ext
  match a with
  | ⟨0, _⟩ => show j + 1 * 0 = j % 64; omega
  | ⟨1, _⟩ => show 0 + 1 * i.val = i.val; omega
  | ⟨2, _⟩ => show 0 + 1 * l.val = l.val; omega

/-- A load of one row of one step of an input block. -/
theorem readLane (v : View sig κ sp S16x64x128 .f32) (f : v.ty.Contents (Elt F)) (off : Fin 3 → ℕ) (inb) (l : Fin 128) :
    v.readAt (Elt F) (Rect.unit (s := S16x64x128) off ![1, 1, 128] inb).toLoadRect f (ix3 (0 : Fin 1) (0 : Fin 1) l)
      = v.read (Elt F) f (ix3 (ri (off 0)) (fi (off 1)) l) := by
  have h0 : off 0 + 1 ≤ 16 := inb 0
  have h1 : off 1 + 1 ≤ 64 := inb 1
  have h2 : off 2 + 128 ≤ 128 := inb 2
  show v.read (Elt F) f _ = _
  congr 1
  funext a
  apply Fin.ext
  match a with
  | ⟨0, _⟩ => show off 0 + 1 * 0 = off 0 % 16; omega
  | ⟨1, _⟩ => show off 1 + 1 * 0 = off 1 % 64; omega
  | ⟨2, _⟩ => show off 2 + 1 * l.val = l.val; omega

/-- A load of all rows of one step of an input block. -/
theorem readPlane (v : View sig κ sp S16x64x128 .f32) (f : v.ty.Contents (Elt F)) (off : Fin 3 → ℕ) (inb) (i : Fin 64) (l : Fin 128) :
    v.readAt (Elt F) (Rect.unit (s := S16x64x128) off ![1, 64, 128] inb).toLoadRect f (ix3 (0 : Fin 1) i l)
      = v.read (Elt F) f (ix3 (ri (off 0)) i l) := by
  have h0 : off 0 + 1 ≤ 16 := inb 0
  have h1 : off 1 + 64 ≤ 64 := inb 1
  have h2 : off 2 + 128 ≤ 128 := inb 2
  show v.read (Elt F) f _ = _
  congr 1
  funext a
  apply Fin.ext
  match a with
  | ⟨0, _⟩ => show off 0 + 1 * 0 = off 0 % 16; omega
  | ⟨1, _⟩ => show off 1 + 1 * i.val = i.val; omega
  | ⟨2, _⟩ => show off 2 + 1 * l.val = l.val; omega

end reads

/-- The word holding the state times `a` is the sum in order. -/
theorem sa_word (arg6 : Memref sig .tc .vmem S16x64x128 .f32) (arg9 : Memref sig .tc .vmem S64x64x128 .f32)
    (X6 : BufTy.Contents (Elt F) arg6.view.ty) (k : Fin k0_t1_loop.trips) (f9 : BufTy.Contents (Elt F) arg9.view.ty)
    (i : Fin 64) (l : Fin 128) :
    trip_k0_t1.sl.r_25 arg6 arg9 X6 k f9 (ix2 i l)
      = saAt (arg6.view.read (Elt F) X6) (arg9.view.read (Elt F) f9) (tripIx k) i l := by
  simp only [saAt, addUpTo,
    trip_k0_t1.sl.r, trip_k0_t1.sl.r_1, trip_k0_t1.sl.r_2, trip_k0_t1.sl.r_3, trip_k0_t1.sl.r_4, trip_k0_t1.sl.r_5,
    trip_k0_t1.sl.r_6, trip_k0_t1.sl.r_7, trip_k0_t1.sl.r_8, trip_k0_t1.sl.r_9, trip_k0_t1.sl.r_10,
    trip_k0_t1.sl.r_11, trip_k0_t1.sl.r_12, trip_k0_t1.sl.r_13, trip_k0_t1.sl.r_14, trip_k0_t1.sl.r_15,
    trip_k0_t1.sl.r_16, trip_k0_t1.sl.r_17, trip_k0_t1.sl.r_18, trip_k0_t1.sl.r_19, trip_k0_t1.sl.r_20,
    trip_k0_t1.sl.r_21, trip_k0_t1.sl.r_22, trip_k0_t1.sl.r_23, trip_k0_t1.sl.r_24, trip_k0_t1.sl.r_25,
    trip_k0_t1.sl.arg10,
    k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24,
    k0_pay25,
    addf_apply, mulf_apply, broadcast_apply, shapeCast_1ab_ab_apply, shapeCast_ab_1ab_apply, broadcastTo_1b_ab_apply, readRow, readLane, readPlane]
  rfl

/-- A piece over plane `j` of the state whose values are `G`'s there. -/
theorem piece_row (G : Vec F S64x64x128 .f32) (j : ℕ) (inb) (p : Vec F S1x64x128 .f32)
    (h : ∀ i l, p (ix3 (0 : Fin 1) i l) = G (ix3 (fi j) i l))
    (x : (Rect.unit (s := S64x64x128) ![j, 0, 0] ![1, 64, 128] inb).shape.Idx) :
    p x = G ((Rect.unit (s := S64x64x128) ![j, 0, 0] ![1, 64, 128] inb).emb x) := by
  have hj : j + 1 ≤ 64 := inb 0
  have hx : (x : S1x64x128.Idx) = ix3 (0 : Fin 1) (x 1) (x 2) := by
    funext a
    match a with
    | ⟨0, _⟩ => exact Subsingleton.elim (α := Fin 1) _ _
    | ⟨1, _⟩ => rfl
    | ⟨2, _⟩ => rfl
  refine (congrArg p hx).trans ((h (x 1) (x 2)).trans (congrArg G ?_))
  have h0 : (x 0).val = 0 := Nat.lt_one_iff.1 (x 0).isLt
  funext a
  apply Fin.ext
  match a with
  | ⟨0, _⟩ => show j % 64 = j + 1 * (x 0).val; omega
  | ⟨1, _⟩ => show (x 1).val = 0 + 1 * (x 1).val; omega
  | ⟨2, _⟩ => show (x 2).val = 0 + 1 * (x 2).val; omega

/-- A list of such pieces, one more in front. -/
theorem rows_cons (G : Vec F S64x64x128 .f32) (j : ℕ) (inb) (p : Vec F S1x64x128 .f32)
    (L : List (View.Piece (Elt F) S64x64x128 .f32))
    (h : ∀ i l, p (ix3 (0 : Fin 1) i l) = G (ix3 (fi j) i l))
    (hL : ∀ q ∈ L, ∀ x : q.1.shape.Idx, q.2 x = G (q.1.emb x)) :
    ∀ q ∈ (⟨Rect.unit (s := S64x64x128) ![j, 0, 0] ![1, 64, 128] inb, p⟩ : View.Piece (Elt F) S64x64x128 .f32) :: L,
      ∀ x : q.1.shape.Idx, q.2 x = G (q.1.emb x) := by
  intro q hq
  rcases List.mem_cons.1 hq with rfl | hq
  · exact piece_row G j inb p h
  · exact hL q hq

section trip

variable (𝒱 : Variants) (c : Dev nD) (bd : Option 𝒱.V) (i : grid0.Coords)
  (arg2 : Memref sig .tc .vmem S16x64x128 .f32) (harg2 : arg2.IsWhole) (arg3 : Memref sig .tc .vmem S16x64x128 .f32) (harg3 : arg3.IsWhole)
  (arg4 : Memref sig .tc .vmem S16x64x128 .f32) (harg4 : arg4.IsWhole) (arg5 : Memref sig .tc .vmem S16x64x128 .f32) (harg5 : arg5.IsWhole)
  (arg6 : Memref sig .tc .vmem S16x64x128 .f32) (harg6 : arg6.IsWhole) (arg7 : Memref sig .tc .vmem S16x64x128 .f32) (harg7 : arg7.IsWhole)
  (arg8 : Memref sig .tc .vmem S16x64x128 .f32) (harg8 : arg8.IsWhole) (arg9 : Memref sig .tc .vmem S64x64x128 .f32) (harg9 : arg9.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (k : Fin k0_t1_loop.trips) (f8 : BufTy.Contents (Elt F) arg8.view.ty) (f9 : BufTy.Contents (Elt F) arg9.view.ty)

/-- After one trip the state is the step's. -/
theorem trip_state :
    arg9.view.read (Elt F) (arg9.view.writes (Elt F) f9 ((trip_k0_t1 𝒱 c bd i arg2 harg2 arg3 harg3 arg4 harg4 arg5 harg5 arg6 harg6
        arg7 harg7 arg8 harg8 arg9 harg9 X2 X3 X4 X5 X6 X7 k).2.1 f8 f9))
      = stepS (arg3.view.read (Elt F) X3) (arg4.view.read (Elt F) X4) (arg5.view.read (Elt F) X5) (arg6.view.read (Elt F) X6)
          (arg7.view.read (Elt F) X7) (tripIx k) (arg9.view.read (Elt F) f9) := by
  have hc : ∀ y, ∃ p ∈ (trip_k0_t1 𝒱 c bd i arg2 harg2 arg3 harg3 arg4 harg4 arg5 harg5 arg6 harg6
        arg7 harg7 arg8 harg8 arg9 harg9 X2 X3 X4 X5 X6 X7 k).2.1 f8 f9, y ∈ p.1.set := fun y =>
    View.cover_of_tiledL (s := S64x64x128) _ ![1, 64, 128] (by sl_kernel_rfl) y
  rw [View.read_writes_eq_canon _ _ _ hc]
  funext y
  refine View.canon_apply_of_pieces _ _ ?_ y (hc y)
  unfold trip_k0_t1
  dsimp only
  iterate 64
    refine rows_cons _ _ _ _ _ (fun i l => ?_) ?_
    · simp only [stepS, stepAt, sa_word,
    trip_k0_t1.sl.r, trip_k0_t1.sl.r_1, trip_k0_t1.sl.r_2, trip_k0_t1.sl.r_3, trip_k0_t1.sl.r_4, trip_k0_t1.sl.r_5,
    trip_k0_t1.sl.r_6, trip_k0_t1.sl.r_7, trip_k0_t1.sl.r_8, trip_k0_t1.sl.r_9, trip_k0_t1.sl.r_10,
    trip_k0_t1.sl.r_11, trip_k0_t1.sl.r_12, trip_k0_t1.sl.r_13, trip_k0_t1.sl.r_14, trip_k0_t1.sl.r_15,
    trip_k0_t1.sl.r_16, trip_k0_t1.sl.r_17, trip_k0_t1.sl.r_18, trip_k0_t1.sl.r_19, trip_k0_t1.sl.r_20,
    trip_k0_t1.sl.r_21, trip_k0_t1.sl.r_22, trip_k0_t1.sl.r_23, trip_k0_t1.sl.r_24, trip_k0_t1.sl.arg10,
    trip_k0_t1.sl.r_26, trip_k0_t1.sl.r_27, trip_k0_t1.sl.r_28, trip_k0_t1.sl.r_29, trip_k0_t1.sl.r_30,
    trip_k0_t1.sl.r_31, trip_k0_t1.sl.r_32, trip_k0_t1.sl.r_33, trip_k0_t1.sl.r_34, trip_k0_t1.sl.r_35,
    trip_k0_t1.sl.r_36, trip_k0_t1.sl.r_37, trip_k0_t1.sl.r_38, trip_k0_t1.sl.r_39, trip_k0_t1.sl.r_40,
    trip_k0_t1.sl.r_41, trip_k0_t1.sl.r_42, trip_k0_t1.sl.r_43, trip_k0_t1.sl.r_44, trip_k0_t1.sl.r_45,
    trip_k0_t1.sl.r_46, trip_k0_t1.sl.r_47, trip_k0_t1.sl.r_48, trip_k0_t1.sl.r_49, trip_k0_t1.sl.r_50,
    trip_k0_t1.sl.r_51, trip_k0_t1.sl.r_52, trip_k0_t1.sl.r_53, trip_k0_t1.sl.r_54, trip_k0_t1.sl.r_55,
    trip_k0_t1.sl.r_56, trip_k0_t1.sl.r_57, trip_k0_t1.sl.r_58, trip_k0_t1.sl.r_59, trip_k0_t1.sl.r_60,
    trip_k0_t1.sl.r_61, trip_k0_t1.sl.r_62, trip_k0_t1.sl.r_63, trip_k0_t1.sl.r_64, trip_k0_t1.sl.r_65,
    trip_k0_t1.sl.r_66, trip_k0_t1.sl.r_67, trip_k0_t1.sl.r_68, trip_k0_t1.sl.r_69, trip_k0_t1.sl.r_70,
    trip_k0_t1.sl.r_71, trip_k0_t1.sl.r_72, trip_k0_t1.sl.r_73, trip_k0_t1.sl.r_74, trip_k0_t1.sl.r_75,
    trip_k0_t1.sl.r_76, trip_k0_t1.sl.r_77, trip_k0_t1.sl.r_78, trip_k0_t1.sl.r_79, trip_k0_t1.sl.r_80,
    trip_k0_t1.sl.r_81, trip_k0_t1.sl.r_82, trip_k0_t1.sl.r_83, trip_k0_t1.sl.r_84, trip_k0_t1.sl.r_85,
    trip_k0_t1.sl.r_86, trip_k0_t1.sl.r_87, trip_k0_t1.sl.r_88, trip_k0_t1.sl.r_89, trip_k0_t1.sl.r_90,
    trip_k0_t1.sl.r_91, trip_k0_t1.sl.r_92, trip_k0_t1.sl.r_93, trip_k0_t1.sl.r_94, trip_k0_t1.sl.r_95,
    trip_k0_t1.sl.r_96, trip_k0_t1.sl.r_97, trip_k0_t1.sl.r_98, trip_k0_t1.sl.r_99, trip_k0_t1.sl.r_100,
    trip_k0_t1.sl.r_101, trip_k0_t1.sl.r_102, trip_k0_t1.sl.r_103, trip_k0_t1.sl.r_104, trip_k0_t1.sl.r_105,
    trip_k0_t1.sl.r_106, trip_k0_t1.sl.r_107, trip_k0_t1.sl.r_108, trip_k0_t1.sl.r_109, trip_k0_t1.sl.r_110,
    trip_k0_t1.sl.r_111, trip_k0_t1.sl.r_112, trip_k0_t1.sl.r_113, trip_k0_t1.sl.r_114, trip_k0_t1.sl.r_115,
    trip_k0_t1.sl.r_116, trip_k0_t1.sl.r_117, trip_k0_t1.sl.r_118, trip_k0_t1.sl.r_119, trip_k0_t1.sl.r_120,
    trip_k0_t1.sl.r_121, trip_k0_t1.sl.r_122, trip_k0_t1.sl.r_123, trip_k0_t1.sl.r_124, trip_k0_t1.sl.r_125,
    trip_k0_t1.sl.r_126, trip_k0_t1.sl.r_127, trip_k0_t1.sl.v1025, trip_k0_t1.sl.v1053, trip_k0_t1.sl.v1081,
    trip_k0_t1.sl.v1109, trip_k0_t1.sl.v1137, trip_k0_t1.sl.v1165, trip_k0_t1.sl.v1193, trip_k0_t1.sl.v1221,
    trip_k0_t1.sl.v1249, trip_k0_t1.sl.v1277, trip_k0_t1.sl.v1305, trip_k0_t1.sl.v1333, trip_k0_t1.sl.v1361,
    trip_k0_t1.sl.v1389, trip_k0_t1.sl.v1417, trip_k0_t1.sl.v1445, trip_k0_t1.sl.v1473, trip_k0_t1.sl.v1501,
    trip_k0_t1.sl.v1529, trip_k0_t1.sl.v1557, trip_k0_t1.sl.v1585, trip_k0_t1.sl.v1613, trip_k0_t1.sl.v1641,
    trip_k0_t1.sl.v1697, trip_k0_t1.sl.v1725, trip_k0_t1.sl.v1753, trip_k0_t1.sl.v1781, trip_k0_t1.sl.v1809,
    trip_k0_t1.sl.v1837, trip_k0_t1.sl.v1865, trip_k0_t1.sl.v1893, trip_k0_t1.sl.v1921, trip_k0_t1.sl.v1949,
    trip_k0_t1.sl.v1977, trip_k0_t1.sl.v2005, trip_k0_t1.sl.v2033, trip_k0_t1.sl.v2061, trip_k0_t1.sl.v2089,
    trip_k0_t1.sl.v2117, trip_k0_t1.sl.v2145, trip_k0_t1.sl.v2173, trip_k0_t1.sl.v2201, trip_k0_t1.sl.v2229,
    trip_k0_t1.sl.v2257, trip_k0_t1.sl.v2285, trip_k0_t1.sl.v549, trip_k0_t1.sl.v577, trip_k0_t1.sl.v605,
    trip_k0_t1.sl.v633, trip_k0_t1.sl.v661, trip_k0_t1.sl.v689, trip_k0_t1.sl.v717, trip_k0_t1.sl.v745,
    trip_k0_t1.sl.v773, trip_k0_t1.sl.v801, trip_k0_t1.sl.v829, trip_k0_t1.sl.v857, trip_k0_t1.sl.v885,
    trip_k0_t1.sl.v913, trip_k0_t1.sl.v941, trip_k0_t1.sl.v969, trip_k0_t1.sl.v997,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232,
    k0_pay233, k0_pay234, k0_pay235,
        addf_apply, mulf_apply, broadcast_apply, shapeCast_1ab_ab_apply, shapeCast_ab_1ab_apply, broadcastTo_1b_ab_apply, readRow, readLane, readPlane]
      rfl
  exact fun p hp => absurd hp List.not_mem_nil

/-- What one trip stores to the output block: row `k`, the step's output. -/
theorem trip_out :
    (trip_k0_t1 𝒱 c bd i arg2 harg2 arg3 harg3 arg4 harg4 arg5 harg5 arg6 harg6 arg7 harg7 arg8 harg8 arg9 harg9 X2 X3 X4 X5 X6 X7
        k).1 f8 f9
      = [⟨Rect.unit (s := S16x64x128) (k0_off65 k) ![1, 64, 128] (k0_off65_inb k),
          fun x : S1x64x128.Idx => yAt (arg2.view.read (Elt F) X2) (arg3.view.read (Elt F) X3) (arg4.view.read (Elt F) X4) (arg5.view.read (Elt F) X5)
            (arg6.view.read (Elt F) X6) (arg7.view.read (Elt F) X7) (arg9.view.read (Elt F) f9) (tripIx k) (x 1) (x 2)⟩] := by
  unfold trip_k0_t1
  dsimp only
  refine congrArg (fun p : Vec F S1x64x128 .f32 =>
    [(⟨Rect.unit (s := S16x64x128) (k0_off65 k) ![1, 64, 128] (k0_off65_inb k), p⟩ : View.Piece (Elt F) S16x64x128 .f32)]) ?_
  funext x
  obtain ⟨i, l, rfl⟩ : ∃ (i : Fin 64) (l : Fin 128), x = ix3 (0 : Fin 1) i l := ⟨x 1, x 2, by
    funext a
    match a with
    | ⟨0, _⟩ => exact Subsingleton.elim (α := Fin 1) _ _
    | ⟨1, _⟩ => rfl
    | ⟨2, _⟩ => rfl⟩
  simp only [yAt, stepAt, addUpTo, sa_word,
    trip_k0_t1.sl.r, trip_k0_t1.sl.r_1, trip_k0_t1.sl.r_2, trip_k0_t1.sl.r_3, trip_k0_t1.sl.r_4, trip_k0_t1.sl.r_5,
    trip_k0_t1.sl.r_6, trip_k0_t1.sl.r_7, trip_k0_t1.sl.r_8, trip_k0_t1.sl.r_9, trip_k0_t1.sl.r_10,
    trip_k0_t1.sl.r_11, trip_k0_t1.sl.r_12, trip_k0_t1.sl.r_13, trip_k0_t1.sl.r_14, trip_k0_t1.sl.r_15,
    trip_k0_t1.sl.r_16, trip_k0_t1.sl.r_17, trip_k0_t1.sl.r_18, trip_k0_t1.sl.r_19, trip_k0_t1.sl.r_20,
    trip_k0_t1.sl.r_21, trip_k0_t1.sl.r_22, trip_k0_t1.sl.r_23, trip_k0_t1.sl.r_24, trip_k0_t1.sl.arg10,
    trip_k0_t1.sl.r_26, trip_k0_t1.sl.r_27, trip_k0_t1.sl.r_28, trip_k0_t1.sl.r_29, trip_k0_t1.sl.r_30,
    trip_k0_t1.sl.r_31, trip_k0_t1.sl.r_32, trip_k0_t1.sl.r_33, trip_k0_t1.sl.r_34, trip_k0_t1.sl.r_35,
    trip_k0_t1.sl.r_36, trip_k0_t1.sl.r_37, trip_k0_t1.sl.r_38, trip_k0_t1.sl.r_39, trip_k0_t1.sl.r_40,
    trip_k0_t1.sl.r_41, trip_k0_t1.sl.r_42, trip_k0_t1.sl.r_43, trip_k0_t1.sl.r_44, trip_k0_t1.sl.r_45,
    trip_k0_t1.sl.r_46, trip_k0_t1.sl.r_47, trip_k0_t1.sl.r_48, trip_k0_t1.sl.r_49, trip_k0_t1.sl.r_50,
    trip_k0_t1.sl.r_51, trip_k0_t1.sl.r_52, trip_k0_t1.sl.r_53, trip_k0_t1.sl.r_54, trip_k0_t1.sl.r_55,
    trip_k0_t1.sl.r_56, trip_k0_t1.sl.r_57, trip_k0_t1.sl.r_58, trip_k0_t1.sl.r_59, trip_k0_t1.sl.r_60,
    trip_k0_t1.sl.r_61, trip_k0_t1.sl.r_62, trip_k0_t1.sl.r_63, trip_k0_t1.sl.r_64, trip_k0_t1.sl.r_65,
    trip_k0_t1.sl.r_66, trip_k0_t1.sl.r_67, trip_k0_t1.sl.r_68, trip_k0_t1.sl.r_69, trip_k0_t1.sl.r_70,
    trip_k0_t1.sl.r_71, trip_k0_t1.sl.r_72, trip_k0_t1.sl.r_73, trip_k0_t1.sl.r_74, trip_k0_t1.sl.r_75,
    trip_k0_t1.sl.r_76, trip_k0_t1.sl.r_77, trip_k0_t1.sl.r_78, trip_k0_t1.sl.r_79, trip_k0_t1.sl.r_80,
    trip_k0_t1.sl.r_81, trip_k0_t1.sl.r_82, trip_k0_t1.sl.r_83, trip_k0_t1.sl.r_84, trip_k0_t1.sl.r_85,
    trip_k0_t1.sl.r_86, trip_k0_t1.sl.r_87, trip_k0_t1.sl.r_88, trip_k0_t1.sl.r_89, trip_k0_t1.sl.r_90,
    trip_k0_t1.sl.r_91, trip_k0_t1.sl.r_92, trip_k0_t1.sl.r_93, trip_k0_t1.sl.r_94, trip_k0_t1.sl.r_95,
    trip_k0_t1.sl.r_96, trip_k0_t1.sl.r_97, trip_k0_t1.sl.r_98, trip_k0_t1.sl.r_99, trip_k0_t1.sl.r_100,
    trip_k0_t1.sl.r_101, trip_k0_t1.sl.r_102, trip_k0_t1.sl.r_103, trip_k0_t1.sl.r_104, trip_k0_t1.sl.r_105,
    trip_k0_t1.sl.r_106, trip_k0_t1.sl.r_107, trip_k0_t1.sl.r_108, trip_k0_t1.sl.r_109, trip_k0_t1.sl.r_110,
    trip_k0_t1.sl.r_111, trip_k0_t1.sl.r_112, trip_k0_t1.sl.r_113, trip_k0_t1.sl.r_114, trip_k0_t1.sl.r_115,
    trip_k0_t1.sl.r_116, trip_k0_t1.sl.r_117, trip_k0_t1.sl.r_118, trip_k0_t1.sl.r_119, trip_k0_t1.sl.r_120,
    trip_k0_t1.sl.r_121, trip_k0_t1.sl.r_122, trip_k0_t1.sl.r_123, trip_k0_t1.sl.r_124, trip_k0_t1.sl.r_125,
    trip_k0_t1.sl.r_126, trip_k0_t1.sl.r_127, trip_k0_t1.sl.v1025, trip_k0_t1.sl.v1053, trip_k0_t1.sl.v1081,
    trip_k0_t1.sl.v1109, trip_k0_t1.sl.v1137, trip_k0_t1.sl.v1165, trip_k0_t1.sl.v1193, trip_k0_t1.sl.v1221,
    trip_k0_t1.sl.v1249, trip_k0_t1.sl.v1277, trip_k0_t1.sl.v1305, trip_k0_t1.sl.v1333, trip_k0_t1.sl.v1361,
    trip_k0_t1.sl.v1389, trip_k0_t1.sl.v1417, trip_k0_t1.sl.v1445, trip_k0_t1.sl.v1473, trip_k0_t1.sl.v1501,
    trip_k0_t1.sl.v1529, trip_k0_t1.sl.v1557, trip_k0_t1.sl.v1585, trip_k0_t1.sl.v1613, trip_k0_t1.sl.v1641,
    trip_k0_t1.sl.v1697, trip_k0_t1.sl.v1725, trip_k0_t1.sl.v1753, trip_k0_t1.sl.v1781, trip_k0_t1.sl.v1809,
    trip_k0_t1.sl.v1837, trip_k0_t1.sl.v1865, trip_k0_t1.sl.v1893, trip_k0_t1.sl.v1921, trip_k0_t1.sl.v1949,
    trip_k0_t1.sl.v1977, trip_k0_t1.sl.v2005, trip_k0_t1.sl.v2033, trip_k0_t1.sl.v2061, trip_k0_t1.sl.v2089,
    trip_k0_t1.sl.v2117, trip_k0_t1.sl.v2145, trip_k0_t1.sl.v2173, trip_k0_t1.sl.v2201, trip_k0_t1.sl.v2229,
    trip_k0_t1.sl.v2257, trip_k0_t1.sl.v2285, trip_k0_t1.sl.v549, trip_k0_t1.sl.v577, trip_k0_t1.sl.v605,
    trip_k0_t1.sl.v633, trip_k0_t1.sl.v661, trip_k0_t1.sl.v689, trip_k0_t1.sl.v717, trip_k0_t1.sl.v745,
    trip_k0_t1.sl.v773, trip_k0_t1.sl.v801, trip_k0_t1.sl.v829, trip_k0_t1.sl.v857, trip_k0_t1.sl.v885,
    trip_k0_t1.sl.v913, trip_k0_t1.sl.v941, trip_k0_t1.sl.v969, trip_k0_t1.sl.v997,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232,
    k0_pay233, k0_pay234, k0_pay235,
    addf_apply, mulf_apply, broadcast_apply, shapeCast_1ab_ab_apply, shapeCast_ab_1ab_apply, broadcastTo_1b_ab_apply, readRow, readLane, readPlane]
  rfl

end trip

end Cert.Scan

end
-- ==== Proof.Loop16.lean ====
/- Sixteen time steps: what the loop over a block of sixteen steps leaves in the state and in the output block. -/
module

public import proofs.«01_k».proof.Proof.Trip

@[expose] public section

set_option maxRecDepth 16384

noncomputable section

namespace Cert.Scan

open Cert.KernelIdeal Cert.KernelIdeal.Gen
open Idealize.ShloMosaic Idealize.ShloMosaic.TcCoe Idealize.SL.Sem
open Idealize.ShloMosaic.ValueIdx (ix2 ix3 eq_ix3)

variable {F : FTy → Type} [FloatOps F]

/-- The state after the first `n` steps of a block. -/
def stN (W K V A B : Vec F S16x64x128 .f32) (S : Vec F S64x64x128 .f32) : ℕ → Vec F S64x64x128 .f32
  | 0 => S
  | n + 1 => stepS W K V A B (ri n) (stN W K V A B S n)

/-- The output of the sixteen steps of a block, started at state `S`. -/
def yBlk (R W K V A B : Vec F S16x64x128 .f32) (S : Vec F S64x64x128 .f32) : Vec F S16x64x128 .f32 :=
  fun y => yAt R W K V A B (stN W K V A B S (y 0).val) (y 0) (y 1) (y 2)

/-- The loop runs sixteen trips. -/
theorem trips_eq : k0_t1_loop.trips = 16 := by decide +kernel

/-- A trip's index as a step. -/
theorem tripIx_eq (k : Fin k0_t1_loop.trips) : tripIx k = ri k.val := by
  have h := tripIx_val k
  have : k.val < 16 := Nat.lt_of_lt_of_le k.isLt k0_t1_abs.2.1
  apply Fin.ext
  rw [h]
  show k.val = k.val % 16
  omega

section loop

variable (𝒱 : Variants) (c : Dev nD) (bd : Option 𝒱.V) (i : grid0.Coords)
  (arg2 : Memref sig .tc .vmem S16x64x128 .f32) (harg2 : arg2.IsWhole) (arg3 : Memref sig .tc .vmem S16x64x128 .f32) (harg3 : arg3.IsWhole)
  (arg4 : Memref sig .tc .vmem S16x64x128 .f32) (harg4 : arg4.IsWhole) (arg5 : Memref sig .tc .vmem S16x64x128 .f32) (harg5 : arg5.IsWhole)
  (arg6 : Memref sig .tc .vmem S16x64x128 .f32) (harg6 : arg6.IsWhole) (arg7 : Memref sig .tc .vmem S16x64x128 .f32) (harg7 : arg7.IsWhole)
  (arg8 : Memref sig .tc .vmem S16x64x128 .f32) (harg8 : arg8.IsWhole) (arg9 : Memref sig .tc .vmem S64x64x128 .f32) (harg9 : arg9.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (G8 : BufTy.Contents (Elt F) arg8.view.ty) (G9 : BufTy.Contents (Elt F) arg9.view.ty)

/-- After `n` trips the state is that of `n` steps. -/
theorem pb_state (n : ℕ) (hn : n ≤ k0_t1_loop.trips) :
    arg9.view.read (Elt F) (arg9.view.writes (Elt F) G9
        (pb_k0_t1 (F := F) 𝒱 c bd i arg2 harg2 arg3 harg3 arg4 harg4 arg5 harg5 arg6 harg6 arg7 harg7 arg8 harg8 arg9 harg9
          X2 X3 X4 X5 X6 X7 G8 G9 n).2)
      = stN (arg3.view.read (Elt F) X3) (arg4.view.read (Elt F) X4) (arg5.view.read (Elt F) X5) (arg6.view.read (Elt F) X6)
          (arg7.view.read (Elt F) X7) (arg9.view.read (Elt F) G9) n := by
  induction n with
  | zero => rfl
  | succ n ih =>
    have h := pb_k0_t1_succ (F := F) 𝒱 c bd i arg2 harg2 arg3 harg3 arg4 harg4 arg5 harg5 arg6 harg6 arg7 harg7 arg8 harg8 arg9 harg9
      X2 X3 X4 X5 X6 X7 G8 G9 ⟨n, hn⟩
    dsimp only at h
    rw [h]
    dsimp only
    rw [View.writes_append, trip_state, ih (Nat.le_of_succ_le hn), tripIx_eq]
    rfl

/-- Every piece the first `n` trips store to the output block holds the block's value there, and they cover the first `n` rows. -/
theorem pb_out (n : ℕ) (hn : n ≤ k0_t1_loop.trips) :
    (∀ q ∈ (pb_k0_t1 (F := F) 𝒱 c bd i arg2 harg2 arg3 harg3 arg4 harg4 arg5 harg5 arg6 harg6 arg7 harg7 arg8 harg8 arg9 harg9
          X2 X3 X4 X5 X6 X7 G8 G9 n).1, ∀ x : q.1.shape.Idx,
        q.2 x = yBlk (arg2.view.read (Elt F) X2) (arg3.view.read (Elt F) X3) (arg4.view.read (Elt F) X4) (arg5.view.read (Elt F) X5)
          (arg6.view.read (Elt F) X6) (arg7.view.read (Elt F) X7) (arg9.view.read (Elt F) G9) (q.1.emb x))
    ∧ ∀ y : S16x64x128.Idx, (y 0).val < n → ∃ q ∈ (pb_k0_t1 (F := F) 𝒱 c bd i arg2 harg2 arg3 harg3 arg4 harg4 arg5 harg5 arg6 harg6
          arg7 harg7 arg8 harg8 arg9 harg9 X2 X3 X4 X5 X6 X7 G8 G9 n).1, y ∈ q.1.set := by
  induction n with
  | zero => exact ⟨fun q hq => absurd hq List.not_mem_nil, fun y hy => absurd hy (Nat.not_lt_zero _)⟩
  | succ n ih =>
    obtain ⟨ih1, ih2⟩ := ih (Nat.le_of_succ_le hn)
    have hn' : n < k0_t1_loop.trips := hn
    have h16 : n < 16 := Nat.lt_of_lt_of_le hn' k0_t1_abs.2.1
    have hoff : k0_off65 ⟨n, hn'⟩ 0 = n := iv_toNat ⟨n, hn'⟩
    have h := pb_k0_t1_succ (F := F) 𝒱 c bd i arg2 harg2 arg3 harg3 arg4 harg4 arg5 harg5 arg6 harg6 arg7 harg7 arg8 harg8 arg9 harg9
      X2 X3 X4 X5 X6 X7 G8 G9 ⟨n, hn'⟩
    dsimp only at h
    rw [h]
    dsimp only
    rw [trip_out, pb_state (hn := Nat.le_of_succ_le hn)]
    have hemb : ∀ x : S1x64x128.Idx, (Rect.unit (s := S16x64x128) (k0_off65 ⟨n, hn'⟩) ![1, 64, 128] (k0_off65_inb ⟨n, hn'⟩)).emb x
        = ix3 (ri n) (x 1) (x 2) := by
      intro x
      have h0 : (x 0).val = 0 := Nat.lt_one_iff.1 (x 0).isLt
      funext a
      apply Fin.ext
      match a with
      | ⟨0, _⟩ => show k0_off65 ⟨n, hn'⟩ 0 + 1 * (x 0).val = n % 16; omega
      | ⟨1, _⟩ => show 0 + 1 * (x 1).val = (x 1).val; omega
      | ⟨2, _⟩ => show 0 + 1 * (x 2).val = (x 2).val; omega
    constructor
    · intro q hq
      rcases List.mem_append.1 hq with hq | hq
      · rw [List.mem_singleton] at hq
        subst hq
        intro x
        refine Eq.trans ?_ (congrArg _ (hemb x).symm)
        rw [tripIx_eq]
        show yAt _ _ _ _ _ _ (stN _ _ _ _ _ _ n) (ri n) (x 1) (x 2) = yAt _ _ _ _ _ _ (stN _ _ _ _ _ _ (n % 16)) (ri n) (x 1) (x 2)
        rw [Nat.mod_eq_of_lt h16]
      · exact ih1 q hq
    · intro y hy
      by_cases hy' : (y 0).val < n
      · obtain ⟨q, hq, hm⟩ := ih2 y hy'
        exact ⟨q, List.mem_append_right _ hq, hm⟩
      · refine ⟨_, List.mem_append_left _ (List.mem_singleton.2 rfl), ?_⟩
        have hy0 : y = ix3 (ri n) (y 1) (y 2) := by
          funext a
          apply Fin.ext
          match a with
          | ⟨0, _⟩ => show (y 0).val = n % 16; omega
          | ⟨1, _⟩ => rfl
          | ⟨2, _⟩ => rfl
        have he : (Rect.unit (s := S16x64x128) (k0_off65 ⟨n, hn'⟩) ![1, 64, 128] (k0_off65_inb ⟨n, hn'⟩)).emb
            (ix3 (0 : Fin 1) (y 1) (y 2)) = y := (hemb _).trans hy0.symm
        dsimp only
        rw [← Rect.map_emb_univ]
        exact Finset.mem_map.2 ⟨_, Finset.mem_univ _, he⟩

/-- After the loop the output block holds the sixteen steps' outputs. -/
theorem pb_read :
    arg8.view.read (Elt F) (arg8.view.writes (Elt F) G8
        (pb_k0_t1 (F := F) 𝒱 c bd i arg2 harg2 arg3 harg3 arg4 harg4 arg5 harg5 arg6 harg6 arg7 harg7 arg8 harg8 arg9 harg9
          X2 X3 X4 X5 X6 X7 G8 G9 k0_t1_loop.trips).1)
      = yBlk (arg2.view.read (Elt F) X2) (arg3.view.read (Elt F) X3) (arg4.view.read (Elt F) X4) (arg5.view.read (Elt F) X5)
          (arg6.view.read (Elt F) X6) (arg7.view.read (Elt F) X7) (arg9.view.read (Elt F) G9) := by
  obtain ⟨h1, h2⟩ := pb_out 𝒱 c bd i arg2 harg2 arg3 harg3 arg4 harg4 arg5 harg5 arg6 harg6 arg7 harg7 arg8 harg8 arg9 harg9
    X2 X3 X4 X5 X6 X7 G8 G9 _ le_rfl
  have hc := fun y : S16x64x128.Idx => h2 y (trips_eq ▸ (y 0).isLt)
  rw [View.read_writes_eq_canon _ _ _ hc]
  funext y
  exact View.canon_apply_of_pieces _ _ h1 y (hc y)

end loop

end Cert.Scan

end
-- ==== Proof.Body.lean ====
/- The kernel's body at one grid point: sixteen steps of the scan over the point's blocks, from the carried state (from zero at a sequence's start). -/
module

public import proofs.«01_k».proof.Proof.Loop16
public import proofs.«01_k».proof.Proof.Gen.KernelIdeal.Frame

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The state all zeros. -/
def zeroS : Vec F S64x64x128 .f32 := fun _ => Scalar.ofBits .f32 0x00000000#32

/-- The condition of the body's branch: the second grid coordinate is zero. -/
abbrev atStart (i : grid0.Coords) : Prop :=
  (Scalar.cmpi .ne (Scalar.extui (Scalar.cmpi .eq (BitVec.ofNat 32 (i 1).val) 0#32)) 0#32) = 1#1

section body

variable (c : Dev nD) (i : grid0.Coords)
  (arg2 : Memref sig .tc .vmem S16x64x128 .f32) (harg2 : arg2.IsWhole) (arg3 : Memref sig .tc .vmem S16x64x128 .f32) (harg3 : arg3.IsWhole)
  (arg4 : Memref sig .tc .vmem S16x64x128 .f32) (harg4 : arg4.IsWhole) (arg5 : Memref sig .tc .vmem S16x64x128 .f32) (harg5 : arg5.IsWhole)
  (arg6 : Memref sig .tc .vmem S16x64x128 .f32) (harg6 : arg6.IsWhole) (arg7 : Memref sig .tc .vmem S16x64x128 .f32) (harg7 : arg7.IsWhole)
  (arg8 : Memref sig .tc .vmem S16x64x128 .f32) (harg8 : arg8.IsWhole) (arg9 : Memref sig .tc .vmem S64x64x128 .f32) (harg9 : arg9.IsWhole)
  (x0 x1 x2 x3 x4 x5 : Vec F S16x64x128 .f32)

/-- What the body holds when it is done, from state `S`: the inputs as they were, the sixteen outputs, the state sixteen steps on. -/
def bodyDone (S : Vec F S64x64x128 .f32) : sProp (MT nD τ sig Unit (Elt F) ℕ (UR sig nD τ) ℕ) :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare (yBlk x0 x1 x2 x3 x4 x5 S) ∗ owns (c : Thread nD τ) arg9 fullShare (stN x1 x2 x3 x4 x5 S 16))

/-- The body at a sequence's start: sixteen steps from the zero state. -/
theorem body_start (hc0 : atStart i) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (bodyDone c arg2 arg3 arg4 arg5 arg6 arg7 arg8 arg9 x0 x1 x2 x3 x4 x5 zeroS -∗ K ⟨⟩))
      ⊢ wp frame (wpE (defs₀ (F := F)) Variants.none c none) E
          (cc0_rwkv7_scan i arg2 harg2 arg3 harg3 arg4 harg4 arg5 harg5 arg6 harg6 arg7 harg7 arg8 harg8 arg9 harg9) K := by
  simp only [cc0_rwkv7_scan_eq_skeleton]
  unfold cc0_rwkv7_scan_skel bodyDone
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0)
  sl_step
  have hz : arg9.view.read (Elt F) (arg9.view.writes (Elt F) arg9.view.junk body_start.sl.HS0_1) = zeroS := by
    have hc := View.cover_of_wholeMem (body_start.sl.HS0_1 (F := F)) (by sl_whole_mem)
    rw [View.read_writes_eq_canon _ _ _ hc]
    funext y
    refine View.canon_apply_of_pieces _ _ ?_ y (hc y)
    unfold body_start.sl.HS0_1
    intro q hq x
    rw [List.mem_singleton] at hq
    subst hq
    rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    have h := pb_read Variants.none c none i arg2 harg2 arg3 harg3 arg4 harg4 arg5 harg5 arg6 harg6 arg7 harg7 arg8 harg8 arg9 harg9
      (harg2.unread x0) (harg3.unread x1) (harg4.unread x2) (harg5.unread x3) (harg6.unread x4) (harg7.unread x5) f6 (arg9.view.writes (Elt F) arg9.view.junk body_start.sl.HS0_1)
    rw [hf0, hf1, hf2, hf3, hf4, hf5, hz] at h
    exact h
  iexists _; isplitr
  swap; · iexact HS0
  ipureintro
  have h := pb_state Variants.none c none i arg2 harg2 arg3 harg3 arg4 harg4 arg5 harg5 arg6 harg6 arg7 harg7 arg8 harg8 arg9 harg9
      (harg2.unread x0) (harg3.unread x1) (harg4.unread x2) (harg5.unread x3) (harg6.unread x4) (harg7.unread x5) f6 (arg9.view.writes (Elt F) arg9.view.junk body_start.sl.HS0_1) k0_t1_loop.trips le_rfl
  rw [hf1, hf2, hf3, hf4, hf5, hz, ← View.writes_append, trips_eq] at h
  exact h

/-- The body past a sequence's start: sixteen steps from the carried state. -/
theorem body_next (hc0 : ¬atStart i) (xs : Vec F S64x64x128 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (bodyDone c arg2 arg3 arg4 arg5 arg6 arg7 arg8 arg9 x0 x1 x2 x3 x4 x5 xs -∗ K ⟨⟩))
      ⊢ wp frame (wpE (defs₀ (F := F)) Variants.none c none) E
          (cc0_rwkv7_scan i arg2 harg2 arg3 harg3 arg4 harg4 arg5 harg5 arg6 harg6 arg7 harg7 arg8 harg8 arg9 harg9) K := by
  simp only [cc0_rwkv7_scan_eq_skeleton]
  unfold cc0_rwkv7_scan_skel bodyDone
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg9.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    have h := pb_read Variants.none c none i arg2 harg2 arg3 harg3 arg4 harg4 arg5 harg5 arg6 harg6 arg7 harg7 arg8 harg8 arg9 harg9
      (harg2.unread x0) (harg3.unread x1) (harg4.unread x2) (harg5.unread x3) (harg6.unread x4) (harg7.unread x5) f6 (harg9.unread xs)
    rw [hf0, hf1, hf2, hf3, hf4, hf5, hfs0] at h
    exact h
  iexists _; isplitr
  swap; · iexact HS0
  ipureintro
  have h := pb_state Variants.none c none i arg2 harg2 arg3 harg3 arg4 harg4 arg5 harg5 arg6 harg6 arg7 harg7 arg8 harg8 arg9 harg9
      (harg2.unread x0) (harg3.unread x1) (harg4.unread x2) (harg5.unread x3) (harg6.unread x4) (harg7.unread x5) f6 (harg9.unread xs) k0_t1_loop.trips le_rfl
  rw [hf1, hf2, hf3, hf4, hf5, hfs0, trips_eq] at h
  exact h

end body

end Cert.Scan

end
-- ==== Proof.ScanRun.lean ====
/- The pipeline's run: what every grid point leaves in the output block and in the carried state, and the array the kernel ends with. -/
module

public import proofs.«01_k».proof.Proof.Body
public import Idealize.ShloMosaic.Lib.Claim

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second grid coordinate is zero at the points divisible by 128. -/
theorem atStart_iff : ∀ t : Fin cfg0.N, atStart (grid0.coords t) ↔ t.val % 128 = 0 :=
  (fun t => by
    have ht : t.val < 256 := Nat.lt_of_lt_of_eq t.isLt N_0
    have e1 : (grid0.coords t 1).val = t.val / 1 % 128 := Pipeline.Grid.coords_val t 1 (by decide) rfl
    simp only [atStart, e1]
    word_cmp
   : ∀ t : Fin grid0.N, atStart (grid0.coords t) ↔ t.val % 128 = 0)

/-- The carried state's buffer. -/
abbrev stateRef : Memref sig .tc .vmem S64x64x128 .f32 := Memref.whole cc0_scratch0

/-- What the launch hands the body: the state's buffer at anything and the generator register. -/
theorem launchInv_eq (c : Dev nD) :
    (Pipeline.ΦA spec0 c : sProp 𝕄)
      = iprop(iprop((∃ d, owns (c : Thread nD τ) stateRef fullShare d)) ∗ (∃ r, prngReg c r)) := by
  unfold Pipeline.ΦA; rw [scopedRest0_eq]; simp only [stateRef, owns_whole]; try rfl

variable (m : (ℓ : Loc nD τ sig) → Buf (Elt F) ℓ) (ρ : Dev nD → PrngReg)

/-- The carried state after point `n`: sixteen steps from the state before, or from zero at a sequence's start. -/
def stAfter (c : Dev nD) : (n : ℕ) → n < cfg0.N → Vec F S64x64x128 .f32
  | 0, h => stN (iblk m c 1 ⟨0, h⟩) (iblk m c 2 ⟨0, h⟩) (iblk m c 3 ⟨0, h⟩) (iblk m c 4 ⟨0, h⟩) (iblk m c 5 ⟨0, h⟩) zeroS 16
  | n + 1, h => stN (iblk m c 1 ⟨n + 1, h⟩) (iblk m c 2 ⟨n + 1, h⟩) (iblk m c 3 ⟨n + 1, h⟩) (iblk m c 4 ⟨n + 1, h⟩) (iblk m c 5 ⟨n + 1, h⟩)
      (if (n + 1) % 128 = 0 then zeroS else stAfter c n (Nat.lt_of_succ_lt h)) 16

/-- The state point `t` starts from. -/
def stBefore (c : Dev nD) (t : Fin cfg0.N) : Vec F S64x64x128 .f32 :=
  if t.val % 128 = 0 then zeroS else stAfter m c (t.val - 1) (Nat.lt_of_le_of_lt (Nat.sub_le _ _) t.isLt)

theorem stBefore_start (c : Dev nD) (t : Fin cfg0.N) (h : t.val % 128 = 0) : stBefore m c t = zeroS := if_pos h

theorem stBefore_next (c : Dev nD) (t : Fin cfg0.N) (h : ¬t.val % 128 = 0) :
    stBefore m c t = stAfter m c (t.val - 1) (Nat.lt_of_le_of_lt (Nat.sub_le _ _) t.isLt) := if_neg h

/-- A point's sixteen steps. -/
theorem stAfter_eq (c : Dev nD) (t : Fin cfg0.N) : stAfter m c t.val t.isLt
    = stN (iblk m c 1 t) (iblk m c 2 t) (iblk m c 3 t) (iblk m c 4 t) (iblk m c 5 t) (stBefore m c t) 16 := by
  obtain ⟨n, hn⟩ := t
  cases n with
  | zero => rfl
  | succ n => rfl

/-- What point `t` leaves in the output block. -/
def outAt (c : Dev nD) (t : Fin cfg0.N) : Vec F S16x64x128 .f32 :=
  yBlk (iblk m c 0 t) (iblk m c 1 t) (iblk m c 2 t) (iblk m c 3 t) (iblk m c 4 t) (iblk m c 5 t) (stBefore m c t)

/-- What holds before point `n`: at the launch the state's buffer at anything, afterwards the state the point before left. -/
def inv (c : Dev nD) : (n : ℕ) → n ≤ cfg0.N → sProp 𝕄
  | 0, _ => Pipeline.ΦA spec0 c
  | n + 1, hn => iprop(owns (c : Thread nD τ) stateRef fullShare (stAfter m c n hn) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) stateRef fullShare (stAfter m c (n - 1) (by omega)) ∗ (∃ r, prngReg c r)) := by
  cases n with
  | zero => exact absurd rfl hz
  | succ n => rfl

/-- At every point the invariant gives the state's buffer at something. -/
theorem inv_any (c : Dev nD) (n : ℕ) (h : n ≤ cfg0.N) :
    inv m c n h ⊢ iprop((∃ d, owns (c : Thread nD τ) stateRef fullShare d) ∗ (∃ r, prngReg c r)) := by
  by_cases hz : n = 0
  · rw [inv_zero m c n h hz, launchInv_eq]
  · rw [inv_pos m c n h hz]
    iintro ⟨HS0, Hg⟩
    isplitl [HS0]
    · iexists _; iexact HS0
    iexact Hg

/-- The pipeline's data: arrays as launched, inputs' blocks left in place, the output's block as `outAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point does its sixteen steps. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ
    = iprop(owns (c : Thread nD τ) stateRef fullShare (stAfter m c t.val t.isLt) ∗ (∃ r, prngReg c r)) from rfl, stAfter_eq]
  unfold outAt
  by_cases h0 : t.val % 128 = 0
  · rw [inv_castSucc m c t, stBefore_start m c t h0]
    refine (sep_mono_left (inv_any m c _ _)).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (body_start c (grid0.coords t) _ _ _ _ _ _ _ _ _ _ _ _ _ _ _ _ (iblk m c 0 t) (iblk m c 1 t) (iblk m c 2 t) (iblk m c 3 t) (iblk m c 4 t) (iblk m c 5 t) ((atStart_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    unfold bodyDone
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun hz => h0 (by rw [hz])
    rw [inv_castSucc m c t, inv_pos m c _ _ hz, stBefore_next m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (body_next c (grid0.coords t) _ _ _ _ _ _ _ _ _ _ _ _ _ _ _ _ (iblk m c 0 t) (iblk m c 1 t) (iblk m c 2 t) (iblk m c 3 t) (iblk m c 4 t) (iblk m c 5 t) (fun h => h0 ((atStart_iff t).mp h)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    unfold bodyDone
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]

/-- After the last point the invariant gives it back. -/
theorem hout (c : Dev nD) : (dats m 0 c).Φ (Fin.last cfg0.N) ⊢ Pipeline.ΦA spec0 c := by
  rw [launchInv_eq, show (dats m 0 c).Φ (Fin.last cfg0.N) = inv m c cfg0.N le_rfl from rfl]
  exact inv_any m c _ _

set_option backward.isDefEq.respectTransparency.types false in
/-- Every run ends with each array at what the data say, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run leaves the argument arrays as they were and every semaphore counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Scan

end
-- ==== Proof.Lanes.lean ====
/- The recurrence one lane at a time: the state of one (batch, head) pair over the sequence, and what it puts out at each step. -/
module

public import proofs.«01_k».proof.Proof.Trip
public import Idealize.ShloMosaic.Lib.Pointwise

@[expose] public section

noncomputable section

namespace Cert.Scan

open Idealize.ShloMosaic
open scoped BigOperators

variable {F : FTy → Type} [FloatOps F]

/-- One step of a lane's state `s` (column `j`, row `i`): column `j` decayed by `w j`, plus the state times `a`
    put on column `j` by `b j`, plus `v i` put on column `j` by `k j`. -/
def laneStep (w k v a b : Fin 64 → F .f32) (s : Fin 64 → Fin 64 → F .f32) : Fin 64 → Fin 64 → F .f32 := fun j i =>
  FloatOps.addf (FloatOps.addf (FloatOps.mulf (s j i) (w j))
    (FloatOps.mulf (addUpTo (fun n => FloatOps.mulf (s (fi n) i) (a (fi n))) 64) (b j))) (FloatOps.mulf (v i) (k j))

/-- A lane's state after the first `n` steps of the sequence, from zero. -/
def laneState (W K V A B : ℕ → Fin 64 → F .f32) : ℕ → Fin 64 → Fin 64 → F .f32
  | 0 => fun _ _ => Scalar.ofBits .f32 0x00000000#32
  | n + 1 => laneStep (W n) (K n) (V n) (A n) (B n) (laneState W K V A B n)

/-- What a lane puts out at step `n`: row `i` of the state after the step times `r`. -/
def laneOut (R W K V A B : ℕ → Fin 64 → F .f32) (n : ℕ) (i : Fin 64) : F .f32 :=
  addUpTo (fun j => FloatOps.mulf (laneState W K V A B (n + 1) (fi j) i) (R n (fi j))) 64

/-- Step `n` of the sequence. -/
def tk (n : ℕ) : Fin 2048 := ⟨n % 2048, Nat.mod_lt _ (by decide)⟩

/-- Lane `l` of an argument [batch, step, head, head dimension]: batch `l / 8`, head `l mod 8`. -/
def argLane (X : Vec F ⟨4, ![32, 2048, 8, 64]⟩ .f32) (l : Fin 256) : ℕ → Fin 64 → F .f32 := fun n j =>
  X (ix4 (⟨l.val / 8, by omega⟩ : Fin 32) (tk n) (⟨l.val % 8, by omega⟩ : Fin 8) j)

/-- Added up in order over the extended reals is the sum. -/
theorem addUpTo_ideal (g : ℕ → Ideal .f32) (n : ℕ) : addUpTo g n = ∑ k : Fin n, g k.val := by
  induction n with
  | zero => rw [Fin.sum_univ_zero]; exact Ideal.ofBits_zero_f32
  | succ n ih => rw [Fin.sum_univ_castSucc]; exact congrArg (fun z : EReal => z + g n) ih

/-- The sum over 64 columns. -/
theorem addUpTo_64 (g : Fin 64 → Ideal .f32) : addUpTo (fun n => g (fi n)) 64 = ∑ k : Fin 64, g k := by
  rw [addUpTo_ideal]
  refine Finset.sum_congr rfl fun k _ => congrArg g (Fin.ext (Nat.mod_eq_of_lt k.isLt))

end Cert.Scan

end
-- ==== Proof.ScanValue.lean ====
/- The kernel's result: every lane of the array it writes is that lane's recurrence over the whole sequence. -/
module

public import proofs.«01_k».proof.Proof.ScanRun
public import proofs.«01_k».proof.Proof.Lanes
public import Idealize.ShloMosaic.Lib.Pipeline.Value
public import Idealize.ShloMosaic.Lib.Pipeline.ValueKit

@[expose] public section

set_option maxRecDepth 16384

noncomputable section

namespace Cert.Scan

open Cert.KernelIdeal Cert.KernelIdeal.Gen
open Idealize.ShloMosaic hiding ix2 ix3 eq_ix3
open Idealize.ShloMosaic.TcCoe Idealize.SL.Sem
open Idealize.ShloMosaic.ValueIdx (ix2 ix3 eq_ix3)

variable {F : FTy → Type} [FloatOps F]

/-- Lane `l` of an array [step, head dimension, lane]. -/
def lane (X : Vec F S2048x64x256 .f32) (l : Fin 256) : ℕ → Fin 64 → F .f32 := fun n j => X (ix3 (tk n) j l)

/-- Lane `l` of group `g` of 128 lanes. -/
def gl (t : ℕ) (l : Fin 128) : Fin 256 := ⟨(t / 128) % 2 * 128 + l.val, by omega⟩

/-- The block numbers of every window at point `t`. -/
theorem idx_0 : ∀ t : Fin cfg0.N, win0_0.index t = ![t.val % 128, 0, t.val / 128] := (by decide +kernel : ∀ t : Fin grid0.N, _)
theorem idx_1 : ∀ t : Fin cfg0.N, win0_1.index t = ![t.val % 128, 0, t.val / 128] := (by decide +kernel : ∀ t : Fin grid0.N, _)
theorem idx_2 : ∀ t : Fin cfg0.N, win0_2.index t = ![t.val % 128, 0, t.val / 128] := (by decide +kernel : ∀ t : Fin grid0.N, _)
theorem idx_3 : ∀ t : Fin cfg0.N, win0_3.index t = ![t.val % 128, 0, t.val / 128] := (by decide +kernel : ∀ t : Fin grid0.N, _)
theorem idx_4 : ∀ t : Fin cfg0.N, win0_4.index t = ![t.val % 128, 0, t.val / 128] := (by decide +kernel : ∀ t : Fin grid0.N, _)
theorem idx_5 : ∀ t : Fin cfg0.N, win0_5.index t = ![t.val % 128, 0, t.val / 128] := (by decide +kernel : ∀ t : Fin grid0.N, _)
theorem idx_6 : ∀ t : Fin cfg0.N, win0_6.index t = ![t.val % 128, 0, t.val / 128] := (by decide +kernel : ∀ t : Fin grid0.N, _)

/-- Step `k` of point `t`'s block is step `16 (t mod 128) + k` of the sequence. -/
theorem tk_val (t : Fin cfg0.N) (n : ℕ) (h : n < 16) : (tk (16 * (t.val % 128) + n)).val = t.val % 128 * 16 + n := by
  show (16 * (t.val % 128) + n) % 2048 = _
  omega

/-- Lane `l` of point `t`'s block. -/
theorem gl_val (t : Fin cfg0.N) (l : Fin 128) : (gl t.val l).val = t.val / 128 * 128 + l.val := by
  have ht : t.val < 256 := Nat.lt_of_lt_of_eq t.isLt N_0
  show (t.val / 128) % 2 * 128 + l.val = _
  omega

theorem ri_val (n : ℕ) (h : n < 16) : (ri n).val = n := Nat.mod_eq_of_lt h

variable (m : (ℓ : Loc nD τ sig) → Buf (Elt F) ℓ) (ρ : Dev nD → PrngReg)

/-- The arrays the region finds: r, w, k, v, a, b as [step, head dimension, lane]. -/
abbrev arr (c : Dev nD) (w : Fin cfg0.W) := V m c (Pipeline.arrRef spec0 w)

/-- A point's block of an input, element by element. -/
theorem blk_0 (c : Dev nD) (t : Fin cfg0.N) (n : ℕ) (h : n < 16) (j : Fin 64) (l : Fin 128) :
    iblk m c 0 t (ix3 (ri n) j l) = lane (V m c main_v65) (gl t.val l) (16 * (t.val % 128) + n) j := by
  have h1 := tk_val t n h; have h2 := gl_val t l; have h3 := ri_val n h
  unfold lane
  simp only [← ix3_eq_valueIdx]
  blk_ext [iblk, idx_0 t]
theorem blk_1 (c : Dev nD) (t : Fin cfg0.N) (n : ℕ) (h : n < 16) (j : Fin 64) (l : Fin 128) :
    iblk m c 1 t (ix3 (ri n) j l) = lane (V m c main_v67) (gl t.val l) (16 * (t.val % 128) + n) j := by
  have h1 := tk_val t n h; have h2 := gl_val t l; have h3 := ri_val n h
  unfold lane
  simp only [← ix3_eq_valueIdx]
  blk_ext [iblk, idx_1 t]
theorem blk_2 (c : Dev nD) (t : Fin cfg0.N) (n : ℕ) (h : n < 16) (j : Fin 64) (l : Fin 128) :
    iblk m c 2 t (ix3 (ri n) j l) = lane (V m c main_v69) (gl t.val l) (16 * (t.val % 128) + n) j := by
  have h1 := tk_val t n h; have h2 := gl_val t l; have h3 := ri_val n h
  unfold lane
  simp only [← ix3_eq_valueIdx]
  blk_ext [iblk, idx_2 t]
theorem blk_3 (c : Dev nD) (t : Fin cfg0.N) (n : ℕ) (h : n < 16) (j : Fin 64) (l : Fin 128) :
    iblk m c 3 t (ix3 (ri n) j l) = lane (V m c main_v71) (gl t.val l) (16 * (t.val % 128) + n) j := by
  have h1 := tk_val t n h; have h2 := gl_val t l; have h3 := ri_val n h
  unfold lane
  simp only [← ix3_eq_valueIdx]
  blk_ext [iblk, idx_3 t]
theorem blk_4 (c : Dev nD) (t : Fin cfg0.N) (n : ℕ) (h : n < 16) (j : Fin 64) (l : Fin 128) :
    iblk m c 4 t (ix3 (ri n) j l) = lane (V m c main_v73) (gl t.val l) (16 * (t.val % 128) + n) j := by
  have h1 := tk_val t n h; have h2 := gl_val t l; have h3 := ri_val n h
  unfold lane
  simp only [← ix3_eq_valueIdx]
  blk_ext [iblk, idx_4 t]
theorem blk_5 (c : Dev nD) (t : Fin cfg0.N) (n : ℕ) (h : n < 16) (j : Fin 64) (l : Fin 128) :
    iblk m c 5 t (ix3 (ri n) j l) = lane (V m c main_v75) (gl t.val l) (16 * (t.val % 128) + n) j := by
  have h1 := tk_val t n h; have h2 := gl_val t l; have h3 := ri_val n h
  unfold lane
  simp only [← ix3_eq_valueIdx]
  blk_ext [iblk, idx_5 t]

/-- Lane `l`'s state after `n` steps, from the arrays the region finds. -/
def stateOf (c : Dev nD) (l : Fin 256) (n : ℕ) : Fin 64 → Fin 64 → F .f32 :=
  laneState (lane (V m c main_v67) l) (lane (V m c main_v69) l) (lane (V m c main_v71) l) (lane (V m c main_v73) l) (lane (V m c main_v75) l) n

/-- Sixteen steps of a block carry the lanes' states sixteen steps on. -/
theorem stN_lane (c : Dev nD) (t : Fin cfg0.N) (S : Vec F S64x64x128 .f32)
    (hS : ∀ j i l, S (ix3 j i l) = stateOf m c (gl t.val l) (16 * (t.val % 128)) j i) :
    ∀ n, n ≤ 16 → ∀ j i l, stN (iblk m c 1 t) (iblk m c 2 t) (iblk m c 3 t) (iblk m c 4 t) (iblk m c 5 t) S n (ix3 j i l)
      = stateOf m c (gl t.val l) (16 * (t.val % 128) + n) j i
  | 0, _, j, i, l => hS j i l
  | n + 1, hn, j, i, l => by
    have ih := stN_lane c t S hS n (by omega)
    show stepAt _ _ _ _ _ (stN _ _ _ _ _ S n) (ri n) j i l = laneStep _ _ _ _ _ (stateOf m c (gl t.val l) (16 * (t.val % 128) + n)) j i
    unfold stepAt saAt laneStep
    simp only [ih, blk_1 m c t n hn, blk_2 m c t n hn, blk_3 m c t n hn, blk_4 m c t n hn, blk_5 m c t n hn]
    rfl

/-- Lane by lane, the state point `t` starts from is that of the `16 (t mod 128)` steps before it. -/
theorem before_after_lane (c : Dev nD) : ∀ (n : ℕ) (hn : n < cfg0.N),
    (∀ j i l, stBefore m c ⟨n, hn⟩ (ix3 j i l) = stateOf m c (gl n l) (16 * (n % 128)) j i)
      ∧ ∀ j i l, stAfter m c n hn (ix3 j i l) = stateOf m c (gl n l) (16 * (n % 128) + 16) j i := by
  intro n
  induction n with
  | zero =>
    intro hn
    have hb : ∀ j i l, stBefore m c ⟨0, hn⟩ (ix3 j i l) = stateOf m c (gl 0 l) (16 * (0 % 128)) j i := fun j i l => by
      rw [stBefore_start m c ⟨0, hn⟩ rfl]; rfl
    refine ⟨hb, fun j i l => ?_⟩
    rw [stAfter_eq m c ⟨0, hn⟩]
    exact stN_lane m c ⟨0, hn⟩ _ hb 16 le_rfl j i l
  | succ n ih =>
    intro hn
    have hb : ∀ j i l, stBefore m c ⟨n + 1, hn⟩ (ix3 j i l) = stateOf m c (gl (n + 1) l) (16 * ((n + 1) % 128)) j i := fun j i l => by
      by_cases h : (n + 1) % 128 = 0
      · rw [stBefore_start m c ⟨n + 1, hn⟩ h, h]; rfl
      · rw [stBefore_next m c ⟨n + 1, hn⟩ h]
        refine ((ih (Nat.lt_of_succ_lt hn)).2 j i l).trans ?_
        have e1 : gl n l = gl (n + 1) l := Fin.ext (by show n / 128 % 2 * 128 + l.val = (n + 1) / 128 % 2 * 128 + l.val; omega)
        rw [e1, show 16 * (n % 128) + 16 = 16 * ((n + 1) % 128) from by omega]
    refine ⟨hb, fun j i l => ?_⟩
    rw [stAfter_eq m c ⟨n + 1, hn⟩]
    exact stN_lane m c ⟨n + 1, hn⟩ _ hb 16 le_rfl j i l

/-- Lane `l`'s output at step `n`, from the arrays the region finds. -/
def outOf (c : Dev nD) (l : Fin 256) (n : ℕ) (i : Fin 64) : F .f32 :=
  laneOut (lane (V m c main_v65) l) (lane (V m c main_v67) l) (lane (V m c main_v69) l) (lane (V m c main_v71) l) (lane (V m c main_v73) l) (lane (V m c main_v75) l) n i

/-- Lane by lane, what point `t` leaves in the output block. -/
theorem outAt_lane (c : Dev nD) (t : Fin cfg0.N) (k : Fin 16) (i : Fin 64) (l : Fin 128) :
    outAt m c t (ix3 k i l) = outOf m c (gl t.val l) (16 * (t.val % 128) + k.val) i := by
  have hk : ri k.val = k := Fin.ext (Nat.mod_eq_of_lt k.isLt)
  have hb := (before_after_lane m c t.val t.isLt).1
  have hs := stN_lane m c t (stBefore m c t) hb k.val (by omega)
  have hs' := stN_lane m c t (stBefore m c t) hb (k.val + 1) (by omega)
  show yAt _ _ _ _ _ _ (stN _ _ _ _ _ (stBefore m c t) k.val) k i l = laneOut _ _ _ _ _ _ _ i
  unfold yAt laneOut
  congr 1
  funext n
  have e := hs' (fi n) i l
  have e' := blk_0 m c t k.val k.isLt (fi n) l
  rw [hk] at e'
  rw [e']
  refine congrArg (fun z => FloatOps.mulf z _) ?_
  refine Eq.trans ?_ e
  show stepAt _ _ _ _ _ (stN _ _ _ _ _ (stBefore m c t) k.val) k (fi n) i l = stepAt _ _ _ _ _ (stN _ _ _ _ _ (stBefore m c t) k.val) (ri k.val) (fi n) i l
  rw [hk]

/-- The array the kernel ends with: at step `y 0`, lane `y 2`, row `y 1` of that lane's output. -/
def outArr (c : Dev nD) : Vec F S2048x64x256 .f32 := fun y => outOf m c (y 2) (y 0).val (y 1)

set_option backward.isDefEq.respectTransparency.types false in
/-- The output array after the run. -/
theorem final_arr (c : Dev nD) : (dats m 0 c).arrAt 6 cfg0.N = outArr m c := by
  refine (dats m 0 c).arrAt_eq_of_covers 6 _ (by decide +kernel) fun t hf y => ?_
  blk_simp
  rw [after_6]
  obtain ⟨k, i, l, rfl⟩ : ∃ (k : Fin 16) (i : Fin 64) (l : Fin 128), y = ix3 k i l := ⟨y 0, y 1, y 2, eq_ix3 _⟩
  refine (outAt_lane m c t k i l).trans ?_
  have e : (win0_6.blk t).view.emb (ix3 k i l) = ix3 (tk (16 * (t.val % 128) + k.val)) i (gl t.val l) := by
    have h1 := tk_val t k.val k.isLt; have h2 := gl_val t l
    simp only [← ix3_eq_valueIdx]
    blk_ext [idx_6 t]
  show _ = outArr m c ((win0_6.blk t).view.emb (ix3 k i l))
  rw [e]
  show _ = outOf m c (gl t.val l) (tk (16 * (t.val % 128) + k.val)).val i
  rw [tk_val t k.val k.isLt, Nat.mul_comm]

end Cert.Scan

end
-- ==== Proof.ScanPrep.lean ====
/- What the scan's host code prepares: the six scanned arrays, as functions of the projected columns and the time-mix weights. -/
module

public import proofs.«01_k».proof.Proof.Gen.KernelIdeal
public import Idealize.ShloMosaic.Lib.Pointwise

@[expose] public section

set_option maxRecDepth 16384

noncomputable section

namespace Cert.ScanPrep

open Cert.KernelIdeal Cert.KernelIdeal.Gen
open Idealize.ShloMosaic Idealize.SL.Sem

abbrev Tok := Vec Ideal S32x2048x512 .f32
abbrev Low := Vec Ideal S32x2048x32 .f32
abbrev Heads := Vec Ideal S32x2048x8x64 .f32

/-- The time-mix half of the projected columns. -/
def mixCols (P : Vec Ideal S32x2048x3248 .f32) : Vec Ideal S32x2048x1696 .f32 :=
  extractStridedSlice S32x2048x1696 ![0, 0, 1552] P slices_S32x2048x3248_S32x2048x1696_0_0_1552

/-- Its rows one step later, a zero row in front. -/
def padded (x : Vec Ideal S32x2048x1696 .f32) : Vec Ideal S32x2049x1696 .f32 :=
  pad S32x2049x1696 ![0, 1, 0] ![0, 0, 0] ![0, 0, 0] x (sitofp (F := Ideal) .f32 (constantI S_ 32 0#32)) pads_S32x2048x1696_S32x2049x1696_000_100_000 h_S_

/-- The token shift: each row moved towards the row before it by the weights `MU`. -/
def shift (x : Vec Ideal S32x2048x1696 .f32) (y : Vec Ideal S32x2049x1696 .f32) (MU : Vec Ideal S1696 .f32) : Vec Ideal S32x2048x1696 .f32 :=
  addf (F := Ideal) (φ := .f32) x (mulf (F := Ideal) (φ := .f32) (subf (F := Ideal) (φ := .f32) (extractStridedSlice S32x2048x1696 ![0, 0, 0] y slices_S32x2049x1696_S32x2048x1696_0_0_0) x)
    (broadcastInDim S32x2048x1696 ![0, 1, 2] bcast_S1x1x1696_S32x2048x1696_0_1_2 (broadcastInDim S1x1x1696 ![2] bcast_S1696_S1x1x1696_2 MU)))

/-- The shifted columns. -/
def shifted (P : Vec Ideal S32x2048x3248 .f32) (MU : Vec Ideal S1696 .f32) : Vec Ideal S32x2048x1696 .f32 :=
  shift (mixCols P) (padded (mixCols P)) MU

def rCols (s : Vec Ideal S32x2048x1696 .f32) : Tok := extractStridedSlice S32x2048x512 ![0, 0, 0] s slices_S32x2048x1696_S32x2048x512_0_0_0
def kCols (s : Vec Ideal S32x2048x1696 .f32) : Tok := extractStridedSlice S32x2048x512 ![0, 0, 512] s slices_S32x2048x1696_S32x2048x512_0_0_512
def vCols (s : Vec Ideal S32x2048x1696 .f32) : Tok := extractStridedSlice S32x2048x512 ![0, 0, 1024] s slices_S32x2048x1696_S32x2048x512_0_0_1024
def wCols (s : Vec Ideal S32x2048x1696 .f32) : Low := extractStridedSlice S32x2048x32 ![0, 0, 1536] s slices_S32x2048x1696_S32x2048x32_0_0_1536
def aCols (s : Vec Ideal S32x2048x1696 .f32) : Low := extractStridedSlice S32x2048x32 ![0, 0, 1568] s slices_S32x2048x1696_S32x2048x32_0_0_1568

/-- A row of weights at every token. -/
def rows (W : Vec Ideal S512 .f32) : Tok := broadcastInDim S32x2048x512 ![0, 1, 2] bcast_S1x1x512_S32x2048x512_0_1_2 (broadcastInDim S1x1x512 ![2] bcast_S512_S1x1x512_2 W)

/-- A number at every token. -/
def fill (b : BitVec 32) : Tok := broadcastInDim S32x2048x512 ![] bcast_S_S32x2048x512 (constant (F := Ideal) S_ .f32 b)

/-- A low-rank product of every token. -/
def lowRank (z : Low) (W : Vec Ideal S32x512 .f32) : Tok := Host.dotGeneral (F := Ideal) (φ₁ := .f32) (φ₂ := .f32) dot_S32x2048x32_S32x512_S32x2048x512_2_0_01_1_n_n none z W

/-- What the softplus takes. -/
def decayIn (z : Low) (W0 : Vec Ideal S512 .f32) (W2 : Vec Ideal S32x512 .f32) : Tok :=
  Host.negf (F := Ideal) (φ := .f32) (addf (F := Ideal) (φ := .f32) (rows W0) (lowRank (Host.tanh (F := Ideal) (φ := .f32) z) W2))

def softplus (x : Tok) : Tok :=
  select (cmpf (F := Ideal) (φ := .f32) .une (subf (F := Ideal) (φ := .f32) x (fill 0x00000000#32)) (subf (F := Ideal) (φ := .f32) x (fill 0x00000000#32)))
    (addf (F := Ideal) (φ := .f32) x (fill 0x00000000#32))
    (addf (F := Ideal) (φ := .f32) (maximumf (F := Ideal) (φ := .f32) x (fill 0x00000000#32))
      (Host.log1p (F := Ideal) (φ := .f32) (Host.exp (F := Ideal) (φ := .f32) (Host.negf (F := Ideal) (φ := .f32)
        (Host.absf (F := Ideal) (φ := .f32) (subf (F := Ideal) (φ := .f32) x (fill 0x00000000#32)))))))

/-- The decay of every token. -/
def decay (s : Tok) : Tok :=
  Host.exp (F := Ideal) (φ := .f32) (Host.negf (F := Ideal) (φ := .f32) (Host.exp (F := Ideal) (φ := .f32)
    (subf (F := Ideal) (φ := .f32) (Host.negf (F := Ideal) (φ := .f32) s) (fill 0x3F000000#32))))

/-- The in-context learning rate of every token. -/
def rate (z : Low) (A0 : Vec Ideal S512 .f32) (A2 : Vec Ideal S32x512 .f32) : Tok :=
  Host.divf (F := Ideal) (φ := .f32) (fill 0x3F800000#32) (addf (F := Ideal) (φ := .f32) (fill 0x3F800000#32)
    (Host.exp (F := Ideal) (φ := .f32) (Host.negf (F := Ideal) (φ := .f32) (addf (F := Ideal) (φ := .f32) (rows A0) (lowRank z A2)))))

/-- Every token's columns by head. -/
def heads (x : Tok) : Heads := shapeCast S32x2048x8x64 x shapeCasts_S32x2048x512_S32x2048x8x64

/-- Heads divided by their length. -/
def normed (u : Heads) : Heads :=
  Host.divf (F := Ideal) (φ := .f32) u (broadcastInDim S32x2048x8x64 ![0, 1, 2, 3] bcast_S32x2048x8x1_S32x2048x8x64_0_1_2_3
    (maximumf (F := Ideal) (φ := .f32) (Host.sqrt (F := Ideal) (φ := .f32) (broadcastInDim S32x2048x8x1 ![0, 1, 2] bcast_S32x2048x8_S32x2048x8x1_0_1_2
      (Host.reduceAdd (F := Ideal) (φ := .f32) (mulf (F := Ideal) (φ := .f32) u u) (constant (F := Ideal) S_ .f32 0x00000000#32) reducesTo_S32x2048x8x64_S32x2048x8_d3 h_S_)))
      (broadcastInDim S32x2048x8x1 ![] bcast_S_S32x2048x8x1 (constant (F := Ideal) S_ .f32 0x2B8CBCCC#32))))

/-- The removal direction of every head. -/
def dir (k : Tok) (KK : Vec Ideal S512 .f32) : Heads := normed (heads (mulf (F := Ideal) (φ := .f32) k (rows KK)))

/-- The key the state takes. -/
def newKey (k a : Tok) (KA : Vec Ideal S512 .f32) : Tok :=
  mulf (F := Ideal) (φ := .f32) k (addf (F := Ideal) (φ := .f32) (fill 0x3F800000#32)
    (mulf (F := Ideal) (φ := .f32) (subf (F := Ideal) (φ := .f32) a (fill 0x3F800000#32)) (rows KA)))

/-- The six scanned arrays, from shifted columns `s` and the weights. -/
def x0 (s : Vec Ideal S32x2048x1696 .f32) : Heads := heads (rCols s)
def x1 (s : Vec Ideal S32x2048x1696 .f32) (W0 : Vec Ideal S512 .f32) (W2 : Vec Ideal S32x512 .f32) : Heads := heads (decay (softplus (decayIn (wCols s) W0 W2)))
def x2 (s : Vec Ideal S32x2048x1696 .f32) (A0 : Vec Ideal S512 .f32) (A2 : Vec Ideal S32x512 .f32) (KA : Vec Ideal S512 .f32) : Heads := heads (newKey (kCols s) (rate (aCols s) A0 A2) KA)
def x3 (s : Vec Ideal S32x2048x1696 .f32) : Heads := heads (vCols s)
def x4 (s : Vec Ideal S32x2048x1696 .f32) (KK : Vec Ideal S512 .f32) : Heads := Host.negf (F := Ideal) (φ := .f32) (dir (kCols s) KK)
def x5 (s : Vec Ideal S32x2048x1696 .f32) (A0 : Vec Ideal S512 .f32) (A2 : Vec Ideal S32x512 .f32) (KK : Vec Ideal S512 .f32) : Heads :=
  mulf (F := Ideal) (φ := .f32) (dir (kCols s) KK) (heads (rate (aCols s) A0 A2))

end Cert.ScanPrep

end
-- ==== Proof.ScanPrepKernel.lean ====
/- The arrays the scan's region finds are the prepared ones, with steps and head dimension in front. -/
module

public import proofs.«01_k».proof.Proof.ScanPrep
public import proofs.«01_k».proof.Proof.Gen.KernelIdeal.Frame
public import Idealize.ShloMosaic.Lib.Pipeline.ValueKit
public import Idealize.ShloMosaic.Lib.Claim
public import Idealize.ShloMosaic.Lib.StableHlo.RunLoop

@[expose] public section

set_option maxRecDepth 16384

noncomputable section

namespace Cert.ScanPrep

open Cert.KernelIdeal Cert.KernelIdeal.Gen
open Idealize.ShloMosaic Idealize.ShloMosaic.TcCoe Idealize.SL.Sem Idealize.ShloMosaic.StableHlo

/-- Steps and head dimension in front, batch and head as one lane index. -/
def byLane (X : Heads) : Vec Ideal S2048x64x256 .f32 :=
  shapeCast S2048x64x256 (transpose S2048x64x32x8 [1, 3, 0, 2] X transposes_S32x2048x8x64_S2048x64x32x8_1_3_0_2) shapeCasts_S2048x64x32x8_S2048x64x256

section Steps

variable (V : Valuation τ sig (Elt Ideal))

theorem cols : after hostOps0 V (Proc.devRef .tc main_v0) = mixCols (V (Proc.devRef .tc main_arg0)) := by
  after_results
  rfl
theorem zero_word : after hostOps0 V (Proc.devRef .tc main_c) = constantI S_ 32 0#32 := by
  after_results

theorem pad_rows (hc : V (Proc.devRef .tc main_c) = constantI S_ 32 0#32) :
    after hostOps0_1 V (Proc.devRef .tc main_v1) = padded (V (Proc.devRef .tc main_v0)) := by
  unfold padded
  rw [← hc]
  after_results
  rfl

/-- The shifted columns the third stretch works on. -/
abbrev sh : Vec Ideal S32x2048x1696 .f32 := shift (V (Proc.devRef .tc main_v0)) (V (Proc.devRef .tc main_v1)) (V (Proc.devRef .tc main_arg1))

theorem r_cols : after hostOps0_2 V (Proc.devRef .tc main_v8) = rCols (sh V) := by
  after_results
  rfl
theorem k_cols : after hostOps0_2 V (Proc.devRef .tc main_v9) = kCols (sh V) := by
  after_results
  rfl
theorem v_cols : after hostOps0_2 V (Proc.devRef .tc main_v10) = vCols (sh V) := by
  after_results
  rfl
theorem a_cols : after hostOps0_2 V (Proc.devRef .tc main_v12) = aCols (sh V) := by
  after_results
  rfl
theorem decay_in : after hostOps0_2 V (Proc.devRef .tc main_v19) = decayIn (wCols (sh V)) (V (Proc.devRef .tc main_arg2)) (V (Proc.devRef .tc main_arg3)) := by
  after_results
  rfl

theorem softplus_of : after hostOps0_3 V (Proc.devRef .tc main_v20) = softplus (V (Proc.devRef .tc main_v19)) := by
  after_results
  rfl

theorem end_0 : after hostOps0_4 V (Proc.devRef .tc main_v65) = byLane (heads (V (Proc.devRef .tc main_v8))) := by
  after_results
  rfl
theorem end_1 : after hostOps0_4 V (Proc.devRef .tc main_v67) = byLane (heads (decay (V (Proc.devRef .tc main_v20)))) := by
  after_results
  rfl
theorem end_2 : after hostOps0_4 V (Proc.devRef .tc main_v69) = byLane (heads (newKey (V (Proc.devRef .tc main_v9))
    (rate (V (Proc.devRef .tc main_v12)) (V (Proc.devRef .tc main_arg4)) (V (Proc.devRef .tc main_arg5))) (V (Proc.devRef .tc main_arg7)))) := by
  after_results
  rfl
theorem end_3 : after hostOps0_4 V (Proc.devRef .tc main_v71) = byLane (heads (V (Proc.devRef .tc main_v10))) := by
  after_results
  rfl
theorem end_4 : after hostOps0_4 V (Proc.devRef .tc main_v73)
    = byLane (Host.negf (F := Ideal) (φ := .f32) (dir (V (Proc.devRef .tc main_v9)) (V (Proc.devRef .tc main_arg6)))) := by
  after_results
  rfl
theorem end_5 : after hostOps0_4 V (Proc.devRef .tc main_v75)
    = byLane (mulf (F := Ideal) (φ := .f32) (dir (V (Proc.devRef .tc main_v9)) (V (Proc.devRef .tc main_arg6)))
        (heads (rate (V (Proc.devRef .tc main_v12)) (V (Proc.devRef .tc main_arg4)) (V (Proc.devRef .tc main_arg5))))) := by
  after_results
  rfl

end Steps

/-- The buffers each stretch writes. -/
abbrev W0 : List (Ref sig .tc) := [main_v0, main_c]
abbrev W1 : List (Ref sig .tc) := [main_call0_v0, main_v1]
abbrev W2 : List (Ref sig .tc) := [main_v2, main_v3, main_v4, main_v5, main_v6, main_v7, main_v8, main_v9, main_v10, main_v11, main_v12, main_v13, main_v14, main_v15, main_v16, main_v17, main_v18, main_v19]
abbrev W3 : List (Ref sig .tc) := [main_call1_cst, main_call1_v0, main_call1_v1, main_call1_v2, main_call1_v3, main_call1_v4, main_call1_v5, main_call1_v6, main_call1_v7, main_call1_v8, main_call1_v9, main_call1_v10, main_call1_v11, main_v20]
theorem writes_0 : (hostOps0 (F := Ideal)).Forall fun op => op.writes ⊆ (W0.map (Proc.devRef (τ := τ) .tc)).toFinset := forall_writes_sub_of_map rfl
theorem writes_1 : (hostOps0_1 (F := Ideal)).Forall fun op => op.writes ⊆ (W1.map (Proc.devRef (τ := τ) .tc)).toFinset := forall_writes_sub_of_map rfl
theorem writes_2 : (hostOps0_2 (F := Ideal)).Forall fun op => op.writes ⊆ (W2.map (Proc.devRef (τ := τ) .tc)).toFinset := forall_writes_sub_of_map rfl
theorem writes_3 : (hostOps0_3 (F := Ideal)).Forall fun op => op.writes ⊆ (W3.map (Proc.devRef (τ := τ) .tc)).toFinset := forall_writes_sub_of_map rfl

variable (m : (ℓ : Loc nD τ sig) → Buf (Elt Ideal) ℓ) (c : Dev nD)

/-- The contents after each stretch. -/
abbrev L0 : Valuation τ sig (Elt Ideal) := fun b => m (c, b)
abbrev L1 : Valuation τ sig (Elt Ideal) := after hostOps0 (L0 m c)
abbrev L2 : Valuation τ sig (Elt Ideal) := after hostOps0_1 (L1 m c)
abbrev L3 : Valuation τ sig (Elt Ideal) := after hostOps0_2 (L2 m c)
abbrev L4 : Valuation τ sig (Elt Ideal) := after hostOps0_3 (L3 m c)

theorem k1 {r : Ref sig .tc} (hr : r ∉ W0) : L1 m c (Proc.devRef .tc r) = L0 m c (Proc.devRef .tc r) := after_of_writes_sub hostOps0 _ writes_0 hr
theorem k2 {r : Ref sig .tc} (hr : r ∉ W1) : L2 m c (Proc.devRef .tc r) = L1 m c (Proc.devRef .tc r) := after_of_writes_sub hostOps0_1 _ writes_1 hr
theorem k3 {r : Ref sig .tc} (hr : r ∉ W2) : L3 m c (Proc.devRef .tc r) = L2 m c (Proc.devRef .tc r) := after_of_writes_sub hostOps0_2 _ writes_2 hr
theorem k4 {r : Ref sig .tc} (hr : r ∉ W3) : L4 m c (Proc.devRef .tc r) = L3 m c (Proc.devRef .tc r) := after_of_writes_sub hostOps0_3 _ writes_3 hr
/-- An argument after two and after four stretches. -/
theorem a2 {r : Ref sig .tc} (h0 : r ∉ W0) (h1 : r ∉ W1) : L2 m c (Proc.devRef .tc r) = L0 m c (Proc.devRef .tc r) := (k2 m c h1).trans (k1 m c h0)
theorem a4 {r : Ref sig .tc} (h0 : r ∉ W0) (h1 : r ∉ W1) (h2 : r ∉ W2) (h3 : r ∉ W3) : L4 m c (Proc.devRef .tc r) = L0 m c (Proc.devRef .tc r) :=
  (k4 m c h3).trans ((k3 m c h2).trans (a2 m c h0 h1))

/-- The region finds what the fifth stretch leaves. -/
theorem entry_eq (r : Ref sig .tc) : V m c r = after hostOps0_4 (L4 m c) (Proc.devRef .tc r) := by
  refine (congrFun (afterL_eq_after_flatten [hostOps0, hostOps0_1, hostOps0_2, hostOps0_3, hostOps0_4] (L0 m c)) (Proc.devRef .tc r)).symm.trans ?_
  simp only [afterL_cons, afterL_nil]

/-- The shifted columns of the arguments. -/
abbrev args : Vec Ideal S32x2048x1696 .f32 := shifted (m ((c.tc : Thread nD τ).loc main_arg0)) (m ((c.tc : Thread nD τ).loc main_arg1))

theorem sh_eq : sh (L2 m c) = args m c := by
  have e0 : L1 m c (Proc.devRef .tc main_v0) = mixCols (m ((c.tc : Thread nD τ).loc main_arg0)) := cols (L0 m c)
  have e2 : L2 m c (Proc.devRef .tc main_v0) = mixCols (m ((c.tc : Thread nD τ).loc main_arg0)) := (k2 m c (by decide +kernel)).trans e0
  have e1 : L2 m c (Proc.devRef .tc main_v1) = padded (mixCols (m ((c.tc : Thread nD τ).loc main_arg0))) := (pad_rows (L1 m c) (zero_word _)).trans (congrArg padded e0)
  have e3 : L2 m c (Proc.devRef .tc main_arg1) = m ((c.tc : Thread nD τ).loc main_arg1) := a2 m c (by decide +kernel) (by decide +kernel)
  unfold args shifted sh
  rw [e1, e2, e3]

theorem v_r : L4 m c (Proc.devRef .tc main_v8) = rCols (args m c) := (k4 m c (by decide +kernel)).trans ((r_cols _).trans (congrArg rCols (sh_eq m c)))
theorem v_k : L4 m c (Proc.devRef .tc main_v9) = kCols (args m c) := (k4 m c (by decide +kernel)).trans ((k_cols _).trans (congrArg kCols (sh_eq m c)))
theorem v_v : L4 m c (Proc.devRef .tc main_v10) = vCols (args m c) := (k4 m c (by decide +kernel)).trans ((v_cols _).trans (congrArg vCols (sh_eq m c)))
theorem v_a : L4 m c (Proc.devRef .tc main_v12) = aCols (args m c) := (k4 m c (by decide +kernel)).trans ((a_cols _).trans (congrArg aCols (sh_eq m c)))
theorem v_w : L4 m c (Proc.devRef .tc main_v20) = softplus (decayIn (wCols (args m c)) (m ((c.tc : Thread nD τ).loc main_arg2)) (m ((c.tc : Thread nD τ).loc main_arg3))) := by
  refine (softplus_of _).trans (congrArg softplus ((decay_in _).trans ?_))
  have h2 : L2 m c (Proc.devRef .tc main_arg2) = m ((c.tc : Thread nD τ).loc main_arg2) := a2 m c (by decide +kernel) (by decide +kernel)
  have h3 : L2 m c (Proc.devRef .tc main_arg3) = m ((c.tc : Thread nD τ).loc main_arg3) := a2 m c (by decide +kernel) (by decide +kernel)
  rw [sh_eq, h2, h3]
theorem v_4 : L4 m c (Proc.devRef .tc main_arg4) = m ((c.tc : Thread nD τ).loc main_arg4) := a4 m c (by decide +kernel) (by decide +kernel) (by decide +kernel) (by decide +kernel)
theorem v_5 : L4 m c (Proc.devRef .tc main_arg5) = m ((c.tc : Thread nD τ).loc main_arg5) := a4 m c (by decide +kernel) (by decide +kernel) (by decide +kernel) (by decide +kernel)
theorem v_6 : L4 m c (Proc.devRef .tc main_arg6) = m ((c.tc : Thread nD τ).loc main_arg6) := a4 m c (by decide +kernel) (by decide +kernel) (by decide +kernel) (by decide +kernel)
theorem v_7 : L4 m c (Proc.devRef .tc main_arg7) = m ((c.tc : Thread nD τ).loc main_arg7) := a4 m c (by decide +kernel) (by decide +kernel) (by decide +kernel) (by decide +kernel)

theorem arr_0 : V m c main_v65 = byLane (x0 (args m c)) := by
  rw [entry_eq, end_0, v_r, x0]
theorem arr_1 : V m c main_v67 = byLane (x1 (args m c) (m ((c.tc : Thread nD τ).loc main_arg2)) (m ((c.tc : Thread nD τ).loc main_arg3))) := by
  rw [entry_eq, end_1, v_w, x1]
theorem arr_2 : V m c main_v69
    = byLane (x2 (args m c) (m ((c.tc : Thread nD τ).loc main_arg4)) (m ((c.tc : Thread nD τ).loc main_arg5)) (m ((c.tc : Thread nD τ).loc main_arg7))) := by
  rw [entry_eq, end_2, v_k, v_a, v_4, v_5, v_7, x2]
theorem arr_3 : V m c main_v71 = byLane (x3 (args m c)) := by
  rw [entry_eq, end_3, v_v, x3]
theorem arr_4 : V m c main_v73 = byLane (x4 (args m c) (m ((c.tc : Thread nD τ).loc main_arg6))) := by
  rw [entry_eq, end_4, v_k, v_6, x4]
theorem arr_5 : V m c main_v75
    = byLane (x5 (args m c) (m ((c.tc : Thread nD τ).loc main_arg4)) (m ((c.tc : Thread nD τ).loc main_arg5)) (m ((c.tc : Thread nD τ).loc main_arg6))) := by
  rw [entry_eq, end_5, v_k, v_a, v_4, v_5, v_6, x5]

end Cert.ScanPrep

end
-- ==== Proof.ScanArgs.lean ====
/- The two programs' results are the same function of the arguments. -/
module

public import proofs.«01_k».proof.Proof.ScanValue
public import proofs.«01_k».proof.Proof.ScanPrepKernel
public import Idealize.ShloMosaic.Lib.Pointwise

@[expose] public section

set_option maxRecDepth 16384

noncomputable section

namespace Cert.Scan

open Cert.KernelIdeal Cert.KernelIdeal.Gen
open Idealize.ShloMosaic hiding ix2 ix3 eq_ix3
open Idealize.ShloMosaic.TcCoe Idealize.SL.Sem
open Idealize.ShloMosaic.ValueIdx (ix2 ix3 eq_ix3)

variable {F : FTy → Type} [FloatOps F]

/-- An argument with its steps and head dimension in front and batch and head as one lane index, lane by lane. -/
theorem scan_lane (X : Vec F S32x2048x8x64 .f32) (l : Fin 256) :
    lane (shapeCast S2048x64x256 (transpose S2048x64x32x8 [1, 3, 0, 2] X transposes_S32x2048x8x64_S2048x64x32x8_1_3_0_2) shapeCasts_S2048x64x32x8_S2048x64x256) l
      = argLane X l := by
  funext n j
  unfold lane argLane
  pointwise

variable (m : (ℓ : Loc nD τ sig) → Buf (Elt Ideal) ℓ)

/-- The six scanned arrays, from the arguments. -/
abbrev X0 (c : Dev nD) : Vec Ideal S32x2048x8x64 .f32 := ScanPrep.x0 (ScanPrep.args m c)
abbrev X1 (c : Dev nD) : Vec Ideal S32x2048x8x64 .f32 := ScanPrep.x1 (ScanPrep.args m c) (m ((c.tc : Thread nD τ).loc main_arg2)) (m ((c.tc : Thread nD τ).loc main_arg3))
abbrev X2 (c : Dev nD) : Vec Ideal S32x2048x8x64 .f32 :=
  ScanPrep.x2 (ScanPrep.args m c) (m ((c.tc : Thread nD τ).loc main_arg4)) (m ((c.tc : Thread nD τ).loc main_arg5)) (m ((c.tc : Thread nD τ).loc main_arg7))
abbrev X3 (c : Dev nD) : Vec Ideal S32x2048x8x64 .f32 := ScanPrep.x3 (ScanPrep.args m c)
abbrev X4 (c : Dev nD) : Vec Ideal S32x2048x8x64 .f32 := ScanPrep.x4 (ScanPrep.args m c) (m ((c.tc : Thread nD τ).loc main_arg6))
abbrev X5 (c : Dev nD) : Vec Ideal S32x2048x8x64 .f32 :=
  ScanPrep.x5 (ScanPrep.args m c) (m ((c.tc : Thread nD τ).loc main_arg4)) (m ((c.tc : Thread nD τ).loc main_arg5)) (m ((c.tc : Thread nD τ).loc main_arg6))

/-- Each array the region finds is its prepared one, lane by lane. -/
theorem arg_0 (c : Dev nD) (l : Fin 256) : lane (V m c main_v65) l = argLane (X0 m c) l :=
  (congrArg (fun A : Vec Ideal S2048x64x256 .f32 => lane A l) (ScanPrep.arr_0 m c)).trans (scan_lane _ l)
theorem arg_1 (c : Dev nD) (l : Fin 256) : lane (V m c main_v67) l = argLane (X1 m c) l :=
  (congrArg (fun A : Vec Ideal S2048x64x256 .f32 => lane A l) (ScanPrep.arr_1 m c)).trans (scan_lane _ l)
theorem arg_2 (c : Dev nD) (l : Fin 256) : lane (V m c main_v69) l = argLane (X2 m c) l :=
  (congrArg (fun A : Vec Ideal S2048x64x256 .f32 => lane A l) (ScanPrep.arr_2 m c)).trans (scan_lane _ l)
theorem arg_3 (c : Dev nD) (l : Fin 256) : lane (V m c main_v71) l = argLane (X3 m c) l :=
  (congrArg (fun A : Vec Ideal S2048x64x256 .f32 => lane A l) (ScanPrep.arr_3 m c)).trans (scan_lane _ l)
theorem arg_4 (c : Dev nD) (l : Fin 256) : lane (V m c main_v73) l = argLane (X4 m c) l :=
  (congrArg (fun A : Vec Ideal S2048x64x256 .f32 => lane A l) (ScanPrep.arr_4 m c)).trans (scan_lane _ l)
theorem arg_5 (c : Dev nD) (l : Fin 256) : lane (V m c main_v75) l = argLane (X5 m c) l :=
  (congrArg (fun A : Vec Ideal S2048x64x256 .f32 => lane A l) (ScanPrep.arr_5 m c)).trans (scan_lane _ l)

/-- What a lane puts out, as a function of the arguments. -/
theorem outOf_args (c : Dev nD) (l : Fin 256) (n : ℕ) (i : Fin 64) :
    outOf m c l n i = laneOut (argLane (X0 m c) l) (argLane (X1 m c) l) (argLane (X2 m c) l) (argLane (X3 m c) l) (argLane (X4 m c) l) (argLane (X5 m c) l) n i := by
  unfold outOf
  rw [arg_0, arg_1, arg_2, arg_3, arg_4, arg_5]

end Cert.Scan

end
-- ==== Proof.ScanPrepRef.lean ====
/- The arrays the reference's loop scans are the prepared ones, with steps in front. -/
module

public import proofs.«01_k».proof.Proof.ScanPrep
public import proofs.«01_k».proof.Proof.Gen.ReferenceIdeal.Run
public import Idealize.ShloMosaic.Lib.Pipeline.ValueKit
public import Idealize.ShloMosaic.Lib.Claim
public import Idealize.ShloMosaic.Lib.StableHlo.RunLoop

@[expose] public section

set_option maxRecDepth 16384

noncomputable section

namespace Cert.ScanPrepRef

open Cert.ReferenceIdeal Cert.ReferenceIdeal.Gen Cert.ReferenceIdeal.Value Cert.ScanPrep
open Idealize.ShloMosaic Idealize.ShloMosaic.TcCoe Idealize.SL.Sem Idealize.ShloMosaic.StableHlo

/-- Steps in front. -/
def byStep (X : Heads) : Vec Ideal S2048x32x8x64 .f32 := transpose S2048x32x8x64 [1, 0, 2, 3] X transposes_S32x2048x8x64_S2048x32x8x64_1_0_2_3

section Steps

variable (V : Valuation τ sig (Elt Ideal))

theorem cols : after hostOps0 V (Proc.devRef .tc main_v0) = mixCols (V (Proc.devRef .tc main_arg0)) := by
  after_results
  rfl
theorem zero_word : after hostOps0 V (Proc.devRef .tc main_c) = constantI S_ 32 0#32 := by
  after_results

theorem pad_rows (hc : V (Proc.devRef .tc main_c) = constantI S_ 32 0#32) :
    after hostOps0_1 V (Proc.devRef .tc main_v1) = padded (V (Proc.devRef .tc main_v0)) := by
  unfold padded
  rw [← hc]
  after_results
  rfl

/-- The shifted columns the third stretch works on. -/
abbrev sh : Vec Ideal S32x2048x1696 .f32 := shift (V (Proc.devRef .tc main_v0)) (V (Proc.devRef .tc main_v1)) (V (Proc.devRef .tc main_arg1))

theorem r_cols : after hostOps0_2 V (Proc.devRef .tc main_v8) = rCols (sh V) := by
  after_results
  rfl
theorem k_cols : after hostOps0_2 V (Proc.devRef .tc main_v9) = kCols (sh V) := by
  after_results
  rfl
theorem v_cols : after hostOps0_2 V (Proc.devRef .tc main_v10) = vCols (sh V) := by
  after_results
  rfl
theorem a_cols : after hostOps0_2 V (Proc.devRef .tc main_v12) = aCols (sh V) := by
  after_results
  rfl
theorem decay_in : after hostOps0_2 V (Proc.devRef .tc main_v18) = decayIn (wCols (sh V)) (V (Proc.devRef .tc main_arg2)) (V (Proc.devRef .tc main_arg3)) := by
  after_results
  rfl

theorem softplus_of : after hostOps0_3 V (Proc.devRef .tc main_v19) = softplus (V (Proc.devRef .tc main_v18)) := by
  after_results
  rfl

theorem end_0 : after hostOps0_4 V (Proc.devRef .tc main_v71_0) = byStep (heads (V (Proc.devRef .tc main_v8))) := by
  after_results
  rfl
theorem end_1 : after hostOps0_4 V (Proc.devRef .tc main_v71_1) = byStep (heads (decay (V (Proc.devRef .tc main_v19)))) := by
  after_results
  rfl
theorem end_2 : after hostOps0_4 V (Proc.devRef .tc main_v71_2) = byStep (heads (newKey (V (Proc.devRef .tc main_v9))
    (rate (V (Proc.devRef .tc main_v12)) (V (Proc.devRef .tc main_arg4)) (V (Proc.devRef .tc main_arg5))) (V (Proc.devRef .tc main_arg7)))) := by
  after_results
  rfl
theorem end_3 : after hostOps0_4 V (Proc.devRef .tc main_v71_3) = byStep (heads (V (Proc.devRef .tc main_v10))) := by
  after_results
  rfl
theorem end_4 : after hostOps0_4 V (Proc.devRef .tc main_v71_4)
    = byStep (Host.negf (F := Ideal) (φ := .f32) (dir (V (Proc.devRef .tc main_v9)) (V (Proc.devRef .tc main_arg6)))) := by
  after_results
  rfl
theorem end_5 : after hostOps0_4 V (Proc.devRef .tc main_v71_5)
    = byStep (mulf (F := Ideal) (φ := .f32) (dir (V (Proc.devRef .tc main_v9)) (V (Proc.devRef .tc main_arg6)))
        (heads (rate (V (Proc.devRef .tc main_v12)) (V (Proc.devRef .tc main_arg4)) (V (Proc.devRef .tc main_arg5))))) := by
  after_results
  rfl

end Steps

variable (m : (ℓ : Loc nD τ sig) → Buf (Elt Ideal) ℓ) (c : Dev nD)

/-- The contents after each stretch. -/
abbrev L0 : Valuation τ sig (Elt Ideal) := launchContents m c
abbrev L1 : Valuation τ sig (Elt Ideal) := after hostOps0 (L0 m c)
abbrev L2 : Valuation τ sig (Elt Ideal) := after hostOps0_1 (L1 m c)
abbrev L3 : Valuation τ sig (Elt Ideal) := after hostOps0_2 (L2 m c)
abbrev L4 : Valuation τ sig (Elt Ideal) := after hostOps0_3 (L3 m c)

theorem k1 {r : Ref sig .tc} (hr : r ∉ hostOps0_W) : L1 m c (Proc.devRef .tc r) = L0 m c (Proc.devRef .tc r) := after_of_writes_sub hostOps0 _ hostOps0_writes hr
theorem k2 {r : Ref sig .tc} (hr : r ∉ hostOps0_1_W) : L2 m c (Proc.devRef .tc r) = L1 m c (Proc.devRef .tc r) := after_of_writes_sub hostOps0_1 _ hostOps0_1_writes hr
theorem k3 {r : Ref sig .tc} (hr : r ∉ hostOps0_2_W) : L3 m c (Proc.devRef .tc r) = L2 m c (Proc.devRef .tc r) := after_of_writes_sub hostOps0_2 _ hostOps0_2_writes hr
theorem k4 {r : Ref sig .tc} (hr : r ∉ hostOps0_3_W) : L4 m c (Proc.devRef .tc r) = L3 m c (Proc.devRef .tc r) := after_of_writes_sub hostOps0_3 _ hostOps0_3_writes hr
/-- An argument after two and after four stretches. -/
theorem a2 {r : Ref sig .tc} (h0 : r ∉ hostOps0_W) (h1 : r ∉ hostOps0_1_W) : L2 m c (Proc.devRef .tc r) = L0 m c (Proc.devRef .tc r) := (k2 m c h1).trans (k1 m c h0)
theorem a4 {r : Ref sig .tc} (h0 : r ∉ hostOps0_W) (h1 : r ∉ hostOps0_1_W) (h2 : r ∉ hostOps0_2_W) (h3 : r ∉ hostOps0_3_W) : L4 m c (Proc.devRef .tc r) = L0 m c (Proc.devRef .tc r) :=
  (k4 m c h3).trans ((k3 m c h2).trans (a2 m c h0 h1))

/-- The loop starts from what the fifth stretch leaves. -/
theorem entry_eq (r : Ref sig .tc) : entryContents preI m c (Proc.devRef .tc r) = after hostOps0_4 (L4 m c) (Proc.devRef .tc r) := by
  simp only [entryContents, afterL_cons, afterL_nil]

/-- The shifted columns of the arguments. -/
abbrev args : Vec Ideal S32x2048x1696 .f32 := shifted (m ((c.tc : Thread nD τ).loc main_arg0)) (m ((c.tc : Thread nD τ).loc main_arg1))

theorem sh_eq : sh (L2 m c) = args m c := by
  have e0 : L1 m c (Proc.devRef .tc main_v0) = mixCols (m ((c.tc : Thread nD τ).loc main_arg0)) := cols (L0 m c)
  have e2 : L2 m c (Proc.devRef .tc main_v0) = mixCols (m ((c.tc : Thread nD τ).loc main_arg0)) := (k2 m c (by decide +kernel)).trans e0
  have e1 : L2 m c (Proc.devRef .tc main_v1) = padded (mixCols (m ((c.tc : Thread nD τ).loc main_arg0))) := (pad_rows (L1 m c) (zero_word _)).trans (congrArg padded e0)
  have e3 : L2 m c (Proc.devRef .tc main_arg1) = m ((c.tc : Thread nD τ).loc main_arg1) := a2 m c (by decide +kernel) (by decide +kernel)
  unfold args shifted sh
  rw [e1, e2, e3]

theorem v_r : L4 m c (Proc.devRef .tc main_v8) = rCols (args m c) := (k4 m c (by decide +kernel)).trans ((r_cols _).trans (congrArg rCols (sh_eq m c)))
theorem v_k : L4 m c (Proc.devRef .tc main_v9) = kCols (args m c) := (k4 m c (by decide +kernel)).trans ((k_cols _).trans (congrArg kCols (sh_eq m c)))
theorem v_v : L4 m c (Proc.devRef .tc main_v10) = vCols (args m c) := (k4 m c (by decide +kernel)).trans ((v_cols _).trans (congrArg vCols (sh_eq m c)))
theorem v_a : L4 m c (Proc.devRef .tc main_v12) = aCols (args m c) := (k4 m c (by decide +kernel)).trans ((a_cols _).trans (congrArg aCols (sh_eq m c)))
theorem v_w : L4 m c (Proc.devRef .tc main_v19) = softplus (decayIn (wCols (args m c)) (m ((c.tc : Thread nD τ).loc main_arg2)) (m ((c.tc : Thread nD τ).loc main_arg3))) := by
  refine (softplus_of _).trans (congrArg softplus ((decay_in _).trans ?_))
  have h2 : L2 m c (Proc.devRef .tc main_arg2) = m ((c.tc : Thread nD τ).loc main_arg2) := a2 m c (by decide +kernel) (by decide +kernel)
  have h3 : L2 m c (Proc.devRef .tc main_arg3) = m ((c.tc : Thread nD τ).loc main_arg3) := a2 m c (by decide +kernel) (by decide +kernel)
  rw [sh_eq, h2, h3]
theorem v_4 : L4 m c (Proc.devRef .tc main_arg4) = m ((c.tc : Thread nD τ).loc main_arg4) := a4 m c (by decide +kernel) (by decide +kernel) (by decide +kernel) (by decide +kernel)
theorem v_5 : L4 m c (Proc.devRef .tc main_arg5) = m ((c.tc : Thread nD τ).loc main_arg5) := a4 m c (by decide +kernel) (by decide +kernel) (by decide +kernel) (by decide +kernel)
theorem v_6 : L4 m c (Proc.devRef .tc main_arg6) = m ((c.tc : Thread nD τ).loc main_arg6) := a4 m c (by decide +kernel) (by decide +kernel) (by decide +kernel) (by decide +kernel)
theorem v_7 : L4 m c (Proc.devRef .tc main_arg7) = m ((c.tc : Thread nD τ).loc main_arg7) := a4 m c (by decide +kernel) (by decide +kernel) (by decide +kernel) (by decide +kernel)

theorem arr_0 : entryContents preI m c (Proc.devRef .tc main_v71_0) = byStep (x0 (args m c)) := by
  rw [entry_eq, end_0, v_r, x0]
theorem arr_1 : entryContents preI m c (Proc.devRef .tc main_v71_1) = byStep (x1 (args m c) (m ((c.tc : Thread nD τ).loc main_arg2)) (m ((c.tc : Thread nD τ).loc main_arg3))) := by
  rw [entry_eq, end_1, v_w, x1]
theorem arr_2 : entryContents preI m c (Proc.devRef .tc main_v71_2)
    = byStep (x2 (args m c) (m ((c.tc : Thread nD τ).loc main_arg4)) (m ((c.tc : Thread nD τ).loc main_arg5)) (m ((c.tc : Thread nD τ).loc main_arg7))) := by
  rw [entry_eq, end_2, v_k, v_a, v_4, v_5, v_7, x2]
theorem arr_3 : entryContents preI m c (Proc.devRef .tc main_v71_3) = byStep (x3 (args m c)) := by
  rw [entry_eq, end_3, v_v, x3]
theorem arr_4 : entryContents preI m c (Proc.devRef .tc main_v71_4) = byStep (x4 (args m c) (m ((c.tc : Thread nD τ).loc main_arg6))) := by
  rw [entry_eq, end_4, v_k, v_6, x4]
theorem arr_5 : entryContents preI m c (Proc.devRef .tc main_v71_5)
    = byStep (x5 (args m c) (m ((c.tc : Thread nD τ).loc main_arg4)) (m ((c.tc : Thread nD τ).loc main_arg5)) (m ((c.tc : Thread nD τ).loc main_arg6))) := by
  rw [entry_eq, end_5, v_k, v_a, v_4, v_5, v_6, x5]

end Cert.ScanPrepRef

end
-- ==== Proof.RefValue.lean ====
/- The reference's result: one trip of its loop is one step of every lane's recurrence, so after 2048 trips its array holds every lane's outputs. -/
module

public import proofs.«01_k».proof.Proof.Lanes
public import proofs.«01_k».proof.Proof.ScanPrepRef
public import proofs.«01_k».proof.Proof.Gen.ReferenceIdeal.Run
public import Idealize.ShloMosaic.Lib.Pointwise
public import Idealize.ShloMosaic.Lib.Pipeline.Value
public import Idealize.ShloMosaic.Lib.Pipeline.ValueKit
public import Idealize.ShloMosaic.Lib.DynamicIndex
public import Idealize.ShloMosaic.Lib.Claim
public import Idealize.ShloMosaic.Lib.WordCmp

@[expose] public section

set_option maxRecDepth 16384

noncomputable section

namespace Cert.ScanRef

open Cert.ReferenceIdeal Cert.ReferenceIdeal.Gen Cert.ReferenceIdeal.Value Cert.Scan
open Idealize.ShloMosaic Idealize.ShloMosaic.TcCoe Idealize.ShloMosaic.StableHlo
open scoped BigOperators

/-- Row `k` of an array over steps, as one trip reads it. -/
theorem row_read (X : Vec Ideal S2048x32x8x64 .f32) (st : Fin 4 → (⟨S_, .i32⟩ : BufTy).Contents (Elt Ideal)) (k : Fin 2048)
    (h0 : st 0 = fun _ => BitVec.ofNat 32 k.val) (h1 : st 1 = constantI S_ 32 0#32) (h2 : st 2 = constantI S_ 32 0#32)
    (h3 : st 3 = constantI S_ 32 0#32) (b : Fin 32) (h : Fin 8) (j : Fin 64) :
    shapeCast S32x8x64 (Host.dynamicSlice S1x32x8x64 X (fun k => (st k (Shape.Idx.first h_S_)).toInt) sliceFits_S2048x32x8x64_S1x32x8x64)
      shapeCasts_S1x32x8x64_S32x8x64 (ix3 b h j) = X (ix4 k b h j) := by
  have hs : S2048x32x8x64.Slices ![k.val, 0, 0, 0] S1x32x8x64 := ⟨rfl, fun a => by fin_cases a <;> simp <;> omega⟩
  rw [WordCmp.dynamicSlice_eq_extract S1x32x8x64 X _ _ ![k.val, 0, 0, 0] hs (fun a => by
    have e : (BitVec.ofNat 32 k.val).toInt = (k.val : ℤ) := by
      rw [BitVec.toInt_eq_toNat_of_lt] <;> simp <;> omega
    fin_cases a
    · show (st 0 _).toInt = _; rw [h0]; exact e
    · show (st 1 _).toInt = _; rw [h1]; rfl
    · show (st 2 _).toInt = _; rw [h2]; rfl
    · show (st 3 _).toInt = _; rw [h3]; rfl)]
  pointwise

/-- The trip's arithmetic on a state `S` and the step's rows, element by element. -/
theorem step_read (S : Vec Ideal S32x8x64x64 .f32) (w a bb v kk : Vec Ideal S32x8x64 .f32) (b : Fin 32) (h : Fin 8) (i j : Fin 64) :
    addf (addf (mulf S (broadcastInDim S32x8x64x64 ![0, 1, 2, 3] bcast_S32x8x1x64_S32x8x64x64_0_1_2_3 (broadcastInDim S32x8x1x64 ![0, 1, 3] bcast_S32x8x64_S32x8x1x64_0_1_3 w)))
      (mulf (broadcastInDim S32x8x64x64 ![0, 1, 2, 3] bcast_S32x8x64x1_S32x8x64x64_0_1_2_3 (broadcastInDim S32x8x64x1 ![0, 1, 2] bcast_S32x8x64_S32x8x64x1_0_1_2 (Host.dotGeneral (F := Ideal) (φ₁ := .f32) (φ₂ := .f32) dot_S32x8x64x64_S32x8x64_S32x8x64_3_2_2_n_01_01 none S a)))
        (broadcastInDim S32x8x64x64 ![0, 1, 2, 3] bcast_S32x8x1x64_S32x8x64x64_0_1_2_3 (broadcastInDim S32x8x1x64 ![0, 1, 3] bcast_S32x8x64_S32x8x1x64_0_1_3 bb))))
      (mulf (broadcastInDim S32x8x64x64 ![0, 1, 2, 3] bcast_S32x8x64x1_S32x8x64x64_0_1_2_3 (broadcastInDim S32x8x64x1 ![0, 1, 2] bcast_S32x8x64_S32x8x64x1_0_1_2 v))
        (broadcastInDim S32x8x64x64 ![0, 1, 2, 3] bcast_S32x8x1x64_S32x8x64x64_0_1_2_3 (broadcastInDim S32x8x1x64 ![0, 1, 3] bcast_S32x8x64_S32x8x1x64_0_1_3 kk))) (ix4 b h i j)
      = FloatOps.addf (F := Ideal) (φ := .f32) (FloatOps.addf (F := Ideal) (φ := .f32) (FloatOps.mulf (F := Ideal) (φ := .f32) (S (ix4 b h i j)) (w (ix3 b h j)))
        (FloatOps.mulf (F := Ideal) (φ := .f32) (∑ n : Fin 64, FloatOps.mulf (F := Ideal) (φ := .f32) (S (ix4 b h i n)) (a (ix3 b h n))) (bb (ix3 b h j))))
        (FloatOps.mulf (F := Ideal) (φ := .f32) (v (ix3 b h i)) (kk (ix3 b h j))) := by
  pointwise

/-- What a trip puts out, from the new state `S` and the step's `r`. -/
theorem out_read (S : Vec Ideal S32x8x64x64 .f32) (r : Vec Ideal S32x8x64 .f32) (b : Fin 32) (h : Fin 8) (i : Fin 64) :
    Host.dotGeneral (F := Ideal) (φ₁ := .f32) (φ₂ := .f32) dot_S32x8x64x64_S32x8x64_S32x8x64_3_2_2_n_01_01 none S r (ix3 b h i)
      = ∑ n : Fin 64, FloatOps.mulf (F := Ideal) (φ := .f32) (S (ix4 b h i n)) (r (ix3 b h n)) := by
  pointwise

/-- The same with the rows named: one step of the lane's recurrence. -/
theorem step_lane (S : Vec Ideal S32x8x64x64 .f32) (w a bb v kk : Vec Ideal S32x8x64 .f32) (b : Fin 32) (h : Fin 8) (i j : Fin 64)
    (w' a' b' v' k' : Fin 64 → Ideal .f32) (hw : ∀ j, w (ix3 b h j) = w' j) (ha : ∀ j, a (ix3 b h j) = a' j)
    (hb : ∀ j, bb (ix3 b h j) = b' j) (hv : ∀ j, v (ix3 b h j) = v' j) (hk : ∀ j, kk (ix3 b h j) = k' j) :
    addf (addf (mulf S (broadcastInDim S32x8x64x64 ![0, 1, 2, 3] bcast_S32x8x1x64_S32x8x64x64_0_1_2_3 (broadcastInDim S32x8x1x64 ![0, 1, 3] bcast_S32x8x64_S32x8x1x64_0_1_3 w)))
      (mulf (broadcastInDim S32x8x64x64 ![0, 1, 2, 3] bcast_S32x8x64x1_S32x8x64x64_0_1_2_3 (broadcastInDim S32x8x64x1 ![0, 1, 2] bcast_S32x8x64_S32x8x64x1_0_1_2 (Host.dotGeneral (F := Ideal) (φ₁ := .f32) (φ₂ := .f32) dot_S32x8x64x64_S32x8x64_S32x8x64_3_2_2_n_01_01 none S a)))
        (broadcastInDim S32x8x64x64 ![0, 1, 2, 3] bcast_S32x8x1x64_S32x8x64x64_0_1_2_3 (broadcastInDim S32x8x1x64 ![0, 1, 3] bcast_S32x8x64_S32x8x1x64_0_1_3 bb))))
      (mulf (broadcastInDim S32x8x64x64 ![0, 1, 2, 3] bcast_S32x8x64x1_S32x8x64x64_0_1_2_3 (broadcastInDim S32x8x64x1 ![0, 1, 2] bcast_S32x8x64_S32x8x64x1_0_1_2 v))
        (broadcastInDim S32x8x64x64 ![0, 1, 2, 3] bcast_S32x8x1x64_S32x8x64x64_0_1_2_3 (broadcastInDim S32x8x1x64 ![0, 1, 3] bcast_S32x8x64_S32x8x1x64_0_1_3 kk))) (ix4 b h i j)
      = laneStep (F := Ideal) w' k' v' a' b' (fun j i => S (ix4 b h i j)) j i := by
  rw [step_read]
  unfold laneStep
  rw [addUpTo_64 (fun n => FloatOps.mulf (F := Ideal) (φ := .f32) (S (ix4 b h i n)) (a' n))]
  simp only [hw, ha, hb, hv, hk]

/-- What a trip puts out with the row named. -/
theorem out_lane (S : Vec Ideal S32x8x64x64 .f32) (r : Vec Ideal S32x8x64 .f32) (b : Fin 32) (h : Fin 8) (i : Fin 64)
    (r' : Fin 64 → Ideal .f32) (hr : ∀ j, r (ix3 b h j) = r' j) :
    Host.dotGeneral (F := Ideal) (φ₁ := .f32) (φ₂ := .f32) dot_S32x8x64x64_S32x8x64_S32x8x64_3_2_2_n_01_01 none S r (ix3 b h i)
      = addUpTo (F := Ideal) (fun n => FloatOps.mulf (F := Ideal) (φ := .f32) (S (ix4 b h i (fi n))) (r' (fi n))) 64 := by
  rw [out_read, addUpTo_64 (fun n => FloatOps.mulf (F := Ideal) (φ := .f32) (S (ix4 b h i n)) (r' n))]
  simp only [hr]

/-- An output row put into the array at step `k`, read at step `t`. -/
theorem put_read (Y : Vec Ideal S2048x32x8x64 .f32) (D : Vec Ideal S32x8x64 .f32) (k : Fin 2048) (hs : S2048x32x8x64.Slices ![k.val, 0, 0, 0] S1x32x8x64)
    (t : Fin 2048) (b : Fin 32) (h : Fin 8) (i : Fin 64) :
    updateSlice Y (broadcastInDim S1x32x8x64 ![1, 2, 3] bcast_S32x8x64_S1x32x8x64_1_2_3 D) ![k.val, 0, 0, 0] hs (ix4 t b h i)
      = if t = k then D (ix3 b h i) else Y (ix4 t b h i) := by
  pointwise
  by_cases htk : t = k
  · subst htk
    rw [dif_pos ⟨le_rfl, Nat.lt_succ_self _⟩, if_pos rfl]
  · have : ¬(k.val ≤ t.val ∧ t.val < k.val + 1) := fun h => htk (Fin.ext (by omega))
    rw [dif_neg this, if_neg htk]

/-- One trip's new state, element by element. -/
theorem state_step (V0 : Valuation τ sig (Elt Ideal)) (k : Fin 2048)
    (hk : V0 (Proc.devRef .tc main_v71_6) = fun _ => BitVec.ofNat 32 k.val) (S : Vec Ideal S32x8x64x64 .f32) (W K V A B : Vec Ideal S2048x32x8x64 .f32)
    (hS : V0 (Proc.devRef .tc main_v71_7) = S) (hW : V0 (Proc.devRef .tc main_v71_1) = W) (hK : V0 (Proc.devRef .tc main_v71_2) = K)
    (hV : V0 (Proc.devRef .tc main_v71_3) = V) (hA : V0 (Proc.devRef .tc main_v71_4) = A) (hB : V0 (Proc.devRef .tc main_v71_5) = B)
    (b : Fin 32) (h : Fin 8) (i j : Fin 64) :
    (res_main_while0b_v95 V0 : Vec Ideal S32x8x64x64 .f32) (ix4 b h i j)
      = laneStep (F := Ideal) (fun j => W (ix4 k b h j)) (fun j => K (ix4 k b h j)) (fun i => V (ix4 k b h i)) (fun j => A (ix4 k b h j))
          (fun j => B (ix4 k b h j)) (fun j i => S (ix4 b h i j)) j i := by
  have hr := fun X => row_read X ![V0 (Proc.devRef .tc main_v71_6), constantI S_ 32 0#32, constantI S_ 32 0#32, constantI S_ 32 0#32] k hk rfl rfl rfl
  subst hS hW hK hV hA hB
  exact step_lane _ _ _ _ _ _ b h i j _ _ _ _ _ (fun j => hr _ b h j) (fun j => hr _ b h j) (fun j => hr _ b h j) (fun j => hr _ b h j) (fun j => hr _ b h j)

/-- One trip's output array: the step's row is the new state times `r`, every other row as it was. -/
theorem out_step (V0 : Valuation τ sig (Elt Ideal)) (k : Fin 2048)
    (hk : V0 (Proc.devRef .tc main_v71_6) = fun _ => BitVec.ofNat 32 k.val) (S : Vec Ideal S32x8x64x64 .f32) (R Y : Vec Ideal S2048x32x8x64 .f32)
    (hS : res_main_while0b_v95 V0 = S) (hR : V0 (Proc.devRef .tc main_v71_0) = R) (hY : V0 (Proc.devRef .tc main_v71_8) = Y)
    (t : Fin 2048) (b : Fin 32) (h : Fin 8) (i : Fin 64) :
    (step_main_v71_8 V0 : Vec Ideal S2048x32x8x64 .f32) (ix4 t b h i)
      = if t = k then addUpTo (F := Ideal) (fun n => FloatOps.mulf (F := Ideal) (φ := .f32) (S (ix4 b h i (fi n))) (R (ix4 k b h (fi n)))) 64
        else Y (ix4 t b h i) := by
  have hr := fun X => row_read X ![V0 (Proc.devRef .tc main_v71_6), constantI S_ 32 0#32, constantI S_ 32 0#32, constantI S_ 32 0#32] k hk rfl rfl rfl
  unfold step_main_v71_8
  rw [hS]
  subst hR hY
  have hs : S2048x32x8x64.Slices ![k.val, 0, 0, 0] S1x32x8x64 := ⟨rfl, fun a => by fin_cases a <;> simp <;> omega⟩
  rw [WordCmp.dynamicUpdateSlice_eq_update _ _ _ _ ![k.val, 0, 0, 0] hs (fun a => by
    have e : (BitVec.ofNat 32 k.val).toInt = (k.val : ℤ) := by
      rw [BitVec.toInt_eq_toNat_of_lt] <;> simp <;> omega
    fin_cases a
    · show (V0 (Proc.devRef .tc main_v71_6) _).toInt = _; rw [hk]; exact e
    · rfl
    · rfl
    · rfl)]
  refine (put_read _ _ k hs t b h i).trans ?_
  by_cases htk : t = k
  · rw [if_pos htk, if_pos htk]
    exact out_lane _ _ b h i (fun j => (V0 (Proc.devRef .tc main_v71_0) : Vec Ideal S2048x32x8x64 .f32) (ix4 k b h j)) (fun j => hr _ b h j)
  · rw [if_neg htk, if_neg htk]

variable (m : (ℓ : Loc nD τ sig) → Buf (Elt Ideal) ℓ)

/-- The contents before trip `k`. -/
abbrev at_ (c : Dev nD) (k : ℕ) : Valuation τ sig (Elt Ideal) := STEP^[k] (entryContents preI m c)

/-- The carried buffers the loop only reads hold, before every trip, what they held before the first. -/
theorem at_0 (c : Dev nD) : ∀ k, at_ m c k (Proc.devRef .tc main_v71_0) = at_ m c 0 (Proc.devRef .tc main_v71_0)
  | 0 => rfl
  | k + 1 => by rw [at_, Function.iterate_succ_apply', STEP_main_v71_0]; exact at_0 c k
theorem at_1 (c : Dev nD) : ∀ k, at_ m c k (Proc.devRef .tc main_v71_1) = at_ m c 0 (Proc.devRef .tc main_v71_1)
  | 0 => rfl
  | k + 1 => by rw [at_, Function.iterate_succ_apply', STEP_main_v71_1]; exact at_1 c k
theorem at_2 (c : Dev nD) : ∀ k, at_ m c k (Proc.devRef .tc main_v71_2) = at_ m c 0 (Proc.devRef .tc main_v71_2)
  | 0 => rfl
  | k + 1 => by rw [at_, Function.iterate_succ_apply', STEP_main_v71_2]; exact at_2 c k
theorem at_3 (c : Dev nD) : ∀ k, at_ m c k (Proc.devRef .tc main_v71_3) = at_ m c 0 (Proc.devRef .tc main_v71_3)
  | 0 => rfl
  | k + 1 => by rw [at_, Function.iterate_succ_apply', STEP_main_v71_3]; exact at_3 c k
theorem at_4 (c : Dev nD) : ∀ k, at_ m c k (Proc.devRef .tc main_v71_4) = at_ m c 0 (Proc.devRef .tc main_v71_4)
  | 0 => rfl
  | k + 1 => by rw [at_, Function.iterate_succ_apply', STEP_main_v71_4]; exact at_4 c k
theorem at_5 (c : Dev nD) : ∀ k, at_ m c k (Proc.devRef .tc main_v71_5) = at_ m c 0 (Proc.devRef .tc main_v71_5)
  | 0 => rfl
  | k + 1 => by rw [at_, Function.iterate_succ_apply', STEP_main_v71_5]; exact at_5 c k

/-- The counter before trip `k` is `k`. -/
theorem at_6 (c : Dev nD) : ∀ k, at_ m c k (Proc.devRef .tc main_v71_6) = fun _ => BitVec.ofNat 32 k
  | 0 => by
    refine (ScanPrepRef.entry_eq m c main_v71_6).trans ?_
    after_results
    rfl
  | k + 1 => by
    rw [at_, Function.iterate_succ_apply', STEP_main_v71_6]
    unfold step_main_v71_6
    rw [show (STEP^[k] (entryContents preI m c)) (Proc.devRef .tc main_v71_6) = _ from at_6 c k]
    funext x
    show IntOp.addi (BitVec.ofNat 32 k) 1#32 = _
    exact (BitVec.ofNat_add k 1).symm

/-- The six scanned arrays, from the arguments. -/
abbrev X0 (c : Dev nD) : Vec Ideal S32x2048x8x64 .f32 := ScanPrep.x0 (ScanPrepRef.args m c)
abbrev X1 (c : Dev nD) : Vec Ideal S32x2048x8x64 .f32 := ScanPrep.x1 (ScanPrepRef.args m c) (m ((c.tc : Thread nD τ).loc main_arg2)) (m ((c.tc : Thread nD τ).loc main_arg3))
abbrev X2 (c : Dev nD) : Vec Ideal S32x2048x8x64 .f32 :=
  ScanPrep.x2 (ScanPrepRef.args m c) (m ((c.tc : Thread nD τ).loc main_arg4)) (m ((c.tc : Thread nD τ).loc main_arg5)) (m ((c.tc : Thread nD τ).loc main_arg7))
abbrev X3 (c : Dev nD) : Vec Ideal S32x2048x8x64 .f32 := ScanPrep.x3 (ScanPrepRef.args m c)
abbrev X4 (c : Dev nD) : Vec Ideal S32x2048x8x64 .f32 := ScanPrep.x4 (ScanPrepRef.args m c) (m ((c.tc : Thread nD τ).loc main_arg6))
abbrev X5 (c : Dev nD) : Vec Ideal S32x2048x8x64 .f32 :=
  ScanPrep.x5 (ScanPrepRef.args m c) (m ((c.tc : Thread nD τ).loc main_arg4)) (m ((c.tc : Thread nD τ).loc main_arg5)) (m ((c.tc : Thread nD τ).loc main_arg6))

/-- An array with its steps in front, read at an index. -/
theorem byStep_apply (X : Vec Ideal S32x2048x8x64 .f32) (t : Fin 2048) (b : Fin 32) (h : Fin 8) (j : Fin 64) :
    ScanPrepRef.byStep X (ix4 t b h j) = X (ix4 b t h j) := by
  unfold ScanPrepRef.byStep
  pointwise

/-- Before the first trip each scanned buffer holds its array, the steps in front. -/
theorem entry_0 (c : Dev nD) (t : Fin 2048) (b : Fin 32) (h : Fin 8) (j : Fin 64) :
    (at_ m c 0 (Proc.devRef .tc main_v71_0) : Vec Ideal S2048x32x8x64 .f32) (ix4 t b h j) = X0 m c (ix4 b t h j) :=
  (congrFun (ScanPrepRef.arr_0 m c) _).trans (byStep_apply _ t b h j)
theorem entry_1 (c : Dev nD) (t : Fin 2048) (b : Fin 32) (h : Fin 8) (j : Fin 64) :
    (at_ m c 0 (Proc.devRef .tc main_v71_1) : Vec Ideal S2048x32x8x64 .f32) (ix4 t b h j) = X1 m c (ix4 b t h j) :=
  (congrFun (ScanPrepRef.arr_1 m c) _).trans (byStep_apply _ t b h j)
theorem entry_2 (c : Dev nD) (t : Fin 2048) (b : Fin 32) (h : Fin 8) (j : Fin 64) :
    (at_ m c 0 (Proc.devRef .tc main_v71_2) : Vec Ideal S2048x32x8x64 .f32) (ix4 t b h j) = X2 m c (ix4 b t h j) :=
  (congrFun (ScanPrepRef.arr_2 m c) _).trans (byStep_apply _ t b h j)
theorem entry_3 (c : Dev nD) (t : Fin 2048) (b : Fin 32) (h : Fin 8) (j : Fin 64) :
    (at_ m c 0 (Proc.devRef .tc main_v71_3) : Vec Ideal S2048x32x8x64 .f32) (ix4 t b h j) = X3 m c (ix4 b t h j) :=
  (congrFun (ScanPrepRef.arr_3 m c) _).trans (byStep_apply _ t b h j)
theorem entry_4 (c : Dev nD) (t : Fin 2048) (b : Fin 32) (h : Fin 8) (j : Fin 64) :
    (at_ m c 0 (Proc.devRef .tc main_v71_4) : Vec Ideal S2048x32x8x64 .f32) (ix4 t b h j) = X4 m c (ix4 b t h j) :=
  (congrFun (ScanPrepRef.arr_4 m c) _).trans (byStep_apply _ t b h j)
theorem entry_5 (c : Dev nD) (t : Fin 2048) (b : Fin 32) (h : Fin 8) (j : Fin 64) :
    (at_ m c 0 (Proc.devRef .tc main_v71_5) : Vec Ideal S2048x32x8x64 .f32) (ix4 t b h j) = X5 m c (ix4 b t h j) :=
  (congrFun (ScanPrepRef.arr_5 m c) _).trans (byStep_apply _ t b h j)
/-- Before the first trip the state is zero. -/
theorem entry_7 (c : Dev nD) : at_ m c 0 (Proc.devRef .tc main_v71_7) = fun _ => Ideal.ofBits .f32 0x00000000#32 := by
  refine (ScanPrepRef.entry_eq m c main_v71_7).trans ?_
  after_results
  rfl

/-- Lane `l` as (batch, head). -/
abbrev lb (l : Fin 256) : Fin 32 := ⟨l.val / 8, by omega⟩
abbrev lh (l : Fin 256) : Fin 8 := ⟨l.val % 8, by omega⟩

/-- The lane's state after `n` steps, from the arguments. -/
def refState (c : Dev nD) (l : Fin 256) (n : ℕ) : Fin 64 → Fin 64 → Ideal .f32 :=
  laneState (F := Ideal) (argLane (X1 m c) l) (argLane (X2 m c) l)
    (argLane (X3 m c) l) (argLane (X4 m c) l)
    (argLane (X5 m c) l) n

/-- The lane's output at step `n`, from the arguments. -/
def refOut (c : Dev nD) (l : Fin 256) (n : ℕ) (i : Fin 64) : Ideal .f32 :=
  laneOut (F := Ideal) (argLane (X0 m c) l) (argLane (X1 m c) l) (argLane (X2 m c) l)
    (argLane (X3 m c) l) (argLane (X4 m c) l)
    (argLane (X5 m c) l) n i

/-- A scanned buffer's row at a step is its argument's lane there. -/
theorem row_of (l : Fin 256) (k : Fin 2048) (Z : Vec Ideal S2048x32x8x64 .f32) (X : Vec Ideal S32x2048x8x64 .f32)
    (hZ : ∀ t b h j, Z (ix4 t b h j) = X (ix4 b t h j)) :
    (fun j => Z (ix4 k (lb l) (lh l) j)) = argLane (F := Ideal) X l k.val := by
  funext j
  have e : tk k.val = k := Fin.ext (Nat.mod_eq_of_lt k.isLt)
  unfold argLane
  rw [hZ, e]

/-- Equal rows and states step alike. -/
theorem laneStep_congr {w w' k k' v v' a a' b b' : Fin 64 → Ideal .f32} {s s' : Fin 64 → Fin 64 → Ideal .f32} (hw : w = w') (hk : k = k')
    (hv : v = v') (ha : a = a') (hb : b = b') (hs : s = s') (j i : Fin 64) :
    laneStep (F := Ideal) w k v a b s j i = laneStep (F := Ideal) w' k' v' a' b' s' j i := by
  subst hw hk hv ha hb hs; rfl

/-- A state and a row that read as the lane's put out what the lane puts out. -/
theorem laneSum_congr (S : Vec Ideal S32x8x64x64 .f32) (R : Vec Ideal S2048x32x8x64 .f32) (k : Fin 2048) (b : Fin 32) (h : Fin 8) (i : Fin 64)
    (s' r' : Fin 64 → Ideal .f32) (hs : ∀ j, S (ix4 b h i j) = s' j) (hr : ∀ j, R (ix4 k b h j) = r' j) :
    addUpTo (F := Ideal) (fun n => FloatOps.mulf (F := Ideal) (φ := .f32) (S (ix4 b h i (fi n))) (R (ix4 k b h (fi n)))) 64
      = addUpTo (F := Ideal) (fun n => FloatOps.mulf (F := Ideal) (φ := .f32) (s' (fi n)) (r' (fi n))) 64 := by
  simp only [hs, hr]

/-- The lane's output is its new state times its `r`. -/
theorem refOut_eq (c : Dev nD) (l : Fin 256) (n : ℕ) (i : Fin 64) :
    refOut m c l n i = addUpTo (F := Ideal) (fun j => FloatOps.mulf (F := Ideal) (φ := .f32) (refState m c l (n + 1) (fi j) i)
      (argLane (F := Ideal) (X0 m c) l n (fi j))) 64 := rfl

/-- The new state of trip `k`, lane by lane, given the state before it. -/
theorem next_state (c : Dev nD) (k : Fin 2048) (l : Fin 256)
    (ih : ∀ i j, (at_ m c k.val (Proc.devRef .tc main_v71_7) : Vec Ideal S32x8x64x64 .f32) (ix4 (lb l) (lh l) i j) = refState m c l k.val j i) (i j : Fin 64) :
    (res_main_while0b_v95 (at_ m c k.val) : Vec Ideal S32x8x64x64 .f32) (ix4 (lb l) (lh l) i j) = refState m c l (k.val + 1) j i := by
  refine (state_step (at_ m c k.val) k (at_6 m c k.val) _ _ _ _ _ _ rfl (at_1 m c k.val) (at_2 m c k.val) (at_3 m c k.val) (at_4 m c k.val) (at_5 m c k.val) (lb l) (lh l) i j).trans ?_
  exact laneStep_congr (row_of l k _ _ (entry_1 m c)) (row_of l k _ _ (entry_2 m c)) (row_of l k _ _ (entry_3 m c)) (row_of l k _ _ (entry_4 m c))
    (row_of l k _ _ (entry_5 m c)) (funext fun j => funext fun i => ih i j) j i

/-- The output array after trip `k`, lane by lane, given the new state and the array before it. -/
theorem next_out (c : Dev nD) (k : Fin 2048) (l : Fin 256)
    (hn : ∀ i j, (res_main_while0b_v95 (at_ m c k.val) : Vec Ideal S32x8x64x64 .f32) (ix4 (lb l) (lh l) i j) = refState m c l (k.val + 1) j i)
    (ih : ∀ (t : Fin 2048) (i : Fin 64), t.val < k.val →
      (at_ m c k.val (Proc.devRef .tc main_v71_8) : Vec Ideal S2048x32x8x64 .f32) (ix4 t (lb l) (lh l) i) = refOut m c l t.val i)
    (t : Fin 2048) (i : Fin 64) (ht : t.val < k.val + 1) :
    (step_main_v71_8 (at_ m c k.val) : Vec Ideal S2048x32x8x64 .f32) (ix4 t (lb l) (lh l) i) = refOut m c l t.val i := by
  have er := row_of l k (at_ m c 0 (Proc.devRef .tc main_v71_0)) (X0 m c) (entry_0 m c)
  have e := out_step (at_ m c k.val) k (at_6 m c k.val) (res_main_while0b_v95 (at_ m c k.val)) (at_ m c 0 (Proc.devRef .tc main_v71_0))
    (at_ m c k.val (Proc.devRef .tc main_v71_8)) rfl (at_0 m c k.val) rfl t (lb l) (lh l) i
  have e2 := laneSum_congr (res_main_while0b_v95 (at_ m c k.val)) (at_ m c 0 (Proc.devRef .tc main_v71_0)) k (lb l) (lh l) i
    (fun j => refState m c l (k.val + 1) j i) (argLane (F := Ideal) (X0 m c) l k.val) (hn i) (fun j => congrFun er j)
  refine e.trans ?_
  by_cases htk : t = k
  · refine (if_pos htk).trans (e2.trans ?_)
    rw [htk]
    exact (refOut_eq m c l k.val i).symm
  · refine (if_neg htk).trans ?_
    have : t.val ≠ k.val := fun h => htk (Fin.ext h)
    exact ih t i (by omega)

/-- Before trip `k`, lane by lane: the state of `k` steps, and every earlier step's output. -/
theorem at_lane (c : Dev nD) (l : Fin 256) : ∀ k, k ≤ 2048 →
    (∀ i j, (at_ m c k (Proc.devRef .tc main_v71_7) : Vec Ideal S32x8x64x64 .f32) (ix4 (lb l) (lh l) i j) = refState m c l k j i)
    ∧ ∀ (t : Fin 2048) (i : Fin 64), t.val < k →
      (at_ m c k (Proc.devRef .tc main_v71_8) : Vec Ideal S2048x32x8x64 .f32) (ix4 t (lb l) (lh l) i) = refOut m c l t.val i
  | 0, _ => ⟨fun i j => by rw [entry_7]; rfl, fun t i h => absurd h (Nat.not_lt_zero _)⟩
  | k + 1, hk => by
    have ih := at_lane c l k (by omega)
    have hn := next_state m c ⟨k, hk⟩ l ih.1
    refine ⟨fun i j => ?_, fun t i ht => ?_⟩
    · have e : at_ m c (k + 1) (Proc.devRef .tc main_v71_7) = res_main_while0b_v95 (at_ m c k) := by
        rw [at_, Function.iterate_succ_apply', STEP_main_v71_7]; rfl
      rw [e]
      exact hn i j
    · have e : at_ m c (k + 1) (Proc.devRef .tc main_v71_8) = step_main_v71_8 (at_ m c k) := by
        rw [at_, Function.iterate_succ_apply', STEP_main_v71_8]
      rw [e]
      exact next_out m c ⟨k, hk⟩ l hn ih.2 t i ht

/-- The reference's result: at step `t`, lane `l`, row `i` of the lane's output. -/
theorem result (c : Dev nD) (t : Fin 2048) (i : Fin 64) (l : Fin 256) :
    (out_main_v73 (at_ m c 2048) : Vec Ideal S2048x64x256 .f32) (ix3 t i l) = refOut m c l t.val i := by
  refine Eq.trans ?_ ((at_lane m c l 2048 le_rfl).2 t i t.isLt)
  unfold out_main_v73
  generalize at_ m c 2048 (Proc.devRef .tc main_v71_8) = Y
  pointwise

end Cert.ScanRef

end
-- ==== Proof.ScanClaim.lean ====
/- The scan's runs, each with its result in one form: at step `t` and lane `l`, row `i` of the lane's output, a function of the arguments. -/
module

public import proofs.«01_k».proof.Proof.ScanArgs
public import proofs.«01_k».proof.Proof.RefValue
public import Idealize.ShloMosaic.Lib.Quiescent

@[expose] public section

set_option maxRecDepth 16384

noncomputable section

namespace Cert.Scan

open Idealize.ShloMosaic Idealize.SL.Sem

/-- The scan of six arrays: at step `y 0`, head dimension `y 1` and lane `y 2`, the lane's output. -/
def scanOut (X0 X1 X2 X3 X4 X5 : Vec Ideal ⟨4, ![32, 2048, 8, 64]⟩ .f32) : Vec Ideal ⟨3, ![2048, 64, 256]⟩ .f32 := fun y =>
  laneOut (F := Ideal) (argLane X0 (y 2)) (argLane X1 (y 2)) (argLane X2 (y 2)) (argLane X3 (y 2)) (argLane X4 (y 2)) (argLane X5 (y 2)) (y 0).val (y 1)

/-- Both results, from the eight arguments: the scan of the arrays prepared from them. -/
def mixOut (P : Vec Ideal ⟨3, ![32, 2048, 3248]⟩ .f32) (MU : Vec Ideal ⟨1, ![1696]⟩ .f32) (W0 : Vec Ideal ⟨1, ![512]⟩ .f32) (W2 : Vec Ideal ⟨2, ![32, 512]⟩ .f32)
    (A0 : Vec Ideal ⟨1, ![512]⟩ .f32) (A2 : Vec Ideal ⟨2, ![32, 512]⟩ .f32) (KK KA : Vec Ideal ⟨1, ![512]⟩ .f32) : Vec Ideal ⟨3, ![2048, 64, 256]⟩ .f32 :=
  scanOut (ScanPrep.x0 (ScanPrep.shifted P MU)) (ScanPrep.x1 (ScanPrep.shifted P MU) W0 W2) (ScanPrep.x2 (ScanPrep.shifted P MU) A0 A2 KA)
    (ScanPrep.x3 (ScanPrep.shifted P MU)) (ScanPrep.x4 (ScanPrep.shifted P MU) KK) (ScanPrep.x5 (ScanPrep.shifted P MU) A0 A2 KK)

/-- The kernel runs to `mixOut` of its arguments and leaves them as they were. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v76)
        = mixOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5))
            (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  refine (θ_run _ _ _).mono (fun r h c => ⟨?_, h.2.1 c⟩) (θ_run_and (run_quiescent m ρ) (frame_run m ρ))
  refine ((h.1.1 c).1 6).trans ((final_arr m c).trans ?_)
  funext y
  exact outOf_args m c (y 2) (y 0).val (y 1)

/-- The reference runs to `mixOut` of its arguments and leaves them as they were. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v73)
        = mixOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) := by
  refine (θ_run _ _ _).mono (fun r h c => ⟨(h c).1.trans ?_, (h c).2⟩) (Cert.ReferenceIdeal.Value.run (F := Ideal) m ρ)
  funext y
  rw [eq_ix3 y]
  exact Cert.ScanRef.result m c (y 0) (y 1) (y 2)

end Cert.Scan

end
-- ==== Proof.SameText.lean ====
/- The scan's program and its reading over the extended reals have one text: their body tables are equal over any float values. -/
module

public import proofs.«01_k».proof.Proof.Gen.Kernel
public import proofs.«01_k».proof.Proof.Gen.KernelIdeal

@[expose] public section

set_option maxRecDepth 16384

namespace Cert.Scan

open Idealize.ShloMosaic

variable [hK : Cert.Kernel.Facts] [hI : Cert.KernelIdeal.Facts] {F : FTy → Type} [FloatOps F]

set_option maxHeartbeats 8000000 in
/-- The two kernels' bodies, label by label. -/
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

/-- The two body tables with the pipeline. -/
theorem defs_same : Cert.Kernel.defs (F := F) = Cert.KernelIdeal.defs (F := F) := congrArg (Pipeline.defs Cert.KernelIdeal.pcfgs) defs₀_same

end Cert.Scan
-- ==== Proof.Projection.lean ====
/- A projection of every token, as a function of the tokens and the weights: what the three projection calls and their references compute. -/
module

public import Idealize.ShloMosaic.PureOps.Ideal
public import Idealize.ShloMosaic.Lib.ValueIdx
public import Idealize.ShloMosaic.Lib.Pointwise

@[expose] public section

noncomputable section

namespace Cert.Projection

open Idealize.ShloMosaic hiding ix2 ix3 eq_ix2 eq_ix3

/-- The batch element of row `r` of the 65536 rows (batch and step as one index). -/
def batch (r : Fin 65536) : Fin 32 := ⟨r.val / 2048, by omega⟩

/-- Its step. -/
def step (r : Fin 65536) : Fin 2048 := ⟨r.val % 2048, by omega⟩

/-- Column `n` of row `r`'s projection: the token's 1024 entries against the weights' column. -/
def entry {N : ℕ} (X : Fin 32 → Fin 2048 → Fin 1024 → Ideal .f32) (W : Fin 1024 → Fin N → Ideal .f32) (r : Fin 65536) (n : Fin N) : Ideal .f32 :=
  ∑ k : Fin 1024, X (batch r) (step r) k * W k n

/-- The projection of every token. -/
def proj {N : ℕ} (X : Fin 32 → Fin 2048 → Fin 1024 → Ideal .f32) (W : Fin 1024 → Fin N → Ideal .f32) : Vec Ideal ⟨2, ![65536, N]⟩ .f32 := fun y =>
  entry X W (y 0) (y 1)

/-- A row against a column is an entry of the projection when the row is that token's and the column that column's. -/
theorem sum_eq_entry {N : ℕ} {X : Fin 32 → Fin 2048 → Fin 1024 → Ideal .f32} {W : Fin 1024 → Fin N → Ideal .f32} {r : Fin 65536} {n : Fin N}
    {x w : Fin 1024 → Ideal .f32} (hx : ∀ k, x k = X (batch r) (step r) k) (hw : ∀ k, w k = W k n) : ∑ k : Fin 1024, x k * w k = entry X W r n :=
  Finset.sum_congr rfl fun k _ => by rw [hx, hw]

end Cert.Projection

end
-- ==== Proof.ProjEvenIn.lean ====
/- The even layers' input projection: the kernel's row blocks, put together, are one product of all rows. -/
module

public import proofs.«01_k».proof.Proof.Gen.Kernel2Ideal.Value
public import proofs.«01_k».proof.Proof.Gen.Reference2Ideal.Run
public import proofs.«01_k».proof.Proof.Projection
public import Idealize.ShloMosaic.Lib.Pipeline.Value
public import Idealize.ShloMosaic.Lib.Pipeline.ValueKit

@[expose] public section

set_option maxRecDepth 16384

noncomputable section

namespace Cert.ProjEvenIn

open Cert.Kernel2Ideal Cert.Kernel2Ideal.Gen Cert.Projection
open Idealize.ShloMosaic hiding ix2 ix3 eq_ix2 eq_ix3
open Idealize.ShloMosaic.TcCoe Idealize.SL.Sem
open Idealize.ShloMosaic.ValueIdx (ix2 ix3 eq_ix2 eq_ix3)

/-- Both results, from the arguments: every token's projection. -/
def out (X : Vec Ideal S32x2048x1024 .f32) (W : Vec Ideal S1024x3248 .f32) : Vec Ideal S65536x3248 .f32 :=
  proj (fun b t k => X (ix3 b t k)) (fun k n => W (ix2 k n))

variable (m : (ℓ : Loc nD τ sig) → Buf (Elt Ideal) ℓ)

/-- The block numbers of the windows at point `t`. -/
theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)

/-- Row `r` of block `t`. -/
def row (t : Fin cfg0.N) (r : Fin 512) : Fin 65536 := ⟨t.val * 512 + r.val, by have := t.isLt; have h : cfg0.N = 128 := rfl; omega⟩

/-- The tokens the region finds, from the argument. -/
theorem arr_x (c : Dev nD) (r : Fin 65536) (k : Fin 1024) :
    V m c main_v0 (ix2 r k) = m ((c.tc : Thread nD τ).loc main_arg0) (ix3 (batch r) (step r) k) := by
  entry_read
  pointwise
  rfl

/-- The weights it finds; their rounding to bfloat16 is the identity over the extended reals. -/
theorem arr_w (c : Dev nD) (k : Fin 1024) (n : Fin 3248) :
    V m c main_v1 (ix2 k n) = m ((c.tc : Thread nD τ).loc main_arg1) (ix2 k n) := by
  entry_read
  pointwise

/-- What a point's body leaves in the output block. -/
theorem block (x : Vec Ideal S512x1024 .f32) (w : Vec Ideal S1024x3248 .bf16) (r : Fin 512) (n : Fin 3248) :
    out0_2 x w (ix2 r n) = ∑ k : Fin 1024, x (ix2 r k) * w (ix2 k n) := by
  have hz : (![0, 0] : Fin 2 → ℕ) = fun _ => 0 := by decide
  unfold out0_2
  rw [View.canon_unit_zero hz, View.ld_unit_zero hz, View.ld_unit_zero hz]
  unfold k0_pay1
  pointwise
  rfl

set_option backward.isDefEq.respectTransparency.types false in
/-- The output array after the run. -/
theorem final_arr (c : Dev nD) : (dats m 0 c).arrAt 2 cfg0.N
    = out (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, n, rfl⟩ : ∃ (r : Fin 512) (n : Fin 3248), y = ix2 r n := ⟨y 0, y 1, eq_ix2 _⟩
  refine (block _ _ r n).trans ?_
  have e : (win0_2.blk t).view.emb (ix2 r n) = ix2 (row t r) n := by
    simp only [← ix2_eq_valueIdx]
    blk_ext [idx_2 t, row]
  show _ = out _ _ ((win0_2.blk t).view.emb (ix2 r n))
  rw [e]
  refine sum_eq_entry (X := fun b t k => m ((c.tc : Thread nD τ).loc main_arg0) (ix3 b t k)) (W := fun k n => m ((c.tc : Thread nD τ).loc main_arg1) (ix2 k n)) (r := row t r) (n := n)
    (x := fun k => iblk m c 0 t (ix2 r k)) (w := fun k => iblk m c 1 t (ix2 k n)) (fun k => ?_) (fun k => ?_)
  · have e0 : iblk m c 0 t (ix2 r k) = V m c main_v0 (ix2 (row t r) k) := by
      simp only [← ix2_eq_valueIdx]
      blk_ext [iblk, idx_0 t, row]
    exact e0.trans (arr_x m c (row t r) k)
  · have e1 : iblk m c 1 t (ix2 k n) = V m c main_v1 (ix2 k n) := by
      simp only [← ix2_eq_valueIdx]
      blk_ext [iblk, idx_1 t]
    exact e1.trans (arr_w m c k n)

/-- The kernel runs to `out` of its arguments and leaves them as they were. -/
theorem run_kernel (ρ : Dev nD → PrngReg) : θ_run defs (onTc (τ := τ) (main (F := Ideal))) ⟨m, fun _ => 0, ρ⟩ fun r => ∀ c : Dev nD,
      r.2.mem ((c.tc : Thread nD τ).loc main_v2) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (final_arr m c), (h c).2⟩) (Cert.Kernel2Ideal.Value.run_blocks (F := Ideal) m ρ)

end Cert.ProjEvenIn

namespace Cert.ProjEvenInRef

open Cert.Reference2Ideal Cert.Reference2Ideal.Gen Cert.Projection
open Idealize.ShloMosaic hiding ix2 ix3 eq_ix2 eq_ix3
open Idealize.ShloMosaic.TcCoe Idealize.SL.Sem
open Idealize.ShloMosaic.ValueIdx (ix2 ix3 eq_ix2 eq_ix3)

/-- The reference's composed operations, read at an index. -/
theorem value (X : Vec Ideal S32x2048x1024 .f32) (W : Vec Ideal S1024x3248 .f32) :
    shapeCast S65536x3248 (Host.dotGeneral (F := Ideal) (φ₁ := .f32) (φ₂ := .f32) dot_S32x2048x1024_S1024x3248_S32x2048x3248_2_0_01_1_n_n none X W) shapeCasts_S32x2048x3248_S65536x3248
      = Cert.ProjEvenIn.out X W := by
  funext y
  obtain ⟨r, n, rfl⟩ : ∃ (r : Fin 65536) (n : Fin 3248), y = ix2 r n := ⟨y 0, y 1, eq_ix2 _⟩
  show _ = ∑ k : Fin 1024, X (ix3 (batch r) (step r) k) * W (ix2 k n)
  pointwise
  rfl

/-- The reference runs to `out` of its arguments and leaves them as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Cert.ProjEvenIn.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (value _ _), (h c).2⟩) (Cert.Reference2Ideal.Value.run (F := Ideal) m ρ)

end Cert.ProjEvenInRef

end
-- ==== Proof.ProjOddIn.lean ====
/- The odd layers' input projection: the kernel's row blocks, put together, are one product of all rows. -/
module

public import proofs.«01_k».proof.Proof.Gen.Kernel3Ideal.Value
public import proofs.«01_k».proof.Proof.Gen.Reference3Ideal.Run
public import proofs.«01_k».proof.Proof.Projection
public import Idealize.ShloMosaic.Lib.Pipeline.Value
public import Idealize.ShloMosaic.Lib.Pipeline.ValueKit

@[expose] public section

set_option maxRecDepth 16384

noncomputable section

namespace Cert.ProjOddIn

open Cert.Kernel3Ideal Cert.Kernel3Ideal.Gen Cert.Projection
open Idealize.ShloMosaic hiding ix2 ix3 eq_ix2 eq_ix3
open Idealize.ShloMosaic.TcCoe Idealize.SL.Sem
open Idealize.ShloMosaic.ValueIdx (ix2 ix3 eq_ix2 eq_ix3)

/-- The input projection's column that stands at column `n` of the result: the queries, the index queries, the keys, the values, the index
    keys, the index weights; none past them. -/
def src (n : Fin 1920) : Option (Fin 1864) :=
  if h : n.val < 1024 then some ⟨n.val, by omega⟩
  else if h1 : n.val < 1536 then some ⟨n.val + 256, by omega⟩
  else if h2 : n.val < 1792 then some ⟨n.val - 512, by omega⟩
  else if h3 : n.val < 1864 then some ⟨n.val, h3⟩
  else none

/-- A function of the columns, rearranged group by group, is the function of the column that stands there. -/
theorem pick {α : Type} (f : Fin 1864 → α) (z : α) (n : Fin 1920) :
    (if h : n.val < 1024 then f ⟨n.val, by omega⟩
    else if h1 : n.val - 1024 < 512 then f ⟨1280 + (n.val - 1024), by omega⟩
    else if h2 : n.val - 1024 - 512 < 128 then f ⟨1024 + (n.val - 1024 - 512), by omega⟩
    else if h3 : n.val - 1024 - 512 - 128 < 128 then f ⟨1152 + (n.val - 1024 - 512 - 128), by omega⟩
    else if h4 : n.val - 1024 - 512 - 128 - 128 < 64 then f ⟨1792 + (n.val - 1024 - 512 - 128 - 128), by omega⟩
    else if h5 : n.val - 1024 - 512 - 128 - 128 - 64 < 8 then f ⟨1856 + (n.val - 1024 - 512 - 128 - 128 - 64), by omega⟩
    else z) = (src n).elim z f := by
  unfold src
  split_ifs <;> first | omega | rfl | exact congrArg f (Fin.ext (by show _ = _; simp only []; omega))

/-- The rearranged weights, read at an index. -/
theorem cat_apply (W : Vec Ideal S1024x1864 .f32) (k : Fin 1024) (n : Fin 1920) :
    (concatenate S1024x1920 1 [⟨S1024x1024, extractStridedSlice S1024x1024 ![0, 0] W slices_S1024x1864_S1024x1024_0_0⟩, ⟨S1024x512, extractStridedSlice S1024x512 ![0, 1280] W slices_S1024x1864_S1024x512_0_1280⟩,
        ⟨S1024x128, extractStridedSlice S1024x128 ![0, 1024] W slices_S1024x1864_S1024x128_0_1024⟩, ⟨S1024x128, extractStridedSlice S1024x128 ![0, 1152] W slices_S1024x1864_S1024x128_0_1152⟩,
        ⟨S1024x64, extractStridedSlice S1024x64 ![0, 1792] W slices_S1024x1864_S1024x64_0_1792⟩, ⟨S1024x8, extractStridedSlice S1024x8 ![0, 1856] W slices_S1024x1864_S1024x8_0_1856⟩,
        ⟨S1024x56, broadcastInDim S1024x56 ![] bcast_S_S1024x56 (constant (F := Ideal) S_ .f32 0x00000000#32 : Vec Ideal S_ .f32)⟩] concatenates_S1024x1024_S1024x512_S1024x128_S1024x128_S1024x64_S1024x8_S1024x56_S1024x1920_d1 : Vec Ideal S1024x1920 .f32) (ix2 k n) = (src n).elim 0 (fun j => W (ix2 k j)) := by
  pointwise
  exact pick (fun j => W (ix2 k j)) 0 n

/-- Both results, from the arguments: every token's projection, its columns rearranged. -/
def out (X : Vec Ideal S32x2048x1024 .f32) (W : Vec Ideal S1024x1864 .f32) : Vec Ideal S65536x1920 .f32 :=
  proj (fun b t k => X (ix3 b t k)) (fun k n => (src n).elim 0 (fun j => W (ix2 k j)))

variable (m : (ℓ : Loc nD τ sig) → Buf (Elt Ideal) ℓ)

/-- The block numbers of the windows at point `t`. -/
theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)

/-- Row `r` of block `t`. -/
def row (t : Fin cfg0.N) (r : Fin 512) : Fin 65536 := ⟨t.val * 512 + r.val, by have := t.isLt; have h : cfg0.N = 128 := rfl; omega⟩

/-- The tokens the region finds, from the argument. -/
theorem arr_x (c : Dev nD) (r : Fin 65536) (k : Fin 1024) :
    V m c main_v8 (ix2 r k) = m ((c.tc : Thread nD τ).loc main_arg0) (ix3 (batch r) (step r) k) := by
  entry_read
  pointwise
  rfl

/-- The weights it finds, rearranged; their rounding to bfloat16 is the identity over the extended reals. -/
theorem arr_w (c : Dev nD) (k : Fin 1024) (n : Fin 1920) :
    V m c main_v9 (ix2 k n) = (src n).elim (0 : Ideal .f32) (fun j => m ((c.tc : Thread nD τ).loc main_arg1) (ix2 k j)) := by
  refine Eq.trans ?_ (cat_apply (m ((c.tc : Thread nD τ).loc main_arg1)) k n)
  rfl

/-- What a point's body leaves in the output block. -/
theorem block (x : Vec Ideal S512x1024 .f32) (w : Vec Ideal S1024x1920 .bf16) (r : Fin 512) (n : Fin 1920) :
    out0_2 x w (ix2 r n) = ∑ k : Fin 1024, x (ix2 r k) * w (ix2 k n) := by
  have hz : (![0, 0] : Fin 2 → ℕ) = fun _ => 0 := by decide
  unfold out0_2
  rw [View.canon_unit_zero hz, View.ld_unit_zero hz, View.ld_unit_zero hz]
  unfold k0_pay1
  pointwise
  rfl

set_option backward.isDefEq.respectTransparency.types false in
/-- The output array after the run. -/
theorem final_arr (c : Dev nD) : (dats m 0 c).arrAt 2 cfg0.N
    = out (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, n, rfl⟩ : ∃ (r : Fin 512) (n : Fin 1920), y = ix2 r n := ⟨y 0, y 1, eq_ix2 _⟩
  refine (block _ _ r n).trans ?_
  have e : (win0_2.blk t).view.emb (ix2 r n) = ix2 (row t r) n := by
    simp only [← ix2_eq_valueIdx]
    blk_ext [idx_2 t, row]
  show _ = out _ _ ((win0_2.blk t).view.emb (ix2 r n))
  rw [e]
  refine sum_eq_entry (X := fun b t k => m ((c.tc : Thread nD τ).loc main_arg0) (ix3 b t k)) (W := fun k n => (src n).elim (0 : Ideal .f32) (fun j => m ((c.tc : Thread nD τ).loc main_arg1) (ix2 k j))) (r := row t r) (n := n)
    (x := fun k => iblk m c 0 t (ix2 r k)) (w := fun k => iblk m c 1 t (ix2 k n)) (fun k => ?_) (fun k => ?_)
  · have e0 : iblk m c 0 t (ix2 r k) = V m c main_v8 (ix2 (row t r) k) := by
      simp only [← ix2_eq_valueIdx]
      blk_ext [iblk, idx_0 t, row]
    exact e0.trans (arr_x m c (row t r) k)
  · have e1 : iblk m c 1 t (ix2 k n) = V m c main_v9 (ix2 k n) := by
      simp only [← ix2_eq_valueIdx]
      blk_ext [iblk, idx_1 t]
    exact e1.trans (arr_w m c k n)

/-- The kernel runs to `out` of its arguments and leaves them as they were. -/
theorem run_kernel (ρ : Dev nD → PrngReg) : θ_run defs (onTc (τ := τ) (main (F := Ideal))) ⟨m, fun _ => 0, ρ⟩ fun r => ∀ c : Dev nD,
      r.2.mem ((c.tc : Thread nD τ).loc main_v10) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (final_arr m c), (h c).2⟩) (Cert.Kernel3Ideal.Value.run_blocks (F := Ideal) m ρ)

end Cert.ProjOddIn

namespace Cert.ProjOddInRef

open Cert.Reference3Ideal Cert.Reference3Ideal.Gen Cert.Projection
open Cert.ProjOddIn (src pick)
open Idealize.ShloMosaic hiding ix2 ix3 eq_ix2 eq_ix3
open Idealize.ShloMosaic.TcCoe Idealize.SL.Sem
open Idealize.ShloMosaic.ValueIdx (ix2 ix3 eq_ix2 eq_ix3)

/-- The reference's product of all tokens with the weights, read at an index. -/
theorem prod_apply (X : Vec Ideal S32x2048x1024 .f32) (W : Vec Ideal S1024x1864 .f32) (r : Fin 65536) (j : Fin 1864) :
    (shapeCast S65536x1864 (Host.dotGeneral (F := Ideal) (φ₁ := .f32) (φ₂ := .f32) dot_S32x2048x1024_S1024x1864_S32x2048x1864_2_0_01_1_n_n none X W) shapeCasts_S32x2048x1864_S65536x1864) (ix2 r j)
      = entry (fun b t k => X (ix3 b t k)) (fun k j => W (ix2 k j)) r j := by
  unfold entry
  pointwise
  rfl

/-- The product's columns, rearranged, read at an index. -/
theorem cat_apply (P : Vec Ideal S65536x1864 .f32) (r : Fin 65536) (n : Fin 1920) :
    (concatenate S65536x1920 1 [⟨S65536x1024, extractStridedSlice S65536x1024 ![0, 0] P slices_S65536x1864_S65536x1024_0_0⟩, ⟨S65536x512, extractStridedSlice S65536x512 ![0, 1280] P slices_S65536x1864_S65536x512_0_1280⟩,
        ⟨S65536x128, extractStridedSlice S65536x128 ![0, 1024] P slices_S65536x1864_S65536x128_0_1024⟩, ⟨S65536x128, extractStridedSlice S65536x128 ![0, 1152] P slices_S65536x1864_S65536x128_0_1152⟩,
        ⟨S65536x64, extractStridedSlice S65536x64 ![0, 1792] P slices_S65536x1864_S65536x64_0_1792⟩, ⟨S65536x8, extractStridedSlice S65536x8 ![0, 1856] P slices_S65536x1864_S65536x8_0_1856⟩,
        ⟨S65536x56, broadcastInDim S65536x56 ![] bcast_S_S65536x56 (constant (F := Ideal) S_ .f32 0x00000000#32 : Vec Ideal S_ .f32)⟩] concatenates_S65536x1024_S65536x512_S65536x128_S65536x128_S65536x64_S65536x8_S65536x56_S65536x1920_d1 : Vec Ideal S65536x1920 .f32) (ix2 r n) = (src n).elim 0 (fun j => P (ix2 r j)) := by
  pointwise
  exact pick (fun j => P (ix2 r j)) 0 n

/-- Rearranging the product's columns is projecting with the rearranged weights; a column of zeros gives zeros. -/
theorem entry_src (X : Fin 32 → Fin 2048 → Fin 1024 → Ideal .f32) (W : Fin 1024 → Fin 1864 → Ideal .f32) (r : Fin 65536) (o : Option (Fin 1864)) :
    o.elim 0 (fun j => entry X W r j) = ∑ k : Fin 1024, X (batch r) (step r) k * o.elim 0 (fun j => W k j) := by
  cases o with
  | none => exact (Finset.sum_eq_zero fun k _ => mul_zero _).symm
  | some j => rfl

/-- The reference's composed operations are `out`. -/
theorem value (X : Vec Ideal S32x2048x1024 .f32) (W : Vec Ideal S1024x1864 .f32) :
    (concatenate S65536x1920 1 [⟨S65536x1024, extractStridedSlice S65536x1024 ![0, 0] (shapeCast S65536x1864 (Host.dotGeneral (F := Ideal) (φ₁ := .f32) (φ₂ := .f32) dot_S32x2048x1024_S1024x1864_S32x2048x1864_2_0_01_1_n_n none X W) shapeCasts_S32x2048x1864_S65536x1864) slices_S65536x1864_S65536x1024_0_0⟩, ⟨S65536x512, extractStridedSlice S65536x512 ![0, 1280] (shapeCast S65536x1864 (Host.dotGeneral (F := Ideal) (φ₁ := .f32) (φ₂ := .f32) dot_S32x2048x1024_S1024x1864_S32x2048x1864_2_0_01_1_n_n none X W) shapeCasts_S32x2048x1864_S65536x1864) slices_S65536x1864_S65536x512_0_1280⟩,
        ⟨S65536x128, extractStridedSlice S65536x128 ![0, 1024] (shapeCast S65536x1864 (Host.dotGeneral (F := Ideal) (φ₁ := .f32) (φ₂ := .f32) dot_S32x2048x1024_S1024x1864_S32x2048x1864_2_0_01_1_n_n none X W) shapeCasts_S32x2048x1864_S65536x1864) slices_S65536x1864_S65536x128_0_1024⟩, ⟨S65536x128, extractStridedSlice S65536x128 ![0, 1152] (shapeCast S65536x1864 (Host.dotGeneral (F := Ideal) (φ₁ := .f32) (φ₂ := .f32) dot_S32x2048x1024_S1024x1864_S32x2048x1864_2_0_01_1_n_n none X W) shapeCasts_S32x2048x1864_S65536x1864) slices_S65536x1864_S65536x128_0_1152⟩,
        ⟨S65536x64, extractStridedSlice S65536x64 ![0, 1792] (shapeCast S65536x1864 (Host.dotGeneral (F := Ideal) (φ₁ := .f32) (φ₂ := .f32) dot_S32x2048x1024_S1024x1864_S32x2048x1864_2_0_01_1_n_n none X W) shapeCasts_S32x2048x1864_S65536x1864) slices_S65536x1864_S65536x64_0_1792⟩, ⟨S65536x8, extractStridedSlice S65536x8 ![0, 1856] (shapeCast S65536x1864 (Host.dotGeneral (F := Ideal) (φ₁ := .f32) (φ₂ := .f32) dot_S32x2048x1024_S1024x1864_S32x2048x1864_2_0_01_1_n_n none X W) shapeCasts_S32x2048x1864_S65536x1864) slices_S65536x1864_S65536x8_0_1856⟩,
        ⟨S65536x56, broadcastInDim S65536x56 ![] bcast_S_S65536x56 (constant (F := Ideal) S_ .f32 0x00000000#32 : Vec Ideal S_ .f32)⟩] concatenates_S65536x1024_S65536x512_S65536x128_S65536x128_S65536x64_S65536x8_S65536x56_S65536x1920_d1 : Vec Ideal S65536x1920 .f32) = Cert.ProjOddIn.out X W := by
  funext y
  obtain ⟨r, n, rfl⟩ : ∃ (r : Fin 65536) (n : Fin 1920), y = ix2 r n := ⟨y 0, y 1, eq_ix2 _⟩
  refine (cat_apply _ r n).trans ?_
  simp only [prod_apply]
  exact entry_src _ _ r (src n)

/-- The reference runs to `out` of its arguments and leaves them as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.ProjOddIn.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (value _ _), (h c).2⟩) (Cert.Reference3Ideal.Value.run (F := Ideal) m ρ)

end Cert.ProjOddInRef

end
-- ==== Proof.ProjEvenOut.lean ====
/- The even layers' output projection: the kernel's row blocks, put together, are one product of all rows. -/
module

public import proofs.«01_k».proof.Proof.Gen.Kernel4Ideal.Value
public import proofs.«01_k».proof.Proof.Gen.Reference4Ideal.Run
public import proofs.«01_k».proof.Proof.Projection
public import Idealize.ShloMosaic.Lib.Pipeline.Value
public import Idealize.ShloMosaic.Lib.Pipeline.ValueKit

@[expose] public section

set_option maxRecDepth 16384

noncomputable section

namespace Cert.ProjEvenOut

open Cert.Kernel4Ideal Cert.Kernel4Ideal.Gen Cert.Projection
open Idealize.ShloMosaic hiding ix2 ix3 eq_ix2 eq_ix3
open Idealize.ShloMosaic.TcCoe Idealize.SL.Sem
open Idealize.ShloMosaic.ValueIdx (ix2 ix3 eq_ix2 eq_ix3)

/-- A token's 1024 entries: the gated linear attention's 512, then the RWKV-7 scan's. -/
def tok (G R : Vec Ideal S32x2048x512 .f32) (b : Fin 32) (t : Fin 2048) (k : Fin 1024) : Ideal .f32 :=
  if h : k.val < 512 then G (ix3 b t ⟨k.val, h⟩) else R (ix3 b t ⟨k.val - 512, by omega⟩)

/-- The concatenation of the two, read at an index. -/
theorem cat_apply (G R : Vec Ideal S32x2048x512 .f32) (b : Fin 32) (t : Fin 2048) (k : Fin 1024) :
    concatenate S32x2048x1024 2 [⟨S32x2048x512, G⟩, ⟨S32x2048x512, R⟩] concatenates_S32x2048x512_S32x2048x512_S32x2048x1024_d2 (ix3 b t k) = tok G R b t k := by
  unfold tok
  pointwise
  rfl

/-- Both results, from the arguments: every token's projection. -/
def out (G R : Vec Ideal S32x2048x512 .f32) (W : Vec Ideal S1024x1024 .f32) : Vec Ideal S65536x1024 .f32 :=
  proj (tok G R) (fun k n => W (ix2 k n))

variable (m : (ℓ : Loc nD τ sig) → Buf (Elt Ideal) ℓ)

/-- The block numbers of the windows at point `t`. -/
theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)

/-- Row `r` of block `t`. -/
def row (t : Fin cfg0.N) (r : Fin 512) : Fin 65536 := ⟨t.val * 512 + r.val, by have := t.isLt; have h : cfg0.N = 128 := rfl; omega⟩

/-- The tokens the region finds, from the argument. -/
theorem arr_x (c : Dev nD) (r : Fin 65536) (k : Fin 1024) :
    V m c main_v1 (ix2 r k) = tok (m ((c.tc : Thread nD τ).loc main_arg0)) (m ((c.tc : Thread nD τ).loc main_arg1)) (batch r) (step r) k := by
  rw [← cat_apply]
  entry_read
  pointwise
  rfl

/-- The weights it finds; their rounding to bfloat16 is the identity over the extended reals. -/
theorem arr_w (c : Dev nD) (k : Fin 1024) (n : Fin 1024) :
    V m c main_v2 (ix2 k n) = m ((c.tc : Thread nD τ).loc main_arg2) (ix2 k n) := by
  entry_read
  pointwise

/-- What a point's body leaves in the output block. -/
theorem block (x : Vec Ideal S512x1024 .f32) (w : Vec Ideal S1024x1024 .bf16) (r : Fin 512) (n : Fin 1024) :
    out0_2 x w (ix2 r n) = ∑ k : Fin 1024, x (ix2 r k) * w (ix2 k n) := by
  have hz : (![0, 0] : Fin 2 → ℕ) = fun _ => 0 := by decide
  unfold out0_2
  rw [View.canon_unit_zero hz, View.ld_unit_zero hz, View.ld_unit_zero hz]
  unfold k0_pay1
  pointwise
  rfl

set_option backward.isDefEq.respectTransparency.types false in
/-- The output array after the run. -/
theorem final_arr (c : Dev nD) : (dats m 0 c).arrAt 2 cfg0.N
    = out (m ((c.tc : Thread nD τ).loc main_arg0)) (m ((c.tc : Thread nD τ).loc main_arg1)) (m ((c.tc : Thread nD τ).loc main_arg2)) := by
  refine (dats m 0 c).arrAt_eq_of_covers 2 _ (by decide +kernel) fun t hf y => ?_
  blk_simp
  rw [after0_2]
  obtain ⟨r, n, rfl⟩ : ∃ (r : Fin 512) (n : Fin 1024), y = ix2 r n := ⟨y 0, y 1, eq_ix2 _⟩
  refine (block _ _ r n).trans ?_
  have e : (win0_2.blk t).view.emb (ix2 r n) = ix2 (row t r) n := by
    simp only [← ix2_eq_valueIdx]
    blk_ext [idx_2 t, row]
  show _ = out _ _ _ ((win0_2.blk t).view.emb (ix2 r n))
  rw [e]
  refine sum_eq_entry (X := tok (m ((c.tc : Thread nD τ).loc main_arg0)) (m ((c.tc : Thread nD τ).loc main_arg1))) (W := fun k n => m ((c.tc : Thread nD τ).loc main_arg2) (ix2 k n)) (r := row t r) (n := n)
    (x := fun k => iblk m c 0 t (ix2 r k)) (w := fun k => iblk m c 1 t (ix2 k n)) (fun k => ?_) (fun k => ?_)
  · have e0 : iblk m c 0 t (ix2 r k) = V m c main_v1 (ix2 (row t r) k) := by
      simp only [← ix2_eq_valueIdx]
      blk_ext [iblk, idx_0 t, row]
    exact e0.trans (arr_x m c (row t r) k)
  · have e1 : iblk m c 1 t (ix2 k n) = V m c main_v2 (ix2 k n) := by
      simp only [← ix2_eq_valueIdx]
      blk_ext [iblk, idx_1 t]
    exact e1.trans (arr_w m c k n)

/-- The kernel runs to `out` of its arguments and leaves them as they were. -/
theorem run_kernel (ρ : Dev nD → PrngReg) : θ_run defs (onTc (τ := τ) (main (F := Ideal))) ⟨m, fun _ => 0, ρ⟩ fun r => ∀ c : Dev nD,
      r.2.mem ((c.tc : Thread nD τ).loc main_v3) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (final_arr m c), (h c).2⟩) (Cert.Kernel4Ideal.Value.run_blocks (F := Ideal) m ρ)

end Cert.ProjEvenOut

namespace Cert.ProjEvenOutRef

open Cert.Reference4Ideal Cert.Reference4Ideal.Gen Cert.Projection
open Idealize.ShloMosaic hiding ix2 ix3 eq_ix2 eq_ix3
open Idealize.ShloMosaic.TcCoe Idealize.SL.Sem
open Idealize.ShloMosaic.ValueIdx (ix2 ix3 eq_ix2 eq_ix3)

/-- The reference's product of all tokens with the weights, read at an index. -/
theorem prod_apply (X : Vec Ideal S32x2048x1024 .f32) (W : Vec Ideal S1024x1024 .f32) (r : Fin 65536) (n : Fin 1024) :
    shapeCast S65536x1024 (Host.dotGeneral (F := Ideal) (φ₁ := .f32) (φ₂ := .f32) dot_S32x2048x1024_S1024x1024_S32x2048x1024_2_0_01_1_n_n none X W) shapeCasts_S32x2048x1024_S65536x1024 (ix2 r n)
      = ∑ k : Fin 1024, X (ix3 (batch r) (step r) k) * W (ix2 k n) := by
  pointwise
  rfl

/-- The reference's composed operations, read at an index. -/
theorem value (G R : Vec Ideal S32x2048x512 .f32) (W : Vec Ideal S1024x1024 .f32) :
    shapeCast S65536x1024 (Host.dotGeneral (F := Ideal) (φ₁ := .f32) (φ₂ := .f32) dot_S32x2048x1024_S1024x1024_S32x2048x1024_2_0_01_1_n_n none
        (concatenate S32x2048x1024 2 [⟨S32x2048x512, G⟩, ⟨S32x2048x512, R⟩] concatenates_S32x2048x512_S32x2048x512_S32x2048x1024_d2) W) shapeCasts_S32x2048x1024_S65536x1024
      = Cert.ProjEvenOut.out G R W := by
  funext y
  obtain ⟨r, n, rfl⟩ : ∃ (r : Fin 65536) (n : Fin 1024), y = ix2 r n := ⟨y 0, y 1, eq_ix2 _⟩
  refine (prod_apply _ W r n).trans ?_
  exact sum_eq_entry (X := Cert.ProjEvenOut.tok G R) (W := fun k n => W (ix2 k n)) (fun k => Cert.ProjEvenOut.cat_apply G R (batch r) (step r) k) (fun _ => rfl)

/-- The reference runs to `out` of its arguments and leaves them as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.ProjEvenOut.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (value _ _ _), (h c).2⟩) (Cert.Reference4Ideal.Value.run (F := Ideal) m ρ)

end Cert.ProjEvenOutRef

end
-- ==== Proof.GlaLane.lean ====
module

public import proofs.«01_k».proof.Proof.Gen.Kernel5Ideal.Frame
public import Idealize.ShloMosaic.Lib.Pipeline.ValueKit
public import Idealize.ShloMosaic.PureOps.Ideal

/-!
# Gated linear attention: one chunk of one head

A chunk is 64 tokens of one head: queries and keys of 64 lanes, values of 128, and the logarithms of the decays. The
state of a head is a 64 × 128 matrix. `Chunk.next` is the state after the chunk, `Chunk.mix` the attention output of the
chunk before the norm, `gated` the norm and the gate. These are the kernel's and the reference's common words; the module
then reads the kernel's vector text at an index in these words.
-/

@[expose] public section

noncomputable section

set_option maxRecDepth 16384

open Idealize.ShloMosaic hiding ix2 ix3 eq_ix2 eq_ix3
open Idealize.ShloMosaic.TcCoe Idealize.SL.Sem
open Idealize.ShloMosaic.ValueIdx (ix2 ix3 eq_ix2 eq_ix3)

namespace Gla

/-- The logarithm of the decay, from the projected word `z`: `log (sigmoid z) / 16`. -/
def logDecay (z : EReal) : EReal :=
  Ideal.div (-(max (-z) 0 + Ideal.log1p (Ideal.exp (-(max z (-z))))))
    (FloatOps.ofBits (F := Ideal) .f32 0x41800000#32)

/-- One chunk of one head. -/
structure Chunk where
  q : Fin 64 → Fin 64 → EReal
  k : Fin 64 → Fin 64 → EReal
  la : Fin 64 → Fin 64 → EReal
  v : Fin 64 → Fin 128 → EReal

namespace Chunk

/-- The running sum of the logarithms of the decays, up to and with row `i`. -/
def cum (c : Chunk) (i d : Fin 64) : EReal := ∑ j : Fin 64, if j ≤ i then c.la j d else 0

/-- The scaled and decayed query. -/
def qIn (c : Chunk) (i d : Fin 64) : EReal :=
  c.q i d * FloatOps.ofBits (F := Ideal) .f32 0x3E000000#32 * Ideal.exp (c.cum i d)

/-- The key for the scores inside the chunk. -/
def kIn (c : Chunk) (i d : Fin 64) : EReal := c.k i d * Ideal.exp (-c.cum i d)

/-- The key for the state after the chunk. -/
def kOut (c : Chunk) (i d : Fin 64) : EReal := c.k i d * Ideal.exp (c.cum 63 d - c.cum i d)

/-- The state after the chunk. -/
def next (c : Chunk) (S : Fin 64 → Fin 128 → EReal) (d : Fin 64) (e : Fin 128) : EReal :=
  Ideal.exp (c.cum 63 d) * S d e + ∑ i : Fin 64, c.kOut i d * c.v i e

/-- The masked scores inside the chunk. -/
def score (c : Chunk) (i j : Fin 64) : EReal := if j ≤ i then ∑ d : Fin 64, c.qIn i d * c.kIn j d else 0

/-- The output of the chunk before the norm. -/
def mix (c : Chunk) (S : Fin 64 → Fin 128 → EReal) (i : Fin 64) (e : Fin 128) : EReal :=
  (∑ j : Fin 64, c.score i j * c.v j e) + ∑ d : Fin 64, c.qIn i d * S d e

end Chunk

/-- The root mean square norm of a row `o` of 128 words, its gain `w`, and the gate's silu. -/
def gated (o : Fin 128 → EReal) (w g : EReal) (e : Fin 128) : EReal :=
  o e * Ideal.rsqrt (Ideal.div (∑ e' : Fin 128, o e' * o e') (FloatOps.ofBits (F := Ideal) .f32 0x43000000#32)
    + FloatOps.ofBits (F := Ideal) .f32 0x3727C5AC#32) * w
    * Ideal.div g (FloatOps.ofBits (F := Ideal) .f32 0x3F800000#32 + Ideal.exp (-g))

/-! ## The running sum by doubling -/

/-- The sum of the last `w` entries of `f` up to `i`. -/
def lastSum (f : ℕ → EReal) (w i : ℕ) : EReal := ∑ j ∈ Finset.range (min w (i + 1)), f (i - j)

theorem lastSum_one (f : ℕ → EReal) (i : ℕ) : lastSum f 1 i = f i := by
  have : min 1 (i + 1) = 1 := by omega
  rw [lastSum, this]; simp

theorem lastSum_double (f : ℕ → EReal) (w i : ℕ) :
    lastSum f w i + (if w ≤ i then lastSum f w (i - w) else 0) = lastSum f (w + w) i := by
  unfold lastSum
  split_ifs with h
  · have h1 : min w (i + 1) = w := by omega
    have h2 : min (w + w) (i + 1) = w + min w (i - w + 1) := by omega
    rw [h1, h2, Finset.sum_range_add]
    congr 1
    refine Finset.sum_congr rfl fun j _ => ?_
    congr 1; omega
  · have h1 : min (w + w) (i + 1) = min w (i + 1) := by omega
    rw [h1, add_zero]

theorem lastSum_all (f : ℕ → EReal) (i : Fin 64) :
    lastSum f 64 i = ∑ j : Fin 64, if j ≤ i then f j else 0 := by
  have h1 : min 64 (i.val + 1) = i.val + 1 := by omega
  have h2 : ∀ j ∈ Finset.range (i.val + 1), f (i.val - j) = f (i.val + 1 - 1 - j) := fun j _ => by congr 1
  rw [lastSum, h1, Finset.sum_congr rfl h2, Finset.sum_range_reflect f (i.val + 1)]
  have h3 : ∀ j : Fin 64, (if j ≤ i then f j else 0) = (fun n : ℕ => if n ≤ i.val then f n else 0) j.val := fun j => rfl
  rw [Finset.sum_congr rfl fun j _ => h3 j, Fin.sum_univ_eq_sum_range (fun n : ℕ => if n ≤ i.val then f n else 0) 64,
    ← Finset.sum_filter]
  refine Finset.sum_congr ?_ fun j _ => rfl
  ext j
  simp only [Finset.mem_range, Finset.mem_filter]
  omega

/-! ## The kernel's vector text -/

open Cert.Kernel5Ideal Cert.Kernel5Ideal.Gen

/-- One step of the running sum: the rows rolled down by `s` and added, the rows that came around dropped. -/
def rollAdd (s : BitVec 32) (x : FVec Ideal S64x256 .f32) : FVec Ideal S64x256 .f32 :=
  addf x (select (cmpi .sge (iota .tc S64x256 32 [0] iota_S64x256_d0_w32) (broadcast S64x256 s))
    (dynamicRotate 0 s none x rotates_S64x256_d0) (broadcast S64x256 (Scalar.ofBits .f32 0x00000000#32)))

/-- The running sum of a chunk. -/
def cumV (x : FVec Ideal S64x256 .f32) : FVec Ideal S64x256 .f32 :=
  rollAdd 32#32 (rollAdd 16#32 (rollAdd 8#32 (rollAdd 4#32 (rollAdd 2#32 (rollAdd 1#32 x)))))

/-- The row numbers compared, as words. -/
theorem sge_rows : ∀ w i : Fin 64,
    IntOp.cmpi CmpIPredicate.sge (BitVec.ofNat 32 i.val) (BitVec.ofNat 32 w.val) = if w ≤ i then 1#1 else 0#1 := by
  decide +kernel

theorem rollAdd_apply (w : Fin 64) (x : FVec Ideal S64x256 .f32) (i : Fin 64) (c : Fin 256) :
    rollAdd (BitVec.ofNat 32 w.val) x (ix2 i c)
      = x (ix2 i c) + if h : w ≤ i then x (ix2 ⟨i.val - w.val, by omega⟩ c) else (0 : EReal) := by
  unfold rollAdd
  pointwise
  have e := sge_rows w i
  congr 1
  rw [show BitVec.ofNat 32 ↑(ix2 i c 0) = BitVec.ofNat 32 i.val from rfl, e]
  split_ifs with h
  · refine (if_pos rfl).trans ?_
    congr 1
    rw [← ix2_eq_valueIdx]
    congr 1
    apply Fin.ext
    have hw : (BitVec.ofNat 32 w.val).toNat = w.val := by
      rw [BitVec.toNat_ofNat]; exact Nat.mod_eq_of_lt (by omega)
    have hi : w.val ≤ i.val := h
    show (i.val + 64 - (BitVec.ofNat 32 w.val).toNat % 64) % 64 = i.val - w.val
    rw [hw]; omega
  · exact if_neg (by decide)

/-- A column of a chunk by its row number. -/
def colOf (x : FVec Ideal S64x256 .f32) (c : Fin 256) (j : ℕ) : EReal := if h : j < 64 then x (ix2 ⟨j, h⟩ c) else 0

theorem rollAdd_lastSum (w : Fin 64) (f : ℕ → EReal) (x : FVec Ideal S64x256 .f32) (c : Fin 256)
    (hx : ∀ i : Fin 64, x (ix2 i c) = lastSum f w i) (i : Fin 64) :
    rollAdd (BitVec.ofNat 32 w.val) x (ix2 i c) = lastSum f (w + w) i := by
  rw [rollAdd_apply, hx i, ← lastSum_double f w i]
  congr 1
  by_cases h : w ≤ i
  · rw [dif_pos h, if_pos (show w.val ≤ i.val from h), hx]
  · rw [dif_neg h, if_neg (show ¬ w.val ≤ i.val from h)]

/-- The six steps give the running sum. -/
theorem cumV_apply (x : FVec Ideal S64x256 .f32) (i : Fin 64) (c : Fin 256) :
    cumV x (ix2 i c) = ∑ j : Fin 64, if j ≤ i then x (ix2 j c) else (0 : EReal) := by
  have h0 : ∀ i : Fin 64, x (ix2 i c) = lastSum (colOf x c) 1 i := fun i => by
    rw [lastSum_one, colOf, dif_pos i.isLt]
  have h := rollAdd_lastSum 32 _ _ c (rollAdd_lastSum 16 _ _ c (rollAdd_lastSum 8 _ _ c (rollAdd_lastSum 4 _ _ c
    (rollAdd_lastSum 2 _ _ c (rollAdd_lastSum 1 _ _ c h0))))) i
  refine Eq.trans h ?_
  refine (lastSum_all (colOf x c) i).trans (Finset.sum_congr rfl fun j _ => ?_)
  congr 1
  rw [colOf, dif_pos j.isLt]

/-- Row `i` of chunk `n`, and lane `i` of head `n`. -/
def pos (n : Fin 4) (i : Fin 64) : Fin 256 := ⟨64 * n.val + i.val, by omega⟩

/-- Lane `e` of the values of head `h`. -/
def posV (h : Fin 4) (e : Fin 128) : Fin 512 := ⟨128 * h.val + e.val, by omega⟩

variable (B : FVec Ideal S64x256 .f32) (q k : Vec Ideal S64x256 .f32) (v : Vec Ideal S64x128 .f32)
  (st : Vec Ideal S1x128x64 .f32) (ng : Vec Ideal S1x128 .f32) (g : Vec Ideal S64x128 .f32)

/-- The last row of the running sum. -/
def lastV : FVec Ideal S1x256 .f32 := extractStridedSlice S1x256 ![63, 0] B slices_S64x256_o63_0_S1x256

def qInV : FVec Ideal S64x256 .f32 :=
  mulf (mulf (shapeCast S64x256 q shapeCasts_S64x256_S64x256) (broadcast S64x256 (Scalar.ofBits .f32 0x3E000000#32))) (exp B)

def kInV : FVec Ideal S64x256 .f32 :=
  mulf (shapeCast S64x256 k shapeCasts_S64x256_S64x256) (exp (subf (broadcast S64x256 (Scalar.ofBits .f32 0x00000000#32)) B))

def kOutV : FVec Ideal S64x256 .f32 :=
  mulf (shapeCast S64x256 k shapeCasts_S64x256_S64x256)
    (exp (subf (broadcastTo S64x256 (lastV B) broadcasts_S1x256_S64x256) B))

/-- The state of a head as a matrix. -/
def stV : FVec Ideal S128x64 .f32 := shapeCast S128x64 st shapeCasts_S1x128x64_S128x64

/-- The values, rounded. -/
def vV : FVec Ideal S64x128 .bf16 := truncf .bf16 (shapeCast S64x128 v shapeCasts_S64x128_S64x128) bitsLt_bf16_f32

/-- The new state of the head whose lanes start at `o`. -/
def nextV (o : Fin 2 → ℕ) (h1 : S64x256.Slices o S64x64) (h2 : S1x256.Slices o S1x64) : FVec Ideal S1x128x64 .f32 :=
  shapeCast S1x128x64
    (addf (mulf (stV st) (broadcastTo S128x64 (extractStridedSlice S1x64 o (exp (lastV B)) h2) broadcasts_S1x64_S128x64))
      (matmul dot_S64x128_S64x64_S128x64_0_0_1_1_n_n none (vV v)
        (truncf .bf16 (extractStridedSlice S64x64 o (kOutV B k) h1) bitsLt_bf16_f32) (constant S128x64 .f32 0x00000000#32)))
    shapeCasts_S128x64_S1x128x64

/-- The head's output before the norm. -/
def mixV (o : Fin 2 → ℕ) (h1 : S64x256.Slices o S64x64) : FVec Ideal S64x128 .f32 :=
  addf
    (matmul dot_S64x64_S64x128_S64x128_1_0_0_1_n_n none
      (truncf .bf16 (select
        (cmpi .sge (iota .tc S64x64 32 [0] iota_S64x64_d0_w32) (iota .tc S64x64 32 [1] iota_S64x64_d1_w32))
        (matmul dot_S64x64_S64x64_S64x64_1_1_0_0_n_n none
          (truncf .bf16 (extractStridedSlice S64x64 o (qInV B q) h1) bitsLt_bf16_f32)
          (truncf .bf16 (extractStridedSlice S64x64 o (kInV B k) h1) bitsLt_bf16_f32) (constant S64x64 .f32 0x00000000#32))
        (broadcast S64x64 (Scalar.ofBits .f32 0x00000000#32))) bitsLt_bf16_f32)
      (vV v) (constant S64x128 .f32 0x00000000#32))
    (matmul dot_S64x64_S128x64_S64x128_1_1_0_0_n_n none
      (truncf .bf16 (extractStridedSlice S64x64 o (qInV B q) h1) bitsLt_bf16_f32) (truncf .bf16 (stV st) bitsLt_bf16_f32)
      (constant S64x128 .f32 0x00000000#32))

/-- The norm and the gate of a head's output. -/
def gatedV (x : FVec Ideal S64x128 .f32) : FVec Ideal S64x128 .f32 :=
  mulf
    (mulf
      (mulf x (broadcastTo S64x128
        (rsqrt (addf (divf (shapeCast S64x1
            (multiReduction .add [1] S64 (mulf x x) 0x00000000#32 reduces_S64x128_S64 (.inl rfl) rfl) shapeCasts_S64_S64x1)
          (broadcast S64x1 (Scalar.ofBits .f32 0x43000000#32))) (broadcast S64x1 (Scalar.ofBits .f32 0x3727C5AC#32))))
        broadcasts_S64x1_S64x128))
      (broadcastTo S64x128 (shapeCast S1x128 ng shapeCasts_S1x128_S1x128) broadcasts_S1x128_S64x128))
    (divf (shapeCast S64x128 g shapeCasts_S64x128_S64x128)
      (addf (broadcast S64x128 (Scalar.ofBits .f32 0x3F800000#32))
        (exp (subf (broadcast S64x128 (Scalar.ofBits .f32 0x00000000#32)) (shapeCast S64x128 g shapeCasts_S64x128_S64x128)))))

theorem nextV_apply (h : Fin 4) (o : Fin 2 → ℕ) (h1) (h2) (ho : o = ![0, 64 * h.val]) (d : Fin 64) (e : Fin 128) :
    nextV B k v st o h1 h2 (ix3 0 e d)
      = st (ix3 0 e d) * Ideal.exp (B (ix2 63 (pos h d)))
        + ∑ i : Fin 64, v (ix2 i e) * (k (ix2 i (pos h d)) * Ideal.exp (B (ix2 63 (pos h d)) - B (ix2 i (pos h d)))) := by
  subst ho
  unfold nextV stV vV kOutV lastV
  pointwise
  rfl

theorem mixV_apply (h : Fin 4) (o : Fin 2 → ℕ) (h1) (ho : o = ![0, 64 * h.val]) (i : Fin 64) (e : Fin 128) :
    mixV B q k v st o h1 (ix2 i e)
      = (∑ j : Fin 64, (if j ≤ i then ∑ d : Fin 64,
            (q (ix2 i (pos h d)) * FloatOps.ofBits (F := Ideal) .f32 0x3E000000#32 * Ideal.exp (B (ix2 i (pos h d))))
              * (k (ix2 j (pos h d)) * Ideal.exp (-(B (ix2 j (pos h d)) : EReal))) else 0) * v (ix2 j e))
        + ∑ d : Fin 64,
            (q (ix2 i (pos h d)) * FloatOps.ofBits (F := Ideal) .f32 0x3E000000#32 * Ideal.exp (B (ix2 i (pos h d))))
              * st (ix3 0 e d) := by
  subst ho
  unfold mixV stV vV qInV kInV
  pointwise
  congr 1
  refine Finset.sum_congr rfl fun j _ => ?_
  rw [show BitVec.ofNat 32 ↑(ix2 i e 0) = BitVec.ofNat 32 i.val from rfl, sge_rows j i]
  split_ifs with hj
  · refine (if_pos rfl).trans ?_
    simp only [zero_sub]
    rfl
  · rw [zero_mul]
    exact if_neg (by decide)

theorem gatedV_apply (x : FVec Ideal S64x128 .f32) (i : Fin 64) (e : Fin 128) :
    gatedV ng g x (ix2 i e) = gated (fun e => x (ix2 i e)) (ng (ix2 0 e)) (g (ix2 i e)) e := by
  unfold gatedV gated
  pointwise
  simp only [zero_sub]
  rfl

/-! ## The kernel's text on a chunk of the point's blocks -/

variable (X0 X1 : Vec Ideal S256x256 .f32) (X2 : Vec Ideal S256x512 .f32) (LA : FVec Ideal S256x256 .f32)

/-- Chunk `n` of head `h` of a point's blocks: queries, keys, values, and the logarithms of the decays. -/
def chunkAt (n h : Fin 4) : Chunk where
  q i d := X0 (ix2 (pos n i) (pos h d))
  k i d := X1 (ix2 (pos n i) (pos h d))
  la i d := LA (ix2 (pos n i) (pos h d))
  v i e := X2 (ix2 (pos n i) (posV h e))

variable {X0 X1 X2 LA}

/-- The running sum of chunk `n`. -/
theorem cumV_chunk (n h : Fin 4) (o : Fin 2 → ℕ) (h0 : S256x256.Slices o S64x256) (ho : o = ![64 * n.val, 0])
    (i d : Fin 64) :
    cumV (extractStridedSlice S64x256 o LA h0) (ix2 i (pos h d)) = (chunkAt X0 X1 X2 LA n h).cum i d := by
  subst ho
  rw [cumV_apply]
  refine Finset.sum_congr rfl fun j _ => ?_
  congr 1
  pointwise
  rw [← ix2_eq_valueIdx]
  rfl

variable {q k v st}

theorem nextV_chunk (n h : Fin 4) (o1 o2 : Fin 2 → ℕ) (h0 : S256x256.Slices o1 S64x256) (h1) (h2)
    (ho1 : o1 = ![64 * n.val, 0]) (ho2 : o2 = ![0, 64 * h.val]) (S : Fin 64 → Fin 128 → EReal)
    (hk : ∀ i c, k (ix2 i c) = X1 (ix2 (pos n i) c)) (hv : ∀ i e, v (ix2 i e) = X2 (ix2 (pos n i) (posV h e)))
    (hst : ∀ d e, st (ix3 0 e d) = S d e) (d : Fin 64) (e : Fin 128) :
    nextV (cumV (extractStridedSlice S64x256 o1 LA h0)) k v st o2 h1 h2 (ix3 0 e d)
      = (chunkAt X0 X1 X2 LA n h).next S d e := by
  rw [nextV_apply _ _ _ _ h o2 h1 h2 ho2]
  simp only [cumV_chunk (X0 := X0) (X1 := X1) (X2 := X2) n h o1 h0 ho1, hk, hv, hst]
  unfold Chunk.next Chunk.kOut
  congr 1
  · exact mul_comm _ _
  · exact Finset.sum_congr rfl fun i _ => mul_comm _ _

theorem mixV_chunk (n h : Fin 4) (o1 o2 : Fin 2 → ℕ) (h0 : S256x256.Slices o1 S64x256) (h1)
    (ho1 : o1 = ![64 * n.val, 0]) (ho2 : o2 = ![0, 64 * h.val]) (S : Fin 64 → Fin 128 → EReal)
    (hq : ∀ i c, q (ix2 i c) = X0 (ix2 (pos n i) c))
    (hk : ∀ i c, k (ix2 i c) = X1 (ix2 (pos n i) c)) (hv : ∀ i e, v (ix2 i e) = X2 (ix2 (pos n i) (posV h e)))
    (hst : ∀ d e, st (ix3 0 e d) = S d e) (i : Fin 64) (e : Fin 128) :
    mixV (cumV (extractStridedSlice S64x256 o1 LA h0)) q k v st o2 h1 (ix2 i e)
      = (chunkAt X0 X1 X2 LA n h).mix S i e := by
  rw [mixV_apply _ _ _ _ _ h o2 h1 ho2]
  simp only [cumV_chunk (X0 := X0) (X1 := X1) (X2 := X2) n h o1 h0 ho1, hq, hk, hv, hst]
  rfl

end Gla
-- ==== Proof.GlaPoint.lean ====
module

public import proofs.«01_k».proof.Proof.GlaLane
public import Idealize.ShloMosaic.Lib.Pipeline.ReadBack
import all proofs.«01_k».proof.Proof.Gen.Kernel5Ideal.Frame.RunA
import all proofs.«01_k».proof.Proof.Gen.Kernel5Ideal.Frame.RunB
import all proofs.«01_k».proof.Proof.Gen.Kernel5Ideal.Frame
import all proofs.«01_k».proof.Proof.Gen.Kernel5Ideal.Skeleton

/-!
# Gated linear attention: one grid point

A grid point runs four chunks of four heads one after another. Each of the sixteen steps reads a head's state from the
scratch, stores the head's new state back, and stores a block of the output. `Steps j L M` says what the scratch and the
output block hold after `j` steps; `step` adds one.
-/

@[expose] public section

noncomputable section

set_option maxRecDepth 16384

open Idealize.ShloMosaic hiding ix2 ix3 eq_ix2 eq_ix3
open Idealize.ShloMosaic.TcCoe Idealize.SL.Sem
open Idealize.ShloMosaic.ValueIdx (ix2 ix3 eq_ix2 eq_ix3)

namespace Gla

open Cert.Kernel5Ideal Cert.Kernel5Ideal.Gen

variable (X0 X1 : Vec Ideal S256x256 .f32) (X2 X3 : Vec Ideal S256x512 .f32) (LA : FVec Ideal S256x256 .f32)
  (X7 : Vec Ideal S1x128 .f32) (S0 : Fin 4 → Fin 64 → Fin 128 → EReal)

/-- A number below four. -/
def four (m : ℕ) : Fin 4 := ⟨m % 4, by omega⟩

/-- The state of head `h` after the point's first `m` chunks, from the states `S0` at its start. -/
def stAfter (h : Fin 4) : ℕ → Fin 64 → Fin 128 → EReal
  | 0 => S0 h
  | m + 1 => (chunkAt X0 X1 X2 LA (four m) h).next (stAfter h m)

/-- The output of chunk `n` of head `h`. -/
def outAt (n h : Fin 4) (i : Fin 64) (e : Fin 128) : EReal :=
  gated ((chunkAt X0 X1 X2 LA n h).mix (stAfter X0 X1 X2 LA S0 h n.val) i) (X7 (ix2 0 e))
    (X3 (ix2 (pos n i) (posV h e))) e

/-- How many chunks of head `h` the first `j` steps did. -/
def doneOf (j : ℕ) (h : Fin 4) : ℕ := j / 4 + if h.val < j % 4 then 1 else 0

/-- What the scratch and the output block hold after `j` steps. `base` says whether the scratch was filled before. -/
structure Steps (base : Prop) (j : ℕ) (L : List (View.Piece (Elt Ideal) S4x128x64 .f32))
    (M : List (View.Piece (Elt Ideal) S256x512 .f32)) : Prop where
  state : ∀ (h : Fin 4) (d : Fin 64) (e : Fin 128), base ∨ h.val < j →
    View.canon L (ix3 h e d) = stAfter X0 X1 X2 LA S0 h (doneOf j h) d e
  out : ∀ (n h : Fin 4) (i : Fin 64) (e : Fin 128), 4 * n.val + h.val < j →
    View.canon M (ix2 (pos n i) (posV h e)) = outAt X0 X1 X2 X3 LA X7 S0 n h i e

variable {X0 X1 X2 X3 LA X7 S0}

theorem step_of {base : Prop} {j : ℕ} (hj : j < 16) {L : List (View.Piece (Elt Ideal) S4x128x64 .f32)}
    {M : List (View.Piece (Elt Ideal) S256x512 .f32)} (H : Steps X0 X1 X2 X3 LA X7 S0 base j L M)
    {q k : Vec Ideal S64x256 .f32} {v g : Vec Ideal S64x128 .f32} {st : Vec Ideal S1x128x64 .f32} {ng : Vec Ideal S1x128 .f32}
    {h0 : S256x256.Slices ![64 * (j / 4), 0] S64x256} {h1 : S64x256.Slices ![0, 64 * (j % 4)] S64x64}
    {h2 : S1x256.Slices ![0, 64 * (j % 4)] S1x64}
    {b1 : ∀ a, (![j % 4, 0, 0] : Fin 3 → ℕ) a + S1x128x64.size a ≤ S4x128x64.size a}
    {b2 : ∀ a, (![64 * (j / 4), 128 * (j % 4)] : Fin 2 → ℕ) a + S64x128.size a ≤ S256x512.size a}
    (hq : ∀ i c, q (ix2 i c) = X0 (ix2 (pos (four (j / 4)) i) c))
    (hk : ∀ i c, k (ix2 i c) = X1 (ix2 (pos (four (j / 4)) i) c))
    (hv : ∀ i e, v (ix2 i e) = X2 (ix2 (pos (four (j / 4)) i) (posV (four (j % 4)) e)))
    (hg : ∀ i e, g (ix2 i e) = X3 (ix2 (pos (four (j / 4)) i) (posV (four (j % 4)) e)))
    (hn : ∀ e, ng (ix2 0 e) = X7 (ix2 0 e))
    (hst : ∀ d e, st (ix3 0 e d) = stAfter X0 X1 X2 LA S0 (four (j % 4)) (j / 4) d e) :
    Steps X0 X1 X2 X3 LA X7 S0 base (j + 1)
      (⟨Rect.unit (s := S4x128x64) ![j % 4, 0, 0] S1x128x64.size b1,
        nextV (cumV (extractStridedSlice S64x256 ![64 * (j / 4), 0] LA h0)) k v st ![0, 64 * (j % 4)] h1 h2⟩ :: L)
      (⟨Rect.unit (s := S256x512) ![64 * (j / 4), 128 * (j % 4)] S64x128.size b2,
        gatedV ng g (mixV (cumV (extractStridedSlice S64x256 ![64 * (j / 4), 0] LA h0)) q k v st ![0, 64 * (j % 4)] h1)⟩ :: M) := by
  have e1 : (four (j / 4)).val = j / 4 := Nat.mod_eq_of_lt (by omega)
  have e2 : (four (j % 4)).val = j % 4 := Nat.mod_eq_of_lt (by omega)
  have o1 : (![64 * (j / 4), 0] : Fin 2 → ℕ) = ![64 * (four (j / 4)).val, 0] := by rw [e1]
  have o2 : (![0, 64 * (j % 4)] : Fin 2 → ℕ) = ![0, 64 * (four (j % 4)).val] := by rw [e2]
  constructor
  · intro h d e hb
    by_cases hh : h.val = j % 4
    · have eh : h = four (j % 4) := Fin.ext (by rw [e2, hh])
      have hemb : (ix3 h e d : S4x128x64.Idx) = (Rect.unit (s := S4x128x64) ![j % 4, 0, 0] S1x128x64.size b1).emb (ix3 0 e d) := by
        refine funext fun a => Fin.ext (Eq.trans ?_ (ValueKit.rect_emb_unit_val _ _ _ _ a).symm)
        fin_cases a
        · show h.val = j % 4 + 0; omega
        · show e.val = 0 + e.val; omega
        · show d.val = 0 + d.val; omega
      rw [hemb, View.canon_cons_emb, nextV_chunk (X0 := X0) (X2 := X2) (four (j / 4)) (four (j % 4)) _ _ h0 h1 h2 o1 o2 _ hk hv hst]
      have hd : doneOf (j + 1) h = j / 4 + 1 := by
        unfold doneOf
        split_ifs <;> omega
      rw [hd, eh]
      rfl
    · rw [View.canon_cons_of_not_mem]
      · have hd : doneOf (j + 1) h = doneOf j h := by
          unfold doneOf
          have := h.isLt
          split_ifs <;> omega
        rw [hd]
        exact H.state h d e (hb.imp id fun hlt => by have := h.isLt; omega)
      · intro hm
        have hm' : (ix3 h e d : S4x128x64.Idx) ∈ (Rect.unit (s := S4x128x64) ![j % 4, 0, 0] S1x128x64.size b1).set := hm
        have m0 : j % 4 ≤ h.val ∧ h.val < j % 4 + 1 := Rect.mem_set_unit.mp hm' 0
        omega
  · intro n h i e hb
    by_cases hh : 4 * n.val + h.val = j
    · have en : n = four (j / 4) := Fin.ext (by rw [e1]; omega)
      have eh : h = four (j % 4) := Fin.ext (by rw [e2]; omega)
      have hemb : (ix2 (pos n i) (posV h e) : S256x512.Idx)
          = (Rect.unit (s := S256x512) ![64 * (j / 4), 128 * (j % 4)] S64x128.size b2).emb (ix2 i e) := by
        refine funext fun a => Fin.ext (Eq.trans ?_ (ValueKit.rect_emb_unit_val _ _ _ _ a).symm)
        fin_cases a
        · show 64 * n.val + i.val = 64 * (j / 4) + i.val; omega
        · show 128 * h.val + e.val = 128 * (j % 4) + e.val; omega
      rw [hemb, View.canon_cons_emb, gatedV_apply, hn, hg]
      simp only [mixV_chunk (X0 := X0) (X1 := X1) (X2 := X2) (four (j / 4)) (four (j % 4)) _ _ h0 h1 o1 o2 _ hq hk hv hst]
      rw [outAt, ← en, ← eh, show n.val = j / 4 by omega]
    · rw [View.canon_cons_of_not_mem]
      · exact H.out n h i e (by omega)
      · intro hm
        have hm' : (ix2 (pos n i) (posV h e) : S256x512.Idx)
            ∈ (Rect.unit (s := S256x512) ![64 * (j / 4), 128 * (j % 4)] S64x128.size b2).set := hm
        have m0 : 64 * (j / 4) ≤ 64 * n.val + i.val ∧ 64 * n.val + i.val < 64 * (j / 4) + 64 := Rect.mem_set_unit.mp hm' 0
        have m1 : 128 * (j % 4) ≤ 128 * h.val + e.val ∧ 128 * h.val + e.val < 128 * (j % 4) + 128 := Rect.mem_set_unit.mp hm' 1
        omega

/-! ## The loads -/

variable {M2 M3 : Memref sig .tc .vmem S256x256 .f32} {M4 M5 : Memref sig .tc .vmem S256x512 .f32}
  {M9 : Memref sig .tc .vmem S1x128 .f32} {M11 : Memref sig .tc .vmem S4x128x64 .f32}
  {w2 : M2.IsWhole} {w3 : M3.IsWhole} {w4 : M4.IsWhole} {w5 : M5.IsWhole} {w9 : M9.IsWhole} {w11 : M11.IsWhole}

theorem load_rows (w2 : M2.IsWhole) (j : ℕ) (hj : j < 16)
    {b : ∀ a, (![64 * (j / 4), 0] : Fin 2 → ℕ) a + S64x256.size a ≤ S256x256.size a} (i : Fin 64) (c : Fin 256) :
    View.readAt (Elt Ideal) M2.view (Rect.unit (s := S256x256) ![64 * (j / 4), 0] S64x256.size b).toLoadRect (w2.unread X0) (ix2 i c)
      = X0 (ix2 (pos (four (j / 4)) i) c) := by
  have e1 : (four (j / 4)).val = j / 4 := Nat.mod_eq_of_lt (by omega)
  refine (congrFun (w2.read_unread X0) _).trans (congrArg X0 (funext fun a => Fin.ext ((Rect.idx_unit_val _ _ _ _ a).trans ?_)))
  fin_cases a
  · show 64 * (j / 4) + i.val = 64 * (four (j / 4)).val + i.val; omega
  · show 0 + c.val = c.val; omega

theorem load_block (w4 : M4.IsWhole) (j : ℕ) (hj : j < 16)
    {b : ∀ a, (![64 * (j / 4), 128 * (j % 4)] : Fin 2 → ℕ) a + S64x128.size a ≤ S256x512.size a} (i : Fin 64) (e : Fin 128) :
    View.readAt (Elt Ideal) M4.view (Rect.unit (s := S256x512) ![64 * (j / 4), 128 * (j % 4)] S64x128.size b).toLoadRect (w4.unread X2) (ix2 i e)
      = X2 (ix2 (pos (four (j / 4)) i) (posV (four (j % 4)) e)) := by
  have e1 : (four (j / 4)).val = j / 4 := Nat.mod_eq_of_lt (by omega)
  have e2 : (four (j % 4)).val = j % 4 := Nat.mod_eq_of_lt (by omega)
  refine (congrFun (w4.read_unread X2) _).trans (congrArg X2 (funext fun a => Fin.ext ((Rect.idx_unit_val _ _ _ _ a).trans ?_)))
  fin_cases a
  · show 64 * (j / 4) + i.val = 64 * (four (j / 4)).val + i.val; omega
  · show 128 * (j % 4) + e.val = 128 * (four (j % 4)).val + e.val; omega

theorem load_gain (w9 : M9.IsWhole) {b : ∀ a, (![0, 0] : Fin 2 → ℕ) a + S1x128.size a ≤ S1x128.size a} (e : Fin 128) :
    View.readAt (Elt Ideal) M9.view (Rect.unit (s := S1x128) ![0, 0] S1x128.size b).toLoadRect (w9.unread X7) (ix2 0 e) = X7 (ix2 0 e) := by
  refine (congrFun (w9.read_unread X7) _).trans (congrArg X7 (funext fun a => Fin.ext ((Rect.idx_unit_val _ _ _ _ a).trans ?_)))
  fin_cases a
  · show 0 + 0 = 0; omega
  · show 0 + e.val = e.val; omega

/-- A step that reads its state from the scratch as the steps before left it. -/
theorem step {base : Prop} {j : ℕ} {L : List (View.Piece (Elt Ideal) S4x128x64 .f32)}
    {M : List (View.Piece (Elt Ideal) S256x512 .f32)} (H : Steps X0 X1 X2 X3 LA X7 S0 base j L M)
    (hj : j < 16) (hb : base ∨ 4 ≤ j)
    {h0 : S256x256.Slices ![64 * (j / 4), 0] S64x256} {h1 : S64x256.Slices ![0, 64 * (j % 4)] S64x64}
    {h2 : S1x256.Slices ![0, 64 * (j % 4)] S1x64}
    {b1 : ∀ a, (![j % 4, 0, 0] : Fin 3 → ℕ) a + S1x128x64.size a ≤ S4x128x64.size a}
    {b2 : ∀ a, (![64 * (j / 4), 128 * (j % 4)] : Fin 2 → ℕ) a + S64x128.size a ≤ S256x512.size a}
    {b3 : ∀ a, (![64 * (j / 4), 0] : Fin 2 → ℕ) a + S64x256.size a ≤ S256x256.size a}
    {b4 : ∀ a, (![0, 0] : Fin 2 → ℕ) a + S1x128.size a ≤ S1x128.size a} :
    Steps X0 X1 X2 X3 LA X7 S0 base (j + 1)
      (⟨Rect.unit (s := S4x128x64) ![j % 4, 0, 0] S1x128x64.size b1,
        nextV (cumV (extractStridedSlice S64x256 ![64 * (j / 4), 0] LA h0))
          (View.readAt (Elt Ideal) M3.view (Rect.unit (s := S256x256) ![64 * (j / 4), 0] S64x256.size b3).toLoadRect (w3.unread X1))
          (View.readAt (Elt Ideal) M4.view (Rect.unit (s := S256x512) ![64 * (j / 4), 128 * (j % 4)] S64x128.size b2).toLoadRect (w4.unread X2))
          (M11.view.readCov L (Rect.unit (s := S4x128x64) ![j % 4, 0, 0] S1x128x64.size b1).toLoadRect)
          ![0, 64 * (j % 4)] h1 h2⟩ :: L)
      (⟨Rect.unit (s := S256x512) ![64 * (j / 4), 128 * (j % 4)] S64x128.size b2,
        gatedV
          (View.readAt (Elt Ideal) M9.view (Rect.unit (s := S1x128) ![0, 0] S1x128.size b4).toLoadRect (w9.unread X7))
          (View.readAt (Elt Ideal) M5.view (Rect.unit (s := S256x512) ![64 * (j / 4), 128 * (j % 4)] S64x128.size b2).toLoadRect (w5.unread X3))
          (mixV (cumV (extractStridedSlice S64x256 ![64 * (j / 4), 0] LA h0))
            (View.readAt (Elt Ideal) M2.view (Rect.unit (s := S256x256) ![64 * (j / 4), 0] S64x256.size b3).toLoadRect (w2.unread X0))
            (View.readAt (Elt Ideal) M3.view (Rect.unit (s := S256x256) ![64 * (j / 4), 0] S64x256.size b3).toLoadRect (w3.unread X1))
            (View.readAt (Elt Ideal) M4.view (Rect.unit (s := S256x512) ![64 * (j / 4), 128 * (j % 4)] S64x128.size b2).toLoadRect (w4.unread X2))
            (M11.view.readCov L (Rect.unit (s := S4x128x64) ![j % 4, 0, 0] S1x128x64.size b1).toLoadRect)
            ![0, 64 * (j % 4)] h1)⟩ :: M) := by
  refine step_of hj H (load_rows w2 j hj) (load_rows w3 j hj) (load_block w4 j hj) (load_block w5 j hj) (load_gain w9) ?_
  intro d e
  have e2 : (four (j % 4)).val = j % 4 := Nat.mod_eq_of_lt (by omega)
  rw [View.readCov_eq_canon']
  have hi : (Rect.unit (s := S4x128x64) ![j % 4, 0, 0] S1x128x64.size b1).toLoadRect.idx (ix3 0 e d) = ix3 (four (j % 4)) e d := by
    refine funext fun a => Fin.ext ((Rect.idx_unit_val _ _ _ _ a).trans ?_)
    fin_cases a
    · show j % 4 + 0 = (four (j % 4)).val; omega
    · show 0 + e.val = e.val; omega
    · show 0 + d.val = d.val; omega
  show View.canon L ((Rect.unit (s := S4x128x64) ![j % 4, 0, 0] S1x128x64.size b1).toLoadRect.idx (ix3 0 e d)) = _
  rw [hi, H.state (four (j % 4)) d e (hb.imp id fun h => by omega)]
  congr 1
  unfold doneOf
  rw [if_neg (by omega), add_zero]

/-- A step of the first chunk that reads its state from the scratch as the point before left it. -/
theorem step_first {j : ℕ} {L : List (View.Piece (Elt Ideal) S4x128x64 .f32)}
    {M : List (View.Piece (Elt Ideal) S256x512 .f32)} (XS : Vec Ideal S4x128x64 .f32)
    (H : Steps X0 X1 X2 X3 LA X7 (fun h d e => XS (ix3 h e d)) False j L M)
    (hj : j < 4)
    {h0 : S256x256.Slices ![64 * (j / 4), 0] S64x256} {h1 : S64x256.Slices ![0, 64 * (j % 4)] S64x64}
    {h2 : S1x256.Slices ![0, 64 * (j % 4)] S1x64}
    {b1 : ∀ a, (![j % 4, 0, 0] : Fin 3 → ℕ) a + S1x128x64.size a ≤ S4x128x64.size a}
    {b2 : ∀ a, (![64 * (j / 4), 128 * (j % 4)] : Fin 2 → ℕ) a + S64x128.size a ≤ S256x512.size a}
    {b3 : ∀ a, (![64 * (j / 4), 0] : Fin 2 → ℕ) a + S64x256.size a ≤ S256x256.size a}
    {b4 : ∀ a, (![0, 0] : Fin 2 → ℕ) a + S1x128.size a ≤ S1x128.size a} :
    Steps X0 X1 X2 X3 LA X7 (fun h d e => XS (ix3 h e d)) False (j + 1)
      (⟨Rect.unit (s := S4x128x64) ![j % 4, 0, 0] S1x128x64.size b1,
        nextV (cumV (extractStridedSlice S64x256 ![64 * (j / 4), 0] LA h0))
          (View.readAt (Elt Ideal) M3.view (Rect.unit (s := S256x256) ![64 * (j / 4), 0] S64x256.size b3).toLoadRect (w3.unread X1))
          (View.readAt (Elt Ideal) M4.view (Rect.unit (s := S256x512) ![64 * (j / 4), 128 * (j % 4)] S64x128.size b2).toLoadRect (w4.unread X2))
          (View.readAt (Elt Ideal) M11.view (Rect.unit (s := S4x128x64) ![j % 4, 0, 0] S1x128x64.size b1).toLoadRect (w11.unread XS))
          ![0, 64 * (j % 4)] h1 h2⟩ :: L)
      (⟨Rect.unit (s := S256x512) ![64 * (j / 4), 128 * (j % 4)] S64x128.size b2,
        gatedV
          (View.readAt (Elt Ideal) M9.view (Rect.unit (s := S1x128) ![0, 0] S1x128.size b4).toLoadRect (w9.unread X7))
          (View.readAt (Elt Ideal) M5.view (Rect.unit (s := S256x512) ![64 * (j / 4), 128 * (j % 4)] S64x128.size b2).toLoadRect (w5.unread X3))
          (mixV (cumV (extractStridedSlice S64x256 ![64 * (j / 4), 0] LA h0))
            (View.readAt (Elt Ideal) M2.view (Rect.unit (s := S256x256) ![64 * (j / 4), 0] S64x256.size b3).toLoadRect (w2.unread X0))
            (View.readAt (Elt Ideal) M3.view (Rect.unit (s := S256x256) ![64 * (j / 4), 0] S64x256.size b3).toLoadRect (w3.unread X1))
            (View.readAt (Elt Ideal) M4.view (Rect.unit (s := S256x512) ![64 * (j / 4), 128 * (j % 4)] S64x128.size b2).toLoadRect (w4.unread X2))
            (View.readAt (Elt Ideal) M11.view (Rect.unit (s := S4x128x64) ![j % 4, 0, 0] S1x128x64.size b1).toLoadRect (w11.unread XS))
            ![0, 64 * (j % 4)] h1)⟩ :: M) := by
  have hj' : j < 16 := by omega
  refine step_of hj' H (load_rows w2 j hj') (load_rows w3 j hj') (load_block w4 j hj') (load_block w5 j hj') (load_gain w9) ?_
  intro d e
  have e2 : (four (j % 4)).val = j % 4 := Nat.mod_eq_of_lt (by omega)
  refine (congrFun (w11.read_unread XS) _).trans ?_
  rw [show j / 4 = 0 by omega]
  have hi : (Rect.unit (s := S4x128x64) ![j % 4, 0, 0] S1x128x64.size b1).toLoadRect.idx (ix3 0 e d) = ix3 (four (j % 4)) e d := by
    refine funext fun a => Fin.ext ((Rect.idx_unit_val _ _ _ _ a).trans ?_)
    fin_cases a
    · show j % 4 + 0 = (four (j % 4)).val; omega
    · show 0 + e.val = e.val; omega
    · show 0 + d.val = d.val; omega
  exact congrArg XS hi

end Gla
-- ==== Proof.GlaCases.lean ====
module

public import proofs.«01_k».proof.Proof.GlaPoint
import all proofs.«01_k».proof.Proof.Gen.Kernel5Ideal.Frame.RunA
import all proofs.«01_k».proof.Proof.Gen.Kernel5Ideal.Frame.RunB
import all proofs.«01_k».proof.Proof.Gen.Kernel5Ideal.Frame
import all proofs.«01_k».proof.Proof.Gen.Kernel5Ideal.Skeleton

/-!
# Gated linear attention: the two cases of a grid point

The first point of a sequence clears the states and the other points carry them on. In each case the sixteen steps give
what the point leaves in the scratch and in its output block.
-/

@[expose] public section

noncomputable section

set_option maxRecDepth 16384

open Idealize.ShloMosaic hiding ix2 ix3 eq_ix2 eq_ix3
open Idealize.ShloMosaic.TcCoe Idealize.SL.Sem
open Idealize.ShloMosaic.ValueIdx (ix2 ix3 eq_ix2 eq_ix3)

namespace Gla

open Cert.Kernel5Ideal Cert.Kernel5Ideal.Gen

theorem steps_zero (X0 X1 : Vec Ideal S256x256 .f32) (X2 X3 : Vec Ideal S256x512 .f32) (LA : FVec Ideal S256x256 .f32)
    (X7 : Vec Ideal S1x128 .f32) (S0 : Fin 4 → Fin 64 → Fin 128 → EReal) :
    Steps X0 X1 X2 X3 LA X7 S0 False 0 [] [] :=
  ⟨fun h d e hb => by rcases hb with hb | hb <;> first | exact hb.elim | omega, fun n h i e hb => by omega⟩

variable (c : Dev nD) (i : grid0.Coords)
  (arg2 : Memref sig .tc .vmem S256x256 .f32) (harg2 : arg2.IsWhole) (arg3 : Memref sig .tc .vmem S256x256 .f32) (harg3 : arg3.IsWhole)
  (arg4 : Memref sig .tc .vmem S256x512 .f32) (harg4 : arg4.IsWhole) (arg5 : Memref sig .tc .vmem S256x512 .f32) (harg5 : arg5.IsWhole)
  (arg6 : Memref sig .tc .vmem S256x128 .f32) (harg6 : arg6.IsWhole) (arg7 : Memref sig .tc .vmem S16x256 .bf16) (harg7 : arg7.IsWhole)
  (arg8 : Memref sig .tc .vmem S1x256 .f32) (harg8 : arg8.IsWhole) (arg9 : Memref sig .tc .vmem S1x128 .f32) (harg9 : arg9.IsWhole)
  (arg10 : Memref sig .tc .vmem S256x512 .f32) (harg10 : arg10.IsWhole) (arg11 : Memref sig .tc .vmem S4x128x64 .f32) (harg11 : arg11.IsWhole)
  (x0 x1 : Vec Ideal S256x256 .f32) (x2 x3 : Vec Ideal S256x512 .f32) (x4 : Vec Ideal S256x128 .f32)
  (x5 : Vec Ideal S16x256 .bf16) (x6 : Vec Ideal S1x256 .f32) (x7 : Vec Ideal S1x128 .f32)

/-- The logarithms of the decays of a point's 256 tokens. -/
def logDecayV : FVec Ideal S256x256 .f32 :=
  k0_pay2 (View.ld x4 (Rect.unit (s := S256x128) ![0, 0] S256x16.size inb_S256x128_S256x16_0_0))
    (View.ld x5 (Rect.unit (s := S16x256) ![0, 0] S16x256.size inb_S16x256_S16x256_0_0))
    (View.ld x6 (Rect.unit (s := S1x256) ![0, 0] S1x256.size inb_S1x256_S1x256_0_0))

theorem logDecayV_eq : logDecayV x4 x5 x6
    = k0_pay2 (View.readAt (Elt Ideal) arg6.view (Rect.unit (s := S256x128) ![0, 0] S256x16.size inb_S256x128_S256x16_0_0).toLoadRect (harg6.unread x4))
        (View.readAt (Elt Ideal) arg7.view (Rect.unit (s := S16x256) ![0, 0] S16x256.size inb_S16x256_S16x256_0_0).toLoadRect (harg7.unread x5))
        (View.readAt (Elt Ideal) arg8.view (Rect.unit (s := S1x256) ![0, 0] S1x256.size inb_S1x256_S1x256_0_0).toLoadRect (harg8.unread x6)) := by
  simp only [View.readAt_eq_ld, Memref.IsWhole.read_unread]
  rfl

/-- A point inside a sequence: sixteen steps, from the states the point before left. -/
theorem stepsB (hc0 : ¬cond0_0 i) (xs0 : Vec Ideal S4x128x64 .f32) :
    Steps x0 x1 x2 x3 (logDecayV x4 x5 x6) x7 (fun h d e => xs0 (ix3 h e d)) False 16
      (kernelRun0_B c i arg2 harg2 arg3 harg3 arg4 harg4 arg5 harg5 arg6 harg6 arg7 harg7 arg8 harg8 arg9 harg9
      arg10 harg10 arg11 harg11 hc0 x0 x1 x2 x3 x4 x5 x6 x7 xs0).2.1
      (kernelRun0_B c i arg2 harg2 arg3 harg3 arg4 harg4 arg5 harg5 arg6 harg6 arg7 harg7 arg8 harg8 arg9 harg9
      arg10 harg10 arg11 harg11 hc0 x0 x1 x2 x3 x4 x5 x6 x7 xs0).1 := by
  rw [logDecayV_eq arg6 harg6 arg7 harg7 arg8 harg8]
  unfold kernelRun0_B
  dsimp only
  refine step (h2 := by decide) (w2 := harg2) (w3 := harg3) (w4 := harg4) (w5 := harg5) (w9 := harg9) (M11 := arg11) ?_ (by decide) (.inr (by decide))
  iterate 11 refine step (h2 := by decide) (w2 := harg2) (w3 := harg3) (w4 := harg4) (w5 := harg5) (w9 := harg9) (M11 := arg11) ?_ (by decide) (.inr (by decide))
  iterate 4 refine step_first (h2 := by decide) (w2 := harg2) (w3 := harg3) (w4 := harg4) (w5 := harg5) (w9 := harg9) (w11 := harg11) xs0 ?_ (by decide)
  exact steps_zero _ _ _ _ _ _ _

theorem steps_cleared (X0 X1 : Vec Ideal S256x256 .f32) (X2 X3 : Vec Ideal S256x512 .f32) (LA : FVec Ideal S256x256 .f32)
    (X7 : Vec Ideal S1x128 .f32) :
    Steps X0 X1 X2 X3 LA X7 (fun _ _ _ => 0) True 0
      [⟨Rect.unit (s := S4x128x64) ![0, 0, 0] S4x128x64.size inb_S4x128x64_S4x128x64_0_0_0, k0_pay1 (F := Ideal)⟩] [] := by
  have hz : (![0, 0, 0] : Fin 3 → ℕ) = fun _ => 0 := by decide
  refine ⟨fun h d e _ => ?_, fun n h i e hb => by omega⟩
  rw [View.canon_unit_zero hz]
  unfold k0_pay1
  pointwise
  rfl

/-- The first point of a sequence: sixteen steps, from cleared states. -/
theorem stepsA (hc0 : cond0_0 i) :
    Steps x0 x1 x2 x3 (logDecayV x4 x5 x6) x7 (fun _ _ _ => 0) True 16
      (kernelRun0_A c i arg2 harg2 arg3 harg3 arg4 harg4 arg5 harg5 arg6 harg6 arg7 harg7 arg8 harg8 arg9 harg9
      arg10 harg10 arg11 harg11 hc0 x0 x1 x2 x3 x4 x5 x6 x7).2.1
      (kernelRun0_A c i arg2 harg2 arg3 harg3 arg4 harg4 arg5 harg5 arg6 harg6 arg7 harg7 arg8 harg8 arg9 harg9
      arg10 harg10 arg11 harg11 hc0 x0 x1 x2 x3 x4 x5 x6 x7).1 := by
  rw [logDecayV_eq arg6 harg6 arg7 harg7 arg8 harg8]
  unfold kernelRun0_A
  dsimp only
  iterate 16 refine step (h2 := by decide) (w2 := harg2) (w3 := harg3) (w4 := harg4) (w5 := harg5) (w9 := harg9) (M11 := arg11) ?_ (by decide) (.inl trivial)
  exact steps_cleared _ _ _ _ _ _

theorem sout_A (hc0 : cond0_0 i) (h : Fin 4) (d : Fin 64) (e : Fin 128) :
    sout0_A_0 c i arg2 harg2 arg3 harg3 arg4 harg4 arg5 harg5 arg6 harg6 arg7 harg7 arg8 harg8 arg9 harg9
      arg10 harg10 arg11 harg11 hc0 x0 x1 x2 x3 x4 x5 x6 x7 (ix3 h e d)
      = stAfter x0 x1 x2 (logDecayV x4 x5 x6) (fun _ _ _ => 0) h 4 d e := by
  unfold sout0_A_0
  rw [View.read_writes_junk_eq_canon]
  exact (stepsA c i arg2 harg2 arg3 harg3 arg4 harg4 arg5 harg5 arg6 harg6 arg7 harg7 arg8 harg8 arg9 harg9
      arg10 harg10 arg11 harg11 x0 x1 x2 x3 x4 x5 x6 x7 hc0).state h d e (.inl trivial)

theorem out_A (hc0 : cond0_0 i) (n h : Fin 4) (r : Fin 64) (e : Fin 128) :
    out0_A_8 c i arg2 harg2 arg3 harg3 arg4 harg4 arg5 harg5 arg6 harg6 arg7 harg7 arg8 harg8 arg9 harg9
      arg10 harg10 arg11 harg11 hc0 x0 x1 x2 x3 x4 x5 x6 x7 (ix2 (pos n r) (posV h e))
      = outAt x0 x1 x2 x3 (logDecayV x4 x5 x6) x7 (fun _ _ _ => 0) n h r e := by
  unfold out0_A_8
  rw [View.read_writes_junk_eq_canon]
  exact (stepsA c i arg2 harg2 arg3 harg3 arg4 harg4 arg5 harg5 arg6 harg6 arg7 harg7 arg8 harg8 arg9 harg9
      arg10 harg10 arg11 harg11 x0 x1 x2 x3 x4 x5 x6 x7 hc0).out n h r e (by omega)

theorem sout_B (hc0 : ¬cond0_0 i) (xs0 : Vec Ideal S4x128x64 .f32) (h : Fin 4) (d : Fin 64) (e : Fin 128) :
    sout0_B_0 c i arg2 harg2 arg3 harg3 arg4 harg4 arg5 harg5 arg6 harg6 arg7 harg7 arg8 harg8 arg9 harg9
      arg10 harg10 arg11 harg11 hc0 x0 x1 x2 x3 x4 x5 x6 x7 xs0 (ix3 h e d)
      = stAfter x0 x1 x2 (logDecayV x4 x5 x6) (fun h d e => xs0 (ix3 h e d)) h 4 d e := by
  unfold sout0_B_0
  rw [View.read_writes_junk_eq_canon]
  exact (stepsB c i arg2 harg2 arg3 harg3 arg4 harg4 arg5 harg5 arg6 harg6 arg7 harg7 arg8 harg8 arg9 harg9
      arg10 harg10 arg11 harg11 x0 x1 x2 x3 x4 x5 x6 x7 hc0 xs0).state h d e (.inr (by omega))

theorem out_B (hc0 : ¬cond0_0 i) (xs0 : Vec Ideal S4x128x64 .f32) (n h : Fin 4) (r : Fin 64) (e : Fin 128) :
    out0_B_8 c i arg2 harg2 arg3 harg3 arg4 harg4 arg5 harg5 arg6 harg6 arg7 harg7 arg8 harg8 arg9 harg9
      arg10 harg10 arg11 harg11 hc0 x0 x1 x2 x3 x4 x5 x6 x7 xs0 (ix2 (pos n r) (posV h e))
      = outAt x0 x1 x2 x3 (logDecayV x4 x5 x6) x7 (fun h d e => xs0 (ix3 h e d)) n h r e := by
  unfold out0_B_8
  rw [View.read_writes_junk_eq_canon]
  exact (stepsB c i arg2 harg2 arg3 harg3 arg4 harg4 arg5 harg5 arg6 harg6 arg7 harg7 arg8 harg8 arg9 harg9
      arg10 harg10 arg11 harg11 x0 x1 x2 x3 x4 x5 x6 x7 hc0 xs0).out n h r e (by omega)

end Gla
-- ==== Proof.GlaSpec.lean ====
module

public import proofs.«01_k».proof.Proof.GlaLane

/-!
# Gated linear attention: the whole result

The chunks of a batch row and a head follow one another, each one starting from the state the one before left. The words
are those of one chunk (`Chunk`), read out of the four arguments: the projections `P`, the second factor `W` and the bias
`A` of the decay, and the gain `G` of the norm.
-/

@[expose] public section

noncomputable section

set_option maxRecDepth 16384

namespace Gla

variable (P : Fin 32 → Fin 2048 → Fin 3248 → EReal) (W : Fin 16 → Fin 256 → EReal) (A : Fin 256 → EReal) (G : Fin 128 → EReal)

/-- Token `i` of chunk `n`. -/
def tok (n : ℕ) (i : Fin 64) : Fin 2048 := ⟨(64 * n + i.val) % 2048, by omega⟩

/-- The columns of the projections: queries, keys, values, gates, and the first factor of the decay. -/
def colQ (h : Fin 4) (d : Fin 64) : Fin 3248 := ⟨64 * h.val + d.val, by omega⟩
def colK (h : Fin 4) (d : Fin 64) : Fin 3248 := ⟨256 + (64 * h.val + d.val), by omega⟩
def colV (h : Fin 4) (e : Fin 128) : Fin 3248 := ⟨512 + (128 * h.val + e.val), by omega⟩
def colG (h : Fin 4) (e : Fin 128) : Fin 3248 := ⟨1024 + (128 * h.val + e.val), by omega⟩
def colL (j : Fin 16) : Fin 3248 := ⟨1536 + j.val, by omega⟩

/-- The word the decay of a token and a lane is made of. -/
def decayWord (b : Fin 32) (t : Fin 2048) (c : Fin 256) : EReal := (∑ j : Fin 16, P b t (colL j) * W j c) + A c

/-- Chunk `n` of a batch row and a head. -/
def chunkG (b : Fin 32) (h : Fin 4) (n : ℕ) : Chunk where
  q i d := P b (tok n i) (colQ h d)
  k i d := P b (tok n i) (colK h d)
  la i d := logDecay (decayWord P W A b (tok n i) (pos h d))
  v i e := P b (tok n i) (colV h e)

/-- The state of a batch row and a head before chunk `n`. -/
def stG (b : Fin 32) (h : Fin 4) : ℕ → Fin 64 → Fin 128 → EReal
  | 0 => fun _ _ => 0
  | n + 1 => (chunkG P W A b h n).next (stG b h n)

/-- The result at chunk `n`, its token `i`, head `h`, lane `e`. -/
def resG (b : Fin 32) (h : Fin 4) (n : ℕ) (i : Fin 64) (e : Fin 128) : EReal :=
  gated ((chunkG P W A b h n).mix (stG P W A b h n) i) (G e) (P b (tok n i) (colG h e)) e

/-- The result at row `r` of all tokens and column `c` of all heads. -/
def outG (r : Fin 65536) (c : Fin 512) : EReal :=
  resG P W A G ⟨r.val / 2048, by omega⟩ ⟨c.val / 128, by omega⟩ (r.val % 2048 / 64) ⟨r.val % 64, by omega⟩
    ⟨c.val % 128, by omega⟩

end Gla

end
-- ==== Proof.GlaValue.lean ====
module

public import proofs.«01_k».proof.Proof.GlaCases
public import proofs.«01_k».proof.Proof.GlaSpec
public import proofs.«01_k».proof.Proof.Gen.Kernel5Ideal.Value
public import Idealize.ShloMosaic.Lib.Pipeline.Value
public import Idealize.ShloMosaic.Lib.Pipeline.ValueKit

/-!
# Gated linear attention: the kernel's result

The grid points of a batch row follow one another; each one takes its head's states from the scratch and leaves the states
after its four chunks there. Put together, the output blocks are `outG` of the arguments.
-/

@[expose] public section

noncomputable section

set_option maxRecDepth 16384

namespace Gla

open Cert.Kernel5Ideal Cert.Kernel5Ideal.Gen
open Idealize.ShloMosaic hiding ix2 ix3 eq_ix2 eq_ix3
open Idealize.ShloMosaic.TcCoe Idealize.SL.Sem
open Idealize.ShloMosaic.ValueIdx (ix2 ix3 eq_ix2 eq_ix3)

variable (m : (ℓ : Loc nD τ sig) → Buf (Elt Ideal) ℓ) (c : Dev nD)

/-- The arguments as functions of their indices. -/
def argP (X : Vec Ideal S32x2048x3248 .f32) (b : Fin 32) (t : Fin 2048) (k : Fin 3248) : EReal := X (ix3 b t k)
def argW (X : Vec Ideal S16x256 .f32) (j : Fin 16) (k : Fin 256) : EReal := X (ix2 j k)
def argA (X : Vec Ideal S256 .f32) (k : Fin 256) : EReal := X (Idealize.ShloMosaic.ValueIdx.ix1 k)
def argG (X : Vec Ideal S128 .f32) (k : Fin 128) : EReal := X (Idealize.ShloMosaic.ValueIdx.ix1 k)

/-- The result of both programs, from the arguments. -/
def out (P : Vec Ideal S32x2048x3248 .f32) (W : Vec Ideal S16x256 .f32) (A : Vec Ideal S256 .f32) (G : Vec Ideal S128 .f32) :
    Vec Ideal S65536x512 .f32 :=
  fun y => outG (argP P) (argW W) (argA A) (argG G) (y 0) (y 1)

theorem idx_0 : ∀ t : Fin cfg0.N, win0_0.index t = ![t.val, 0] := (by decide +kernel : ∀ t : Fin grid0.N, _)
theorem idx_1 : ∀ t : Fin cfg0.N, win0_1.index t = ![t.val, 1] := (by decide +kernel : ∀ t : Fin grid0.N, _)
theorem idx_2 : ∀ t : Fin cfg0.N, win0_2.index t = ![t.val, 1] := (by decide +kernel : ∀ t : Fin grid0.N, _)
theorem idx_3 : ∀ t : Fin cfg0.N, win0_3.index t = ![t.val, 2] := (by decide +kernel : ∀ t : Fin grid0.N, _)
theorem idx_4 : ∀ t : Fin cfg0.N, win0_4.index t = ![t.val, 12] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![t.val, 0] := (by decide +kernel : ∀ t : Fin grid0.N, _)

/-- The batch row and the first chunk of point `t`. -/
def ptB (t : Fin cfg0.N) : Fin 32 := ⟨t.val / 8, by have := t.isLt; have h : cfg0.N = 256 := rfl; omega⟩
def ptN (t : Fin cfg0.N) : ℕ := 4 * (t.val % 8)

/-- The row, among all tokens, of row `r` of point `t`'s blocks. -/
def row (t : Fin cfg0.N) (r : Fin 256) : Fin 65536 := ⟨t.val * 256 + r.val, by have := t.isLt; have h : cfg0.N = 256 := rfl; omega⟩

/-- The projections the region finds, from the argument. -/
theorem arr_p (r : Fin 65536) (k : Fin 3248) :
    V m c main_v0 (ix2 r k) = m ((c.tc : Thread nD τ).loc main_arg0) (ix3 (⟨r.val / 2048, by omega⟩ : Fin 32) (⟨r.val % 2048, by omega⟩ : Fin 2048) k) := by
  entry_read
  pointwise
  rfl
theorem arr_w (j : Fin 16) (k : Fin 256) : V m c main_v1 (ix2 j k) = m ((c.tc : Thread nD τ).loc main_arg1) (ix2 j k) := by
  entry_read
  pointwise
theorem arr_a (k : Fin 256) : V m c main_v2 (ix2 (0 : Fin 1) k) = m ((c.tc : Thread nD τ).loc main_arg2) (Idealize.ShloMosaic.ValueIdx.ix1 k) := by
  entry_read
  pointwise
  rfl
theorem arr_g (k : Fin 128) : V m c main_v3 (ix2 (0 : Fin 1) k) = m ((c.tc : Thread nD τ).loc main_arg3) (Idealize.ShloMosaic.ValueIdx.ix1 k) := by
  entry_read
  pointwise
  rfl

/-- Row `r`, column `k` of the first window's block. -/
theorem blk_0 (t : Fin cfg0.N) (r : Fin 256) (k : Fin 256) :
    X0_0 m c t (ix2 r k) = V m c main_v0 (ix2 (row t r) (⟨k.val, by omega⟩ : Fin 3248)) := by
  unfold X0_0 Pipeline.Window.fill
  rw [dif_pos (moved0_0 t _)]
  simp only [← ix2_eq_valueIdx]
  blk_ext [iblk, idx_0 t, row]
theorem blk_1 (t : Fin cfg0.N) (r : Fin 256) (k : Fin 256) :
    X0_1 m c t (ix2 r k) = V m c main_v0 (ix2 (row t r) (⟨256 + k.val, by omega⟩ : Fin 3248)) := by
  unfold X0_1 Pipeline.Window.fill
  rw [dif_pos (moved0_1 t _)]
  simp only [← ix2_eq_valueIdx]
  blk_ext [iblk, idx_1 t, row]
theorem blk_2 (t : Fin cfg0.N) (r : Fin 256) (k : Fin 512) :
    X0_2 m c t (ix2 r k) = V m c main_v0 (ix2 (row t r) (⟨512 + k.val, by omega⟩ : Fin 3248)) := by
  unfold X0_2 Pipeline.Window.fill
  rw [dif_pos (moved0_2 t _)]
  simp only [← ix2_eq_valueIdx]
  blk_ext [iblk, idx_2 t, row]
theorem blk_3 (t : Fin cfg0.N) (r : Fin 256) (k : Fin 512) :
    X0_3 m c t (ix2 r k) = V m c main_v0 (ix2 (row t r) (⟨1024 + k.val, by omega⟩ : Fin 3248)) := by
  unfold X0_3 Pipeline.Window.fill
  rw [dif_pos (moved0_3 t _)]
  simp only [← ix2_eq_valueIdx]
  blk_ext [iblk, idx_3 t, row]
theorem blk_4 (t : Fin cfg0.N) (r : Fin 256) (k : Fin 128) :
    X0_4 m c t (ix2 r k) = V m c main_v0 (ix2 (row t r) (⟨1536 + k.val, by omega⟩ : Fin 3248)) := by
  unfold X0_4 Pipeline.Window.fill
  rw [dif_pos (moved0_4 t _)]
  simp only [← ix2_eq_valueIdx]
  blk_ext [iblk, idx_4 t, row]
theorem blk_5 (t : Fin cfg0.N) (j : Fin 16) (k : Fin 256) : iblk m c 5 t (ix2 j k) = V m c main_v1 (ix2 j k) := by
  simp only [← ix2_eq_valueIdx]
  blk_ext [iblk, idx_5 t]
theorem blk_6 (t : Fin cfg0.N) (k : Fin 256) : iblk m c 6 t (ix2 (0 : Fin 1) k) = V m c main_v2 (ix2 (0 : Fin 1) k) := by
  simp only [← ix2_eq_valueIdx]
  blk_ext [iblk, idx_6 t]
theorem blk_7 (t : Fin cfg0.N) (k : Fin 128) : iblk m c 7 t (ix2 (0 : Fin 1) k) = V m c main_v3 (ix2 (0 : Fin 1) k) := by
  simp only [← ix2_eq_valueIdx]
  blk_ext [iblk, idx_7 t]

/-- The arguments as the spec takes them. -/
abbrev pP := argP (m ((c.tc : Thread nD τ).loc main_arg0))
abbrev pW := argW (m ((c.tc : Thread nD τ).loc main_arg1))
abbrev pA := argA (m ((c.tc : Thread nD τ).loc main_arg2))
abbrev pG := argG (m ((c.tc : Thread nD τ).loc main_arg3))

/-- The flat array at a row of a point's chunk is the projection of that chunk's token. -/
theorem arr_tok (t : Fin cfg0.N) (n : Fin 4) (i : Fin 64) (k : Fin 3248) :
    V m c main_v0 (ix2 (row t (pos n i)) k) = pP m c (ptB t) (tok (ptN t + n.val) i) k := by
  refine (arr_p m c _ k).trans ?_
  have h : t.val < 256 := t.isLt
  have e0 : (⟨(row t (pos n i)).val / 2048, by omega⟩ : Fin 32) = ptB t := Fin.ext (by simp only [row, pos, ptB]; omega)
  have e1 : (⟨(row t (pos n i)).val % 2048, by omega⟩ : Fin 2048) = tok (ptN t + n.val) i := Fin.ext (by simp only [row, pos, ptN, tok]; omega)
  rw [e0, e1]
  rfl

/-- The logarithms of the decays of a point. -/
theorem logDecayV_apply (x4 : Vec Ideal S256x128 .f32) (x5 : Vec Ideal S16x256 .bf16) (x6 : Vec Ideal S1x256 .f32) (r k : Fin 256) :
    logDecayV x4 x5 x6 (ix2 r k)
      = logDecay ((∑ j : Fin 16, x4 (ix2 r (⟨j.val, by omega⟩ : Fin 128)) * x5 (ix2 j k)) + x6 (ix2 (0 : Fin 1) k)) := by
  have hz : (![0, 0] : Fin 2 → ℕ) = fun _ => 0 := by decide
  unfold logDecayV
  rw [View.ld_unit_zero hz, View.ld_unit_zero hz]
  unfold k0_pay2
  pointwise
  simp only [zero_sub]
  rfl

abbrev laV (t : Fin cfg0.N) : FVec Ideal S256x256 .f32 := logDecayV (X0_4 m c t) (iblk m c 5 t) (iblk m c 6 t)

/-- The chunks of a point are the spec's. -/
theorem chunk_eq (t : Fin cfg0.N) (n h : Fin 4) :
    chunkAt (X0_0 m c t) (X0_1 m c t) (X0_2 m c t) (laV m c t) n h = chunkG (pP m c) (pW m c) (pA m c) (ptB t) h (ptN t + n.val) := by
  unfold chunkAt chunkG
  congr 1
  · funext i d
    exact (blk_0 m c t _ _).trans (arr_tok m c t n i _)
  · funext i d
    exact (blk_1 m c t _ _).trans (arr_tok m c t n i _)
  · funext i d
    refine (logDecayV_apply _ _ _ _ _).trans (congrArg logDecay ?_)
    refine congrArg₂ (· + ·) (Finset.sum_congr rfl fun j _ => congrArg₂ (· * ·) ?_ ?_) ?_
    · exact (blk_4 m c t _ _).trans (arr_tok m c t n i _)
    · exact (blk_5 m c t _ _).trans (arr_w m c _ _)
    · exact (blk_6 m c t _).trans (arr_a m c _)
  · funext i e
    exact (blk_2 m c t _ _).trans (arr_tok m c t n i _)

/-- The states of a point's four chunks are the spec's when those at its start are. -/
theorem stAfter_eq (t : Fin cfg0.N) (S0 : Fin 4 → Fin 64 → Fin 128 → EReal) (h : Fin 4)
    (hS : S0 h = stG (pP m c) (pW m c) (pA m c) (ptB t) h (ptN t)) : ∀ j, j ≤ 4 →
      stAfter (X0_0 m c t) (X0_1 m c t) (X0_2 m c t) (laV m c t) S0 h j = stG (pP m c) (pW m c) (pA m c) (ptB t) h (ptN t + j)
  | 0, _ => hS
  | j + 1, hj => by
    have e : ptN t + (four j).val = ptN t + j := by simp only [four]; omega
    show (chunkAt _ _ _ _ (four j) h).next (stAfter _ _ _ _ S0 h j) = (chunkG _ _ _ _ h (ptN t + j)).next (stG _ _ _ _ h (ptN t + j))
    rw [stAfter_eq t S0 h hS j (by omega), chunk_eq, e]

/-- A point's output is the spec's when the states at its start are. -/
theorem outAt_eq (t : Fin cfg0.N) (S0 : Fin 4 → Fin 64 → Fin 128 → EReal) (n h : Fin 4)
    (hS : S0 h = stG (pP m c) (pW m c) (pA m c) (ptB t) h (ptN t)) (i : Fin 64) (e : Fin 128) :
    outAt (X0_0 m c t) (X0_1 m c t) (X0_2 m c t) (X0_3 m c t) (laV m c t) (iblk m c 7 t) S0 n h i e
      = resG (pP m c) (pW m c) (pA m c) (pG m c) (ptB t) h (ptN t + n.val) i e := by
  unfold outAt resG
  rw [stAfter_eq m c t S0 h hS n.val (by omega), chunk_eq]
  congr 1
  · exact (blk_7 m c t _).trans (arr_g m c _)
  · exact (blk_3 m c t _ _).trans (arr_tok m c t n i _)

/-- After a point the scratch holds the states after its chunks. -/
theorem scratch_first (t : Fin cfg0.N) (h0 : t.val % 8 = 0) (h : Fin 4) (d : Fin 64) (e : Fin 128) :
    (outsAt0 m c t.val t.isLt).2 (ix3 h e d) = stG (pP m c) (pW m c) (pA m c) (ptB t) h (ptN t + 4) d e := by
  have hS : (fun _ _ => 0) = stG (pP m c) (pW m c) (pA m c) (ptB t) h (ptN t) := by
    rw [show ptN t = 0 by simp only [ptN]; omega]; rfl
  have k2 := congrFun (congrFun (stAfter_eq m c t (fun _ _ _ => 0) h hS 4 le_rfl) d) e
  rw [← k2, outsAt0_A m c t h0]
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (X0_0 m c t) (X0_1 m c t) (X0_2 m c t) (X0_3 m c t) (X0_4 m c t) (iblk m c 5 t) (iblk m c 6 t) (iblk m c 7 t)
      ((hcond0_0 t).mpr h0) h d e

theorem scratch_next (t : Fin cfg0.N) (h0 : ¬t.val % 8 = 0) (h : Fin 4)
    (hS : (fun d e => (outsAt0 m c (t.val - 1) (Nat.lt_of_le_of_lt (Nat.sub_le _ _) t.isLt)).2 (ix3 h e d))
      = stG (pP m c) (pW m c) (pA m c) (ptB t) h (ptN t)) (d : Fin 64) (e : Fin 128) :
    (outsAt0 m c t.val t.isLt).2 (ix3 h e d) = stG (pP m c) (pW m c) (pA m c) (ptB t) h (ptN t + 4) d e := by
  have k2 := congrFun (congrFun (stAfter_eq m c t
    (fun h d e => (outsAt0 m c (t.val - 1) (Nat.lt_of_le_of_lt (Nat.sub_le _ _) t.isLt)).2 (ix3 h e d)) h hS 4 le_rfl) d) e
  rw [← k2, outsAt0_B m c t h0]
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (X0_0 m c t) (X0_1 m c t) (X0_2 m c t) (X0_3 m c t) (X0_4 m c t) (iblk m c 5 t) (iblk m c 6 t) (iblk m c 7 t)
      (fun h => h0 ((hcond0_0 t).mp h)) _ h d e

theorem scratch (t : Fin cfg0.N) (h : Fin 4) (d : Fin 64) (e : Fin 128) :
    (outsAt0 m c t.val t.isLt).2 (ix3 h e d) = stG (pP m c) (pW m c) (pA m c) (ptB t) h (ptN t + 4) d e := by
  by_cases h0 : t.val % 8 = 0
  · exact scratch_first m c t h0 h d e
  · refine scratch_next m c t h0 h ?_ d e
    funext d e
    have ht := t.isLt
    refine (scratch ⟨t.val - 1, by omega⟩ h d e).trans ?_
    rw [show ptB ⟨t.val - 1, by omega⟩ = ptB t from Fin.ext (by simp only [ptB]; omega),
      show ptN ⟨t.val - 1, by omega⟩ + 4 = ptN t by simp only [ptN]; omega]
termination_by t.val
decreasing_by omega

/-- A point's output block. -/
theorem block (t : Fin cfg0.N) (n h : Fin 4) (i : Fin 64) (e : Fin 128) :
    (outsAt0 m c t.val t.isLt).1 (ix2 (pos n i) (posV h e))
      = resG (pP m c) (pW m c) (pA m c) (pG m c) (ptB t) h (ptN t + n.val) i e := by
  by_cases h0 : t.val % 8 = 0
  · rw [outsAt0_A m c t h0]
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (X0_0 m c t) (X0_1 m c t) (X0_2 m c t) (X0_3 m c t) (X0_4 m c t) (iblk m c 5 t) (iblk m c 6 t) (iblk m c 7 t)
      ((hcond0_0 t).mpr h0) n h i e).trans (outAt_eq m c t _ n h ?_ i e)
    rw [show ptN t = 0 by simp only [ptN]; omega]; rfl
  · rw [outsAt0_B m c t h0]
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (X0_0 m c t) (X0_1 m c t) (X0_2 m c t) (X0_3 m c t) (X0_4 m c t) (iblk m c 5 t) (iblk m c 6 t) (iblk m c 7 t)
      (fun h => h0 ((hcond0_0 t).mp h)) _ n h i e).trans (outAt_eq m c t _ n h ?_ i e)
    funext d e
    have ht := t.isLt
    refine (scratch m c ⟨t.val - 1, by omega⟩ h d e).trans ?_
    rw [show ptB ⟨t.val - 1, by omega⟩ = ptB t from Fin.ext (by simp only [ptB]; omega),
      show ptN ⟨t.val - 1, by omega⟩ + 4 = ptN t by simp only [ptN]; omega]

set_option backward.isDefEq.respectTransparency.types false in
/-- The output array after the run. -/
theorem final_arr : (dats m 0 c).arrAt 8 cfg0.N
    = out (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 8 _ (by decide +kernel) fun t hf y => ?_
  blk_simp
  rw [after0_8]
  obtain ⟨n, i, h, e, rfl⟩ : ∃ (n : Fin 4) (i : Fin 64) (h : Fin 4) (e : Fin 128), y = ix2 (pos n i) (posV h e) := by
    have h0 : (y 0).val < 256 := (y 0).isLt
    have h1 : (y 1).val < 512 := (y 1).isLt
    refine ⟨⟨(y 0).val / 64, by omega⟩, ⟨(y 0).val % 64, by omega⟩, ⟨(y 1).val / 128, by omega⟩, ⟨(y 1).val % 128, by omega⟩,
      (eq_ix2 y).trans (congrArg₂ ix2 (Fin.ext ?_) (Fin.ext ?_))⟩
    · simp only [pos]; omega
    · simp only [posV]; omega
  refine (block m c t n h i e).trans ?_
  have e8 : (win0_8.blk t).view.emb (ix2 (pos n i) (posV h e)) = ix2 (row t (pos n i)) (posV h e) := by
    simp only [← ix2_eq_valueIdx]
    blk_ext [idx_8 t, row]
  show _ = out _ _ _ _ ((win0_8.blk t).view.emb (ix2 (pos n i) (posV h e)))
  rw [e8]
  show _ = outG (pP m c) (pW m c) (pA m c) (pG m c) (row t (pos n i)) (posV h e)
  have ht : t.val < 256 := t.isLt
  unfold outG
  congr 1 <;> first | (apply Fin.ext) | skip
  all_goals simp only [ptB, ptN, row, pos, posV]; omega

/-- The kernel runs to `out` of its arguments and leaves them as they were. -/
theorem run_kernel (ρ : Dev nD → PrngReg) : θ_run defs (onTc (τ := τ) (main (F := Ideal))) ⟨m, fun _ => 0, ρ⟩ fun r => ∀ c : Dev nD,
      r.2.mem ((c.tc : Thread nD τ).loc main_v4) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (final_arr m c), (h c).2⟩) (Cert.Kernel5Ideal.Value.run_blocks (F := Ideal) m ρ)

end Gla

end
-- ==== Proof.GlaRefOps.lean ====
module

public import proofs.«01_k».proof.Proof.GlaSpec
public import proofs.«01_k».proof.Proof.Gen.Reference5Ideal.Run
public import Idealize.ShloMosaic.Lib.Pointwise
public import Idealize.ShloMosaic.Lib.Pipeline.Value
public import Idealize.ShloMosaic.Lib.Pipeline.ValueKit
public import Idealize.ShloMosaic.Lib.DynamicIndex
public import Idealize.ShloMosaic.Lib.Claim
public import Idealize.ShloMosaic.Lib.WordCmp

/-!
# Gated linear attention: the reference's operations, read at an index

Each stretch of the reference's operations before its loop, from any contents `V` before the stretch.
-/

@[expose] public section

noncomputable section

set_option maxRecDepth 16384

namespace GlaRef

open Cert.Reference5Ideal Cert.Reference5Ideal.Gen Cert.Reference5Ideal.Value Gla
open Idealize.ShloMosaic Idealize.ShloMosaic.TcCoe Idealize.ShloMosaic.StableHlo
open scoped BigOperators

variable (V : Valuation τ sig (Elt Ideal))

/-- What a buffer holds. -/
abbrev rd (V : Valuation τ sig (Elt Ideal)) (r : Ref sig .tc) := V (Proc.devRef .tc r)

theorem q_cols (b : Fin 32) (t : Fin 2048) (k : Fin 256) :
    (after hostOps0 V (Proc.devRef .tc main_v1) : Vec Ideal S32x2048x256 .f32) (ix3 b t k)
      = (V (Proc.devRef .tc main_arg0) : Vec Ideal S32x2048x3248 .f32) (ix3 b t ⟨k.val, by omega⟩) := by
  after_results
  pointwise
theorem k_cols (b : Fin 32) (t : Fin 2048) (k : Fin 256) :
    (after hostOps0 V (Proc.devRef .tc main_v2) : Vec Ideal S32x2048x256 .f32) (ix3 b t k)
      = (V (Proc.devRef .tc main_arg0) : Vec Ideal S32x2048x3248 .f32) (ix3 b t ⟨256 + k.val, by omega⟩) := by
  after_results
  pointwise
theorem v_cols (b : Fin 32) (t : Fin 2048) (k : Fin 512) :
    (after hostOps0 V (Proc.devRef .tc main_v3) : Vec Ideal S32x2048x512 .f32) (ix3 b t k)
      = (V (Proc.devRef .tc main_arg0) : Vec Ideal S32x2048x3248 .f32) (ix3 b t ⟨512 + k.val, by omega⟩) := by
  after_results
  pointwise
theorem g_cols (b : Fin 32) (t : Fin 2048) (k : Fin 512) :
    (after hostOps0 V (Proc.devRef .tc main_v4) : Vec Ideal S32x2048x512 .f32) (ix3 b t k)
      = (V (Proc.devRef .tc main_arg0) : Vec Ideal S32x2048x3248 .f32) (ix3 b t ⟨1024 + k.val, by omega⟩) := by
  after_results
  pointwise
theorem word (b : Fin 32) (t : Fin 2048) (k : Fin 256) (x w : Fin 16 → EReal) (a : EReal)
    (hx : ∀ j : Fin 16, (V (Proc.devRef .tc main_arg0) : Vec Ideal S32x2048x3248 .f32) (ix3 b t ⟨1536 + j.val, by omega⟩) = x j)
    (hw : ∀ j : Fin 16, (V (Proc.devRef .tc main_arg1) : Vec Ideal S16x256 .f32) (ix2 j k) = w j)
    (ha : (V (Proc.devRef .tc main_arg2) : Vec Ideal S256 .f32) (ix1 k) = a) :
    (after hostOps0 V (Proc.devRef .tc main_v9) : Vec Ideal S32x2048x256 .f32) (ix3 b t k)
      = (∑ j : Fin 16, x j * w j) + a := by
  obtain rfl : (fun j => _) = x := funext hx
  obtain rfl : (fun j => _) = w := funext hw
  subst ha
  after_results
  pointwise

theorem log_sigmoid_apply (X : FVec Ideal S32x2048x256 .f32) (b : Fin 32) (t : Fin 2048) (k : Fin 256) :
    (Host.negf (select (cmpf .une (subf (Host.negf X) (broadcastInDim S32x2048x256 ![] bcast_S_S32x2048x256 (constant S_ .f32 0x00000000#32)))
          (subf (Host.negf X) (broadcastInDim S32x2048x256 ![] bcast_S_S32x2048x256 (constant S_ .f32 0x00000000#32))))
        (addf (Host.negf X) (broadcastInDim S32x2048x256 ![] bcast_S_S32x2048x256 (constant S_ .f32 0x00000000#32)))
        (addf (maximumf (Host.negf X) (broadcastInDim S32x2048x256 ![] bcast_S_S32x2048x256 (constant S_ .f32 0x00000000#32)))
          (Host.log1p (Host.exp (Host.negf (Host.absf
            (subf (Host.negf X) (broadcastInDim S32x2048x256 ![] bcast_S_S32x2048x256 (constant S_ .f32 0x00000000#32)))))))))
      : FVec Ideal S32x2048x256 .f32) (ix3 b t k)
      = -(max (-(X (ix3 b t k) : EReal)) 0 + Ideal.log1p (Ideal.exp (-(max (X (ix3 b t k) : EReal) (-X (ix3 b t k)))))) := by
  pointwise
  rw [if_neg (fun hne => hne rfl)]
  show -(_ + Ideal.log1p (Ideal.exp (-(max (-X (ix3 b t k) : EReal) (- -X (ix3 b t k)))))) = _
  rw [neg_neg, max_comm (-X (ix3 b t k) : EReal) (X (ix3 b t k))]

theorem log_sigmoid (b : Fin 32) (t : Fin 2048) (k : Fin 256) (z : EReal)
    (hz : (V (Proc.devRef .tc main_v9) : Vec Ideal S32x2048x256 .f32) (ix3 b t k) = z) :
    (after hostOps0_1 V (Proc.devRef .tc main_v10) : Vec Ideal S32x2048x256 .f32) (ix3 b t k)
      = -(max (-z) 0 + Ideal.log1p (Ideal.exp (-(max z (-z))))) := by
  subst hz
  refine Eq.trans ?_ (log_sigmoid_apply _ b t k)
  refine congrFun ?_ _
  after_results
  rfl

theorem tok_eq (n : Fin 32) (i : Fin 64) : (⟨n.val * 64 + i.val, by omega⟩ : Fin 2048) = tok n i :=
  Fin.ext (show n.val * 64 + i.val = (64 * n.val + i.val) % 2048 by omega)
theorem pos_eq (h : Fin 4) (d : Fin 64) : (⟨h.val * 64 + d.val, by omega⟩ : Fin 256) = pos h d :=
  Fin.ext (show h.val * 64 + d.val = 64 * h.val + d.val by omega)
theorem posV_eq (h : Fin 4) (e : Fin 128) : (⟨h.val * 128 + e.val, by omega⟩ : Fin 512) = posV h e :=
  Fin.ext (show h.val * 128 + e.val = 128 * h.val + e.val by omega)

theorem q_rows (b : Fin 32) (h : Fin 4) (n : Fin 32) (i : Fin 64) (d : Fin 64) (x : EReal)
    (hx : (V (Proc.devRef .tc main_v1) : Vec Ideal S32x2048x256 .f32) (ix3 b (tok n i) (pos h d)) = x) :
    (after hostOps0_2 V (Proc.devRef .tc main_v20) : Vec Ideal S32x4x32x64x64 .f32) (ix5 b h n i d)
      = x * FloatOps.ofBits (F := Ideal) .f32 0x3E000000#32 := by
  subst hx
  after_results
  pointwise
  rw [tok_eq, pos_eq]
theorem k_rows (b : Fin 32) (h : Fin 4) (n : Fin 32) (i : Fin 64) (d : Fin 64) :
    (after hostOps0_2 V (Proc.devRef .tc main_v22) : Vec Ideal S32x4x32x64x64 .f32) (ix5 b h n i d)
      = (V (Proc.devRef .tc main_v2) : Vec Ideal S32x2048x256 .f32) (ix3 b (tok n i) (pos h d)) := by
  after_results
  pointwise
  rw [tok_eq, pos_eq]
theorem v_rows (b : Fin 32) (h : Fin 4) (n : Fin 32) (i : Fin 64) (e : Fin 128) :
    (after hostOps0_2 V (Proc.devRef .tc main_v24) : Vec Ideal S32x4x32x64x128 .f32) (ix5 b h n i e)
      = (V (Proc.devRef .tc main_v3) : Vec Ideal S32x2048x512 .f32) (ix3 b (tok n i) (posV h e)) := by
  after_results
  pointwise
  rw [tok_eq, posV_eq]
theorem la_rows (b : Fin 32) (h : Fin 4) (n : Fin 32) (i : Fin 64) (d : Fin 64) :
    (after hostOps0_2 V (Proc.devRef .tc main_v26) : Vec Ideal S32x4x32x64x64 .f32) (ix5 b h n i d)
      = Ideal.div ((V (Proc.devRef .tc main_v10) : Vec Ideal S32x2048x256 .f32) (ix3 b (tok n i) (pos h d)))
          (FloatOps.ofBits (F := Ideal) .f32 0x41800000#32) := by
  after_results
  pointwise
  rw [tok_eq, pos_eq]

theorem foldl_add {ι : Type} (g : ι → EReal) : ∀ (l : List ι) (a : EReal), l.foldl (fun r n => r + g n) a = a + (l.map g).sum
  | [], a => (add_zero a).symm
  | x :: l, a => by rw [List.foldl_cons, foldl_add g l, List.map_cons, List.sum_cons, add_assoc]

/-- The indices of one window are its 64 rows. -/
def rows : (⟨5, ![1, 1, 1, 64, 1]⟩ : Shape).Idx ≃ Fin 64 where
  toFun w := w 3
  invFun k := ix5 (0 : Fin 1) (0 : Fin 1) (0 : Fin 1) k (0 : Fin 1)
  left_inv w := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _
  right_inv k := rfl

theorem rev_sum (f : ℕ → EReal) (i : Fin 64) :
    (∑ k : Fin 64, if 63 ≤ i.val + k.val then f (i.val + k.val - 63) else 0) = lastSum f 64 i := by
  rw [← Equiv.sum_comp Fin.revPerm]
  have e : ∀ k : Fin 64, (if 63 ≤ i.val + (Fin.revPerm k).val then f (i.val + (Fin.revPerm k).val - 63) else 0)
      = if k.val < i.val + 1 then f (i.val - k.val) else 0 := fun k => by
    have hk : (Fin.revPerm k).val = 63 - k.val := by simp [Fin.val_rev]
    rw [hk]
    by_cases hki : k.val < i.val + 1
    · rw [if_pos hki, if_pos (by omega)]; congr 1; omega
    · rw [if_neg hki, if_neg (by omega)]
  rw [Finset.sum_congr rfl fun k _ => e k, Fin.sum_univ_eq_sum_range (fun k => if k < i.val + 1 then f (i.val - k) else 0) 64,
    ← Finset.sum_filter]
  unfold lastSum
  refine Finset.sum_congr ?_ fun _ _ => rfl
  ext k
  simp only [Finset.mem_filter, Finset.mem_range]
  omega

theorem window_term (X : Vec Ideal S32x4x32x64x64 .f32) (b : Fin 32) (h : Fin 4) (n : Fin 32) (i : Fin 64) (d : Fin 64)
    (f : ℕ → EReal) (hf : f = fun j => if hj : j < 64 then X (ix5 b h n ⟨j, hj⟩ d) else 0) (w : (⟨5, ![1, 1, 1, 64, 1]⟩ : Shape).Idx) :
    (if hin : ∀ a : Fin 5, (![0, 0, 0, 63, 0] : Fin 5 → ℕ) a ≤ (ix5 b h n i d (Fin.cast rfl a)).val * (![1, 1, 1, 1, 1] : Fin 5 → ℕ) a + (w a).val
        ∧ (ix5 b h n i d (Fin.cast rfl a)).val * (![1, 1, 1, 1, 1] : Fin 5 → ℕ) a + (w a).val - (![0, 0, 0, 63, 0] : Fin 5 → ℕ) a
          < (![32, 4, 32, 64, 64] : Fin 5 → ℕ) a
      then (X (fun a => ⟨(ix5 b h n i d (Fin.cast rfl a)).val * (![1, 1, 1, 1, 1] : Fin 5 → ℕ) a + (w a).val - (![0, 0, 0, 63, 0] : Fin 5 → ℕ) a, (hin a).2⟩) : EReal)
      else 0) = if 63 ≤ i.val + (rows w).val then f (i.val + (rows w).val - 63) else 0 := by
  obtain ⟨k, rfl⟩ : ∃ k, w = rows.symm k := ⟨rows w, (rows.symm_apply_apply w).symm⟩
  rw [Equiv.apply_symm_apply]
  by_cases hk : 63 ≤ i.val + k.val
  · have hin : ∀ a : Fin 5, (![0, 0, 0, 63, 0] : Fin 5 → ℕ) a ≤ (ix5 b h n i d (Fin.cast rfl a)).val * (![1, 1, 1, 1, 1] : Fin 5 → ℕ) a + (rows.symm k a).val
        ∧ (ix5 b h n i d (Fin.cast rfl a)).val * (![1, 1, 1, 1, 1] : Fin 5 → ℕ) a + (rows.symm k a).val - (![0, 0, 0, 63, 0] : Fin 5 → ℕ) a
          < (![32, 4, 32, 64, 64] : Fin 5 → ℕ) a := by
      intro a
      fin_cases a
      · exact ⟨Nat.zero_le _, (show b.val * 1 + 0 - 0 < 32 by omega)⟩
      · exact ⟨Nat.zero_le _, (show h.val * 1 + 0 - 0 < 4 by omega)⟩
      · exact ⟨Nat.zero_le _, (show n.val * 1 + 0 - 0 < 32 by omega)⟩
      · exact ⟨(show 63 ≤ i.val * 1 + k.val by omega), (show i.val * 1 + k.val - 63 < 64 by omega)⟩
      · exact ⟨Nat.zero_le _, (show d.val * 1 + 0 - 0 < 64 by omega)⟩
    rw [dif_pos hin, if_pos hk]
    simp only [hf]
    rw [dif_pos (by omega)]
    refine congrArg X (funext fun a => Fin.ext ?_)
    fin_cases a
    · exact (show b.val * 1 + 0 - 0 = b.val by omega)
    · exact (show h.val * 1 + 0 - 0 = h.val by omega)
    · exact (show n.val * 1 + 0 - 0 = n.val by omega)
    · exact (show i.val * 1 + k.val - 63 = i.val + k.val - 63 by omega)
    · exact (show d.val * 1 + 0 - 0 = d.val by omega)
  · rw [if_neg hk, dif_neg fun hin => ?_]
    have h3 := (hin 3).1
    exact hk (show 63 ≤ i.val + k.val from (show 63 ≤ i.val * 1 + k.val from h3).trans (by omega))

/-- The window sum over a column, 63 zeros in front of it, is the running sum. -/
theorem window_sum (X : Vec Ideal S32x4x32x64x64 .f32) (init : Vec Ideal S_ .f32) (hi : ∀ y, init y = (0 : EReal))
    (b : Fin 32) (h : Fin 4) (n : Fin 32) (i : Fin 64) (d : Fin 64) :
    (Host.reduceWindowAdd (F := Ideal) (φ := .f32) ![1, 1, 1, 64, 1] ![1, 1, 1, 1, 1] ![0, 0, 0, 63, 0] ![0, 0, 0, 0, 0] X init
      reduceWindows_S32x4x32x64x64_S32x4x32x64x64_w1s1p0_0_w1s1p0_0_w1s1p0_0_w64s1p63_0_w1s1p0_0 h_S_
      : Vec Ideal S32x4x32x64x64 .f32) (ix5 b h n i d)
      = ∑ j : Fin 64, if j ≤ i then (X (ix5 b h n j d) : EReal) else 0 := by
  set f : ℕ → EReal := fun j => if hj : j < 64 then X (ix5 b h n ⟨j, hj⟩ d) else 0 with hf
  have e1 : (∑ j : Fin 64, if j ≤ i then (X (ix5 b h n j d) : EReal) else 0) = ∑ j : Fin 64, if j ≤ i then f j else 0 :=
    Finset.sum_congr rfl fun j _ => by simp only [hf, j.isLt, dif_pos]
  rw [e1, ← lastSum_all f i, ← rev_sum f i]
  unfold Host.reduceWindowAdd
  show Ideal.hostReduceWindowAdd _ _ _ _ _ _ _ _ = _
  unfold Ideal.hostReduceWindowAdd Host.reduceWindow
  simp only [hi]
  rw [foldl_add, zero_add, ← Fin.sum_univ_def]
  refine Fintype.sum_equiv ((Shape.rowMajor ⟨5, ![1, 1, 1, 64, 1]⟩).symm.trans rows) _ _ fun r => ?_
  exact window_term X b h n i d f hf _

theorem cumsum (b : Fin 32) (h : Fin 4) (n : Fin 32) (i : Fin 64) (d : Fin 64) (x : Fin 64 → EReal)
    (hx : ∀ j, (V (Proc.devRef .tc main_v26) : Vec Ideal S32x4x32x64x64 .f32) (ix5 b h n j d) = x j) :
    (after hostOps0_3 V (Proc.devRef .tc main_v27) : Vec Ideal S32x4x32x64x64 .f32) (ix5 b h n i d)
      = ∑ j : Fin 64, if j ≤ i then x j else 0 := by
  obtain rfl : (fun j => _) = x := funext hx
  refine Eq.trans ?_ (window_sum _ (broadcastInDim S_ ![] bcast_S_S_ (constant S_ .f32 0x00000000#32 : FVec Ideal S_ .f32)) (fun y => Ideal.ofBits_zero_f32) b h n i d)
  refine congrFun ?_ _
  after_results
  rfl

section decays
variable (b : Fin 32) (h : Fin 4) (n : Fin 32) (i : Fin 64) (d : Fin 64) (x y u : EReal)
  (hy : (V (Proc.devRef .tc main_v27) : Vec Ideal S32x4x32x64x64 .f32) (ix5 b h n i d) = y)
include hy
theorem q_in (hx : (V (Proc.devRef .tc main_v20) : Vec Ideal S32x4x32x64x64 .f32) (ix5 b h n i d) = x) :
    (after hostOps0_4 V (Proc.devRef .tc main_v30) : Vec Ideal S32x4x32x64x64 .f32) (ix5 b h n i d) = x * Ideal.exp y := by
  subst hx hy
  after_results
  pointwise
theorem k_in (hx : (V (Proc.devRef .tc main_v22) : Vec Ideal S32x4x32x64x64 .f32) (ix5 b h n i d) = x) :
    (after hostOps0_4 V (Proc.devRef .tc main_v33) : Vec Ideal S32x4x32x64x64 .f32) (ix5 b h n i d) = x * Ideal.exp (-y) := by
  subst hx hy
  after_results
  pointwise
theorem k_out (hx : (V (Proc.devRef .tc main_v22) : Vec Ideal S32x4x32x64x64 .f32) (ix5 b h n i d) = x)
    (hu : (V (Proc.devRef .tc main_v27) : Vec Ideal S32x4x32x64x64 .f32) (ix5 b h n 63 d) = u) :
    (after hostOps0_4 V (Proc.devRef .tc main_v37) : Vec Ideal S32x4x32x64x64 .f32) (ix5 b h n i d) = x * Ideal.exp (u - y) := by
  subst hx hy hu
  after_results
  pointwise
end decays
theorem last_row (b : Fin 32) (h : Fin 4) (n : Fin 32) (d : Fin 64) :
    (after hostOps0_4 V (Proc.devRef .tc main_v28) : Vec Ideal S32x4x32x1x64 .f32) (ix5 b h n 0 d)
      = (V (Proc.devRef .tc main_v27) : Vec Ideal S32x4x32x64x64 .f32) (ix5 b h n 63 d) := by
  after_results
  pointwise
theorem ones : (after hostOps0_4 V (Proc.devRef .tc main_v38) : IVec S64x64 1) = fun _ => 1#1 := by
  after_results
  rfl

theorem mask (h1 : (V (Proc.devRef .tc main_v38) : IVec S64x64 1) = fun _ => 1#1) (i j : Fin 64) :
    (after hostOps0_5 V (Proc.devRef .tc main_v39) : IVec S64x64 1) (ix2 i j) = if j ≤ i then 1#1 else 0#1 := by
  have e : (after hostOps0_5 V (Proc.devRef .tc main_v39) : IVec S64x64 1)
      = select (cmpi .sge (addi (iotaInDim S64x64 32 0) (broadcastInDim S64x64 ![] bcast_S_S64x64 (constantI S_ 32 0#32))) (iotaInDim S64x64 32 1))
          (V (Proc.devRef .tc main_v38) : IVec S64x64 1) (broadcastInDim S64x64 ![] bcast_S_S64x64 (constantI S_ 1 0#1)) := by
    after_results
    rfl
  rw [e, h1]
  pointwise
  have e2 : IntOp.cmpi .sge (IntOp.addi (BitVec.ofNat 32 i.val) 0#32) (BitVec.ofNat 32 j.val) = if j ≤ i then 1#1 else 0#1 := by
    have ei : (BitVec.ofNat 32 i.val).toInt = i.val := by rw [BitVec.toInt_eq_toNat_of_lt] <;> simp <;> omega
    have ej : (BitVec.ofNat 32 j.val).toInt = j.val := by rw [BitVec.toInt_eq_toNat_of_lt] <;> simp <;> omega
    unfold IntOp.cmpi IntOp.addi
    rw [BitVec.add_zero]
    simp [BitVec.sle_eq_decide, ei, ej]
    by_cases hj : j ≤ i <;> simp [hj]
  rw [e2]
  by_cases hj : j ≤ i
  · rw [if_pos hj]; rfl
  · rw [if_neg hj]; rfl

theorem scores (b : Fin 32) (h : Fin 4) (n : Fin 32) (i j : Fin 64) (x y : Fin 64 → EReal)
    (hx : ∀ d, (V (Proc.devRef .tc main_v30) : Vec Ideal S32x4x32x64x64 .f32) (ix5 b h n i d) = x d)
    (hy : ∀ d, (V (Proc.devRef .tc main_v33) : Vec Ideal S32x4x32x64x64 .f32) (ix5 b h n j d) = y d) :
    (after hostOps0_6 V (Proc.devRef .tc main_v40) : Vec Ideal S32x4x32x64x64 .f32) (ix5 b h n i j) = ∑ d : Fin 64, x d * y d := by
  obtain rfl : (fun j => _) = x := funext hx
  obtain rfl : (fun j => _) = y := funext hy
  after_results
  pointwise
theorem zero_word : (after hostOps0_6 V (Proc.devRef .tc main_cst_1) : Vec Ideal S_ .f32) = fun _ => (0 : EReal) := by
  after_results
  funext y
  pointwise
theorem masked (b : Fin 32) (h : Fin 4) (n : Fin 32) (i j : Fin 64) (x : EReal)
    (hm : (V (Proc.devRef .tc main_v39) : IVec S64x64 1) (ix2 i j) = if j ≤ i then 1#1 else 0#1)
    (h0 : (V (Proc.devRef .tc main_cst_1) : Vec Ideal S_ .f32) = fun _ => (0 : EReal))
    (hx : (V (Proc.devRef .tc main_v40) : Vec Ideal S32x4x32x64x64 .f32) (ix5 b h n i j) = x) :
    (after hostOps0_7 V (Proc.devRef .tc main_v41) : Vec Ideal S32x4x32x64x64 .f32) (ix5 b h n i j) = if j ≤ i then x else 0 := by
  subst hx
  have e : (after hostOps0_7 V (Proc.devRef .tc main_v41) : FVec Ideal S32x4x32x64x64 .f32)
      = select (broadcastInDim S32x4x32x64x64 ![3, 4] bcast_S64x64_S32x4x32x64x64_3_4 (V (Proc.devRef .tc main_v39) : IVec S64x64 1))
          (V (Proc.devRef .tc main_v40) : FVec Ideal S32x4x32x64x64 .f32)
          (broadcastInDim S32x4x32x64x64 ![] bcast_S_S32x4x32x64x64 (V (Proc.devRef .tc main_cst_1) : FVec Ideal S_ .f32)) := by
    after_results
    rfl
  rw [e, h0]
  pointwise
  rw [hm]
  by_cases hj : j ≤ i
  · rw [if_pos hj, if_pos hj]; rfl
  · rw [if_neg hj, if_neg hj]; rfl

theorem within (b : Fin 32) (h : Fin 4) (n : Fin 32) (i : Fin 64) (e : Fin 128) (x y : Fin 64 → EReal)
    (hx : ∀ j, (V (Proc.devRef .tc main_v41) : Vec Ideal S32x4x32x64x64 .f32) (ix5 b h n i j) = x j)
    (hy : ∀ j, (V (Proc.devRef .tc main_v24) : Vec Ideal S32x4x32x64x128 .f32) (ix5 b h n j e) = y j) :
    (after hostOps0_8 V (Proc.devRef .tc main_v42) : Vec Ideal S32x4x32x64x128 .f32) (ix5 b h n i e) = ∑ j : Fin 64, x j * y j := by
  obtain rfl : (fun j => _) = x := funext hx
  obtain rfl : (fun j => _) = y := funext hy
  after_results
  pointwise
theorem adds (b : Fin 32) (h : Fin 4) (n : Fin 32) (d : Fin 64) (e : Fin 128) (x y : Fin 64 → EReal)
    (hx : ∀ j, (V (Proc.devRef .tc main_v37) : Vec Ideal S32x4x32x64x64 .f32) (ix5 b h n j d) = x j)
    (hy : ∀ j, (V (Proc.devRef .tc main_v24) : Vec Ideal S32x4x32x64x128 .f32) (ix5 b h n j e) = y j) :
    (after hostOps0_8 V (Proc.devRef .tc main_v50_1) : Vec Ideal S32x32x4x64x128 .f32) (ix5 n b h d e) = ∑ j : Fin 64, x j * y j := by
  obtain rfl : (fun j => _) = x := funext hx
  obtain rfl : (fun j => _) = y := funext hy
  after_results
  simp only [id]
  pointwise
theorem decays (b : Fin 32) (h : Fin 4) (n : Fin 32) (d : Fin 64) (x : EReal)
    (hx : (V (Proc.devRef .tc main_v28) : Vec Ideal S32x4x32x1x64 .f32) (ix5 b h n 0 d) = x) :
    (after hostOps0_8 V (Proc.devRef .tc main_v50_0) : Vec Ideal S32x32x4x64 .f32) (ix4 n b h d) = Ideal.exp x := by
  subst hx
  after_results
  simp only [id]
  pointwise
theorem counter0 : (after hostOps0_8 V (Proc.devRef .tc main_v50_2) : IVec S_ 32) = fun _ => 0#32 := by
  after_results
  rfl
theorem state0 (b : Fin 32) (h : Fin 4) (d : Fin 64) (e : Fin 128) :
    (after hostOps0_8 V (Proc.devRef .tc main_v50_3) : Vec Ideal S32x4x64x128 .f32) (ix4 b h d e) = (0 : EReal) := by
  after_results
  simp only [id]
  pointwise

end GlaRef

end
-- ==== Proof.GlaRefLoop.lean ====
module

public import proofs.«01_k».proof.Proof.GlaRefOps

/-!
# Gated linear attention: the reference's loop and what follows it

A trip of the loop takes the row of its chunk from the decays and from the additions, moves the state on, and keeps the
state it found in a stack of 32 rows.
-/

@[expose] public section

noncomputable section

set_option maxRecDepth 16384

namespace GlaRef

open Cert.Reference5Ideal Cert.Reference5Ideal.Gen Cert.Reference5Ideal.Value Gla
open Idealize.ShloMosaic Idealize.ShloMosaic.TcCoe Idealize.ShloMosaic.StableHlo
open scoped BigOperators

theorem toInt_row (k : Fin 32) : (BitVec.ofNat 32 k.val).toInt = (k.val : ℤ) := by
  rw [BitVec.toInt_eq_toNat_of_lt] <;> simp <;> omega

/-- Row `k` of the decays, as a trip reads it. -/
theorem dec_read (X : Vec Ideal S32x32x4x64 .f32) (st : Fin 4 → (⟨S_, .i32⟩ : BufTy).Contents (Elt Ideal)) (k : Fin 32)
    (h0 : st 0 = fun _ => BitVec.ofNat 32 k.val) (h1 : st 1 = constantI S_ 32 0#32) (h2 : st 2 = constantI S_ 32 0#32)
    (h3 : st 3 = constantI S_ 32 0#32) (b : Fin 32) (h : Fin 4) (d : Fin 64) :
    shapeCast S32x4x64 (Host.dynamicSlice S1x32x4x64 X (fun k => (st k (Shape.Idx.first h_S_)).toInt) sliceFits_S32x32x4x64_S1x32x4x64)
      shapeCasts_S1x32x4x64_S32x4x64 (ix3 b h d) = X (ix4 k b h d) := by
  have hs : S32x32x4x64.Slices ![k.val, 0, 0, 0] S1x32x4x64 := ⟨rfl, fun a => by fin_cases a <;> simp <;> omega⟩
  rw [WordCmp.dynamicSlice_eq_extract S1x32x4x64 X _ _ ![k.val, 0, 0, 0] hs (fun a => by
    fin_cases a
    · show (st 0 _).toInt = _; rw [h0]; exact toInt_row k
    · show (st 1 _).toInt = _; rw [h1]; rfl
    · show (st 2 _).toInt = _; rw [h2]; rfl
    · show (st 3 _).toInt = _; rw [h3]; rfl)]
  pointwise

/-- Row `k` of the additions, as a trip reads it. -/
theorem add_read (X : Vec Ideal S32x32x4x64x128 .f32) (st : Fin 5 → (⟨S_, .i32⟩ : BufTy).Contents (Elt Ideal)) (k : Fin 32)
    (h0 : st 0 = fun _ => BitVec.ofNat 32 k.val) (h1 : st 1 = constantI S_ 32 0#32) (h2 : st 2 = constantI S_ 32 0#32)
    (h3 : st 3 = constantI S_ 32 0#32) (h4 : st 4 = constantI S_ 32 0#32) (b : Fin 32) (h : Fin 4) (d : Fin 64) (e : Fin 128) :
    shapeCast S32x4x64x128 (Host.dynamicSlice S1x32x4x64x128 X (fun k => (st k (Shape.Idx.first h_S_)).toInt) sliceFits_S32x32x4x64x128_S1x32x4x64x128)
      shapeCasts_S1x32x4x64x128_S32x4x64x128 (ix4 b h d e) = X (ix5 k b h d e) := by
  have hs : S32x32x4x64x128.Slices ![k.val, 0, 0, 0, 0] S1x32x4x64x128 := ⟨rfl, fun a => by fin_cases a <;> simp <;> omega⟩
  rw [WordCmp.dynamicSlice_eq_extract S1x32x4x64x128 X _ _ ![k.val, 0, 0, 0, 0] hs (fun a => by
    fin_cases a
    · show (st 0 _).toInt = _; rw [h0]; exact toInt_row k
    · show (st 1 _).toInt = _; rw [h1]; rfl
    · show (st 2 _).toInt = _; rw [h2]; rfl
    · show (st 3 _).toInt = _; rw [h3]; rfl
    · show (st 4 _).toInt = _; rw [h4]; rfl)]
  pointwise

/-- The trip's arithmetic. -/
theorem move_read (D : FVec Ideal S32x4x64 .f32) (S K : FVec Ideal S32x4x64x128 .f32) (b : Fin 32) (h : Fin 4) (d : Fin 64) (e : Fin 128) :
    (addf (mulf (broadcastInDim S32x4x64x128 ![0, 1, 2, 3] bcast_S32x4x64x1_S32x4x64x128_0_1_2_3
        (broadcastInDim S32x4x64x1 ![0, 1, 2] bcast_S32x4x64_S32x4x64x1_0_1_2 D)) S) K : FVec Ideal S32x4x64x128 .f32) (ix4 b h d e)
      = (D (ix3 b h d) : EReal) * S (ix4 b h d e) + K (ix4 b h d e) := by
  pointwise

/-- The state a trip leaves. -/
theorem state_step (V0 : Valuation τ sig (Elt Ideal)) (k : Fin 32)
    (hk : V0 (Proc.devRef .tc main_v50_2) = fun _ => BitVec.ofNat 32 k.val) (b : Fin 32) (h : Fin 4) (d : Fin 64) (e : Fin 128) (x s a : EReal)
    (hx : (V0 (Proc.devRef .tc main_v50_0) : Vec Ideal S32x32x4x64 .f32) (ix4 k b h d) = x)
    (hs : (V0 (Proc.devRef .tc main_v50_3) : Vec Ideal S32x4x64x128 .f32) (ix4 b h d e) = s)
    (ha : (V0 (Proc.devRef .tc main_v50_1) : Vec Ideal S32x32x4x64x128 .f32) (ix5 k b h d e) = a) :
    (step_main_v50_3 V0 : Vec Ideal S32x4x64x128 .f32) (ix4 b h d e) = x * s + a := by
  subst hs
  unfold step_main_v50_3
  simp only [id]
  refine (move_read _ _ _ b h d e).trans ?_
  exact congrArg₂ (fun u v : EReal => u * V0 (Proc.devRef .tc main_v50_3) (ix4 b h d e) + v)
    ((dec_read _ ![V0 (Proc.devRef .tc main_v50_2), constantI S_ 32 0#32, constantI S_ 32 0#32, constantI S_ 32 0#32] k hk rfl rfl rfl b h d).trans hx)
    ((add_read _ ![V0 (Proc.devRef .tc main_v50_2), constantI S_ 32 0#32, constantI S_ 32 0#32, constantI S_ 32 0#32, constantI S_ 32 0#32] k hk rfl rfl rfl rfl b h d e).trans ha)

/-- A state put into the stack at row `k`, read at row `n`. -/
theorem put_read (Y : Vec Ideal S32x32x4x64x128 .f32) (D : Vec Ideal S32x4x64x128 .f32) (k : Fin 32) (hs : S32x32x4x64x128.Slices ![k.val, 0, 0, 0, 0] S1x32x4x64x128)
    (n b : Fin 32) (h : Fin 4) (d : Fin 64) (e : Fin 128) :
    updateSlice Y (broadcastInDim S1x32x4x64x128 ![1, 2, 3, 4] bcast_S32x4x64x128_S1x32x4x64x128_1_2_3_4 D) ![k.val, 0, 0, 0, 0] hs (ix5 n b h d e)
      = if n = k then D (ix4 b h d e) else Y (ix5 n b h d e) := by
  pointwise
  by_cases htk : n = k
  · subst htk
    rw [dif_pos ⟨le_rfl, Nat.lt_succ_self _⟩, if_pos rfl]
  · have : ¬(k.val ≤ n.val ∧ n.val < k.val + 1) := fun h => htk (Fin.ext (by omega))
    rw [dif_neg this, if_neg htk]

/-- The stack a trip leaves. -/
theorem stack_step (V0 : Valuation τ sig (Elt Ideal)) (k : Fin 32)
    (hk : V0 (Proc.devRef .tc main_v50_2) = fun _ => BitVec.ofNat 32 k.val) (n b : Fin 32) (h : Fin 4) (d : Fin 64) (e : Fin 128) :
    (step_main_v50_4 V0 : Vec Ideal S32x32x4x64x128 .f32) (ix5 n b h d e)
      = if n = k then (V0 (Proc.devRef .tc main_v50_3) : Vec Ideal S32x4x64x128 .f32) (ix4 b h d e)
        else (V0 (Proc.devRef .tc main_v50_4) : Vec Ideal S32x32x4x64x128 .f32) (ix5 n b h d e) := by
  unfold step_main_v50_4
  simp only [id]
  have hs : S32x32x4x64x128.Slices ![k.val, 0, 0, 0, 0] S1x32x4x64x128 := ⟨rfl, fun a => by fin_cases a <;> simp <;> omega⟩
  rw [WordCmp.dynamicUpdateSlice_eq_update _ _ _ _ ![k.val, 0, 0, 0, 0] hs (fun a => by
    fin_cases a
    · show (V0 (Proc.devRef .tc main_v50_2) _).toInt = _; rw [hk]; exact toInt_row k
    · rfl
    · rfl
    · rfl
    · rfl)]
  exact put_read _ _ k hs n b h d e

variable (V : Valuation τ sig (Elt Ideal))

/-- The attention of a token and a head, normed and times the gain. -/
theorem normed (b : Fin 32) (t : Fin 2048) (k : Fin 512) (x : Fin 128 → EReal) (q : Fin 64 → EReal) (s : Fin 64 → Fin 128 → EReal) (w : EReal)
    (hx : ∀ e, (V (Proc.devRef .tc main_v42) : Vec Ideal S32x4x32x64x128 .f32)
      (ix5 b (⟨k.val / 128, by omega⟩ : Fin 4) (⟨t.val / 64, by omega⟩ : Fin 32) (⟨t.val % 64, by omega⟩ : Fin 64) e) = x e)
    (hq : ∀ d, (V (Proc.devRef .tc main_v30) : Vec Ideal S32x4x32x64x64 .f32)
      (ix5 b (⟨k.val / 128, by omega⟩ : Fin 4) (⟨t.val / 64, by omega⟩ : Fin 32) (⟨t.val % 64, by omega⟩ : Fin 64) d) = q d)
    (hs : ∀ d e, (V (Proc.devRef .tc main_v50_4) : Vec Ideal S32x32x4x64x128 .f32)
      (ix5 (⟨t.val / 64, by omega⟩ : Fin 32) b (⟨k.val / 128, by omega⟩ : Fin 4) d e) = s d e)
    (hw : (V (Proc.devRef .tc main_arg3) : Vec Ideal S128 .f32) (ix1 (⟨k.val % 128, by omega⟩ : Fin 128)) = w) (o : Fin 128 → EReal)
    (ho : o = fun e => x e + ∑ d : Fin 64, q d * s d e) :
    (after hostOps0_9 V (Proc.devRef .tc main_v69) : Vec Ideal S32x2048x512 .f32) (ix3 b t k)
      = o ⟨k.val % 128, by omega⟩ * Ideal.rsqrt (Ideal.div (∑ e' : Fin 128, o e' * o e') (FloatOps.ofBits (F := Ideal) .f32 0x43000000#32)
          + FloatOps.ofBits (F := Ideal) .f32 0x3727C5AC#32) * w := by
  obtain rfl : (fun j => _) = x := funext hx
  obtain rfl : (fun j => _) = q := funext hq
  obtain rfl : (fun d e => _) = s := funext fun d => funext fun e => hs d e
  subst hw ho
  after_results
  pointwise

/-- One and an exponential is not zero. -/
theorem one_add_exp_ne (g : EReal) : (1 : EReal) + Ideal.exp g ≠ 0 := by
  have h : (0 : EReal) ≤ Ideal.exp g := match g with
    | ⊥ => le_rfl
    | ⊤ => le_top
    | (r : ℝ) => EReal.coe_nonneg.mpr (Real.exp_pos r).le
  exact ne_of_gt (lt_of_lt_of_le zero_lt_one (le_add_of_nonneg_right h))

theorem mul_div_one (x y : EReal) (hy : y ≠ 0) : x * Ideal.div 1 y = Ideal.div x y := by
  unfold Ideal.div
  rw [if_neg hy, if_neg hy, one_mul]

/-- The gate's silu. -/
theorem silu_apply (X : FVec Ideal S32x2048x512 .f32) (b : Fin 32) (t : Fin 2048) (k : Fin 512) :
    (mulf X (Host.divf (broadcastInDim S32x2048x512 ![] bcast_S_S32x2048x512 (constant S_ .f32 0x3F800000#32))
      (addf (broadcastInDim S32x2048x512 ![] bcast_S_S32x2048x512 (constant S_ .f32 0x3F800000#32)) (Host.exp (Host.negf X))))
      : FVec Ideal S32x2048x512 .f32) (ix3 b t k)
      = Ideal.div (X (ix3 b t k)) (FloatOps.ofBits (F := Ideal) .f32 0x3F800000#32 + Ideal.exp (-(X (ix3 b t k) : EReal))) := by
  pointwise
  exact mul_div_one _ _ (one_add_exp_ne _)
theorem silu (b : Fin 32) (t : Fin 2048) (k : Fin 512) (g : EReal)
    (hg : (V (Proc.devRef .tc main_v4) : Vec Ideal S32x2048x512 .f32) (ix3 b t k) = g) :
    (after hostOps0_10 V (Proc.devRef .tc main_v70) : Vec Ideal S32x2048x512 .f32) (ix3 b t k)
      = Ideal.div g (FloatOps.ofBits (F := Ideal) .f32 0x3F800000#32 + Ideal.exp (-g)) := by
  subst hg
  refine Eq.trans ?_ (silu_apply _ b t k)
  refine congrFun ?_ _
  after_results
  rfl

theorem product (r : Fin 65536) (k : Fin 512) (x y : EReal)
    (hx : (V (Proc.devRef .tc main_v69) : Vec Ideal S32x2048x512 .f32) (ix3 (⟨r.val / 2048, by omega⟩ : Fin 32) (⟨r.val % 2048, by omega⟩ : Fin 2048) k) = x)
    (hy : (V (Proc.devRef .tc main_v70) : Vec Ideal S32x2048x512 .f32) (ix3 (⟨r.val / 2048, by omega⟩ : Fin 32) (⟨r.val % 2048, by omega⟩ : Fin 2048) k) = y) :
    (after hostOps0_11 V (Proc.devRef .tc main_v72) : Vec Ideal S65536x512 .f32) (ix2 r k) = x * y := by
  subst hx hy
  after_results
  pointwise

/-! ## What is kept -/

theorem pre_keeps {r : Ref sig .tc}
    (hr : r ∉ hostOps0_1_W ++ (hostOps0_2_W ++ (hostOps0_3_W ++ (hostOps0_4_W ++ (hostOps0_5_W ++ (hostOps0_6_W ++ (hostOps0_7_W ++ hostOps0_8_W))))))) :
    afterL (preI.tail) V (Proc.devRef .tc r) = V (Proc.devRef .tc r) := by
  simp only [List.mem_append, not_or] at hr
  obtain ⟨h1, h2, h3, h4, h5, h6, h7, h8⟩ := hr
  show after hostOps0_8 (after hostOps0_7 (after hostOps0_6 (after hostOps0_5 (after hostOps0_4 (after hostOps0_3 (after hostOps0_2 (after hostOps0_1 V))))))) _ = _
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1]

theorem trip_keeps {r : Ref sig .tc}
    (hr : r ∉ condOps_W ++ (while0Ops0_W ++ (while0Ops0_1_W ++ (while0Ops0_2_W ++ (while0Ops0_3_W ++ while0Ops0_4_W))))) :
    afterL bodyI (after condOps V) (Proc.devRef .tc r) = V (Proc.devRef .tc r) := by
  simp only [List.mem_append, not_or] at hr
  obtain ⟨h0, h1, h2, h3, h4, h5⟩ := hr
  show after while0Ops0_4 (after while0Ops0_3 (after while0Ops0_2 (after while0Ops0_1 (after while0Ops0 (after condOps V))))) _ = _
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

theorem trips_keep {r : Ref sig .tc} (m : (ℓ : Loc nD τ sig) → Buf (Elt Ideal) ℓ) (c : Dev nD)
    (hr : r ∉ condOps_W ++ (while0Ops0_W ++ (while0Ops0_1_W ++ (while0Ops0_2_W ++ (while0Ops0_3_W ++ while0Ops0_4_W))))) :
    ∀ k, atK m k c (Proc.devRef .tc r) = entryContents preI m c (Proc.devRef .tc r)
  | 0 => rfl
  | k + 1 => (trip_keeps (atK m k c) hr).trans (trips_keep m c hr k)

abbrev hostOps0_9_W : List (Ref sig .tc) := [main_v51, main_v52, main_v53, main_v54, main_v55, main_v56, main_cst_5, main_v57, main_v58, main_cst_6, main_v59,
  main_v60, main_cst_7, main_v61, main_v62, main_v63, main_v64, main_v65, main_v66, main_v67, main_v68, main_v69]
theorem hostOps0_9_writes : (hostOps0_9 : List (HloOp τ sig (Elt Ideal))).Forall fun op => op.writes ⊆ (hostOps0_9_W.map (Proc.devRef (τ := τ) .tc)).toFinset :=
  StableHlo.forall_writes_sub_of_map rfl
abbrev hostOps0_10_W : List (Ref sig .tc) := [main_call7_v0, main_call7_v1, main_call7_cst, main_call7_v2, main_call7_v3, main_call7_cst_0, main_call7_v4,
  main_call7_v5, main_v70]
theorem hostOps0_10_writes : (hostOps0_10 : List (HloOp τ sig (Elt Ideal))).Forall fun op => op.writes ⊆ (hostOps0_10_W.map (Proc.devRef (τ := τ) .tc)).toFinset :=
  StableHlo.forall_writes_sub_of_map rfl
abbrev hostOps0_11_W : List (Ref sig .tc) := [main_v71, main_v72]
theorem hostOps0_11_writes : (hostOps0_11 : List (HloOp τ sig (Elt Ideal))).Forall fun op => op.writes ⊆ (hostOps0_11_W.map (Proc.devRef (τ := τ) .tc)).toFinset :=
  StableHlo.forall_writes_sub_of_map rfl

theorem post_keeps {r : Ref sig .tc} (hr : r ∉ hostOps0_9_W ++ (hostOps0_10_W ++ hostOps0_11_W)) :
    afterL postI V (Proc.devRef .tc r) = V (Proc.devRef .tc r) := by
  simp only [List.mem_append, not_or] at hr
  obtain ⟨h1, h2, h3⟩ := hr
  show after hostOps0_11 (after hostOps0_10 (after hostOps0_9 V)) _ = _
  rw [after_of_writes_sub hostOps0_11 _ hostOps0_11_writes h3, after_of_writes_sub hostOps0_10 _ hostOps0_10_writes h2,
    after_of_writes_sub hostOps0_9 _ hostOps0_9_writes h1]

end GlaRef

end
-- ==== Proof.GlaRefValue.lean ====
module

public import proofs.«01_k».proof.Proof.GlaRefLoop

/-!
# Gated linear attention: the reference's result

Before the loop each of the reference's arrays holds the words of the chunks (`chunkG`); the loop's state before trip `n` is
`stG n`; what follows the loop is `outG`.
-/

@[expose] public section

noncomputable section

set_option maxRecDepth 16384

namespace GlaRef

open Cert.Reference5Ideal Cert.Reference5Ideal.Gen Cert.Reference5Ideal.Value Gla
open Idealize.ShloMosaic Idealize.ShloMosaic.TcCoe Idealize.ShloMosaic.StableHlo Idealize.SL.Sem
open scoped BigOperators

variable (m : (ℓ : Loc nD τ sig) → Buf (Elt Ideal) ℓ) (c : Dev nD)

/-- The arguments as functions of their indices. -/
def aP (b : Fin 32) (t : Fin 2048) (k : Fin 3248) : EReal := (m ((c.tc : Thread nD τ).loc main_arg0) : Vec Ideal S32x2048x3248 .f32) (ix3 b t k)
def aW (j : Fin 16) (k : Fin 256) : EReal := (m ((c.tc : Thread nD τ).loc main_arg1) : Vec Ideal S16x256 .f32) (ix2 j k)
def aA (k : Fin 256) : EReal := (m ((c.tc : Thread nD τ).loc main_arg2) : Vec Ideal S256 .f32) (ix1 k)
def aG (k : Fin 128) : EReal := (m ((c.tc : Thread nD τ).loc main_arg3) : Vec Ideal S128 .f32) (ix1 k)

/-- The chunk and the state of the arguments. -/
abbrev ch (b : Fin 32) (h : Fin 4) (n : ℕ) : Chunk := chunkG (aP m c) (aW m c) (aA m c) b h n
abbrev st (b : Fin 32) (h : Fin 4) (n : ℕ) : Fin 64 → Fin 128 → EReal := stG (aP m c) (aW m c) (aA m c) b h n

/-- The contents after each stretch before the loop. -/
abbrev L1 : Valuation τ sig (Elt Ideal) := after hostOps0 (launchContents m c)
abbrev L2 : Valuation τ sig (Elt Ideal) := after hostOps0_1 (L1 m c)
abbrev L3 : Valuation τ sig (Elt Ideal) := after hostOps0_2 (L2 m c)
abbrev L4 : Valuation τ sig (Elt Ideal) := after hostOps0_3 (L3 m c)
abbrev L5 : Valuation τ sig (Elt Ideal) := after hostOps0_4 (L4 m c)
abbrev L6 : Valuation τ sig (Elt Ideal) := after hostOps0_5 (L5 m c)
abbrev L7 : Valuation τ sig (Elt Ideal) := after hostOps0_6 (L6 m c)
abbrev L8 : Valuation τ sig (Elt Ideal) := after hostOps0_7 (L7 m c)
abbrev L9 : Valuation τ sig (Elt Ideal) := after hostOps0_8 (L8 m c)

theorem k1 {r : Ref sig .tc} (hr : r ∉ hostOps0_1_W) : L2 m c (Proc.devRef .tc r) = L1 m c (Proc.devRef .tc r) :=
  after_of_writes_sub hostOps0_1 _ hostOps0_1_writes hr
theorem k3 {r : Ref sig .tc} (hr : r ∉ hostOps0_3_W) : L4 m c (Proc.devRef .tc r) = L3 m c (Proc.devRef .tc r) :=
  after_of_writes_sub hostOps0_3 _ hostOps0_3_writes hr
theorem k4 {r : Ref sig .tc} (hr : r ∉ hostOps0_4_W) : L5 m c (Proc.devRef .tc r) = L4 m c (Proc.devRef .tc r) :=
  after_of_writes_sub hostOps0_4 _ hostOps0_4_writes hr
theorem k5 {r : Ref sig .tc} (hr : r ∉ hostOps0_5_W) : L6 m c (Proc.devRef .tc r) = L5 m c (Proc.devRef .tc r) :=
  after_of_writes_sub hostOps0_5 _ hostOps0_5_writes hr
theorem k6 {r : Ref sig .tc} (hr : r ∉ hostOps0_6_W) : L7 m c (Proc.devRef .tc r) = L6 m c (Proc.devRef .tc r) :=
  after_of_writes_sub hostOps0_6 _ hostOps0_6_writes hr
theorem k7 {r : Ref sig .tc} (hr : r ∉ hostOps0_7_W) : L8 m c (Proc.devRef .tc r) = L7 m c (Proc.devRef .tc r) :=
  after_of_writes_sub hostOps0_7 _ hostOps0_7_writes hr
theorem k8 {r : Ref sig .tc} (hr : r ∉ hostOps0_8_W) : L9 m c (Proc.devRef .tc r) = L8 m c (Proc.devRef .tc r) :=
  after_of_writes_sub hostOps0_8 _ hostOps0_8_writes hr
/-- From the fifth stretch's contents to the eighth's. -/
theorem k58 {r : Ref sig .tc} (hr : r ∉ hostOps0_5_W ++ (hostOps0_6_W ++ hostOps0_7_W)) : L8 m c (Proc.devRef .tc r) = L5 m c (Proc.devRef .tc r) := by
  simp only [List.mem_append, not_or] at hr
  rw [k7 m c hr.2.2, k6 m c hr.2.1, k5 m c hr.1]

section words
variable (b : Fin 32) (h : Fin 4) (n : Fin 32) (i j : Fin 64) (d : Fin 64) (e : Fin 128)

theorem w_log (k : Fin 256) (t : Fin 2048) : (L2 m c (Proc.devRef .tc main_v10) : Vec Ideal S32x2048x256 .f32) (ix3 b t k)
    = -(max (-decayWord (aP m c) (aW m c) (aA m c) b t k) 0
        + Ideal.log1p (Ideal.exp (-(max (decayWord (aP m c) (aW m c) (aA m c) b t k) (-decayWord (aP m c) (aW m c) (aA m c) b t k))))) :=
  log_sigmoid _ b t k _ (word (launchContents m c) b t k (fun j => aP m c b t (colL j)) (fun j => aW m c j k) (aA m c k)
    (fun _ => rfl) (fun _ => rfl) rfl)

theorem w_q : (L3 m c (Proc.devRef .tc main_v20) : Vec Ideal S32x4x32x64x64 .f32) (ix5 b h n i d)
    = (ch m c b h n).q i d * FloatOps.ofBits (F := Ideal) .f32 0x3E000000#32 :=
  q_rows _ b h n i d _ ((congrFun (k1 m c (by decide +kernel)) _).trans (q_cols (launchContents m c) b (tok n i) (pos h d)))
theorem w_k : (L3 m c (Proc.devRef .tc main_v22) : Vec Ideal S32x4x32x64x64 .f32) (ix5 b h n i d) = (ch m c b h n).k i d :=
  (k_rows _ b h n i d).trans ((congrFun (k1 m c (by decide +kernel)) _).trans (k_cols (launchContents m c) b (tok n i) (pos h d)))
theorem w_v : (L3 m c (Proc.devRef .tc main_v24) : Vec Ideal S32x4x32x64x128 .f32) (ix5 b h n i e) = (ch m c b h n).v i e :=
  (v_rows _ b h n i e).trans ((congrFun (k1 m c (by decide +kernel)) _).trans (v_cols (launchContents m c) b (tok n i) (posV h e)))
theorem w_la : (L3 m c (Proc.devRef .tc main_v26) : Vec Ideal S32x4x32x64x64 .f32) (ix5 b h n i d) = (ch m c b h n).la i d :=
  (la_rows _ b h n i d).trans (congrArg (fun z => Ideal.div z (FloatOps.ofBits (F := Ideal) .f32 0x41800000#32)) (w_log m c b (pos h d) (tok n i)))

theorem w_cum : (L4 m c (Proc.devRef .tc main_v27) : Vec Ideal S32x4x32x64x64 .f32) (ix5 b h n i d) = (ch m c b h n).cum i d :=
  cumsum _ b h n i d _ (fun j => w_la m c b h n j d)

theorem w_qIn : (L5 m c (Proc.devRef .tc main_v30) : Vec Ideal S32x4x32x64x64 .f32) (ix5 b h n i d) = (ch m c b h n).qIn i d :=
  q_in _ b h n i d _ _ (w_cum m c b h n i d) ((congrFun (k3 m c (by decide +kernel)) _).trans (w_q m c b h n i d))
theorem w_kIn : (L5 m c (Proc.devRef .tc main_v33) : Vec Ideal S32x4x32x64x64 .f32) (ix5 b h n i d) = (ch m c b h n).kIn i d :=
  k_in _ b h n i d _ _ (w_cum m c b h n i d) ((congrFun (k3 m c (by decide +kernel)) _).trans (w_k m c b h n i d))
theorem w_kOut : (L5 m c (Proc.devRef .tc main_v37) : Vec Ideal S32x4x32x64x64 .f32) (ix5 b h n i d) = (ch m c b h n).kOut i d :=
  k_out _ b h n i d _ _ _ (w_cum m c b h n i d) ((congrFun (k3 m c (by decide +kernel)) _).trans (w_k m c b h n i d)) (w_cum m c b h n 63 d)
theorem w_last : (L5 m c (Proc.devRef .tc main_v28) : Vec Ideal S32x4x32x1x64 .f32) (ix5 b h n 0 d) = (ch m c b h n).cum 63 d :=
  (last_row _ b h n d).trans (w_cum m c b h n 63 d)
theorem w_v5 : (L5 m c (Proc.devRef .tc main_v24) : Vec Ideal S32x4x32x64x128 .f32) (ix5 b h n i e) = (ch m c b h n).v i e :=
  (congrFun ((k4 m c (by decide +kernel)).trans (k3 m c (by decide +kernel))) _).trans (w_v m c b h n i e)

theorem w_mask : (L6 m c (Proc.devRef .tc main_v39) : IVec S64x64 1) (ix2 i j) = if j ≤ i then 1#1 else 0#1 :=
  mask _ (ones _) i j
theorem w_scores : (L7 m c (Proc.devRef .tc main_v40) : Vec Ideal S32x4x32x64x64 .f32) (ix5 b h n i j)
    = ∑ d : Fin 64, (ch m c b h n).qIn i d * (ch m c b h n).kIn j d :=
  scores _ b h n i j _ _ (fun d => (congrFun (k5 m c (by decide +kernel)) _).trans (w_qIn m c b h n i d))
    (fun d => (congrFun (k5 m c (by decide +kernel)) _).trans (w_kIn m c b h n j d))
theorem w_score : (L8 m c (Proc.devRef .tc main_v41) : Vec Ideal S32x4x32x64x64 .f32) (ix5 b h n i j) = (ch m c b h n).score i j :=
  masked _ b h n i j _ ((congrFun (k6 m c (by decide +kernel)) _).trans (w_mask m c i j)) (zero_word _) (w_scores m c b h n i j)

/-- At the loop's entry. -/
theorem w_within : (L9 m c (Proc.devRef .tc main_v42) : Vec Ideal S32x4x32x64x128 .f32) (ix5 b h n i e)
    = ∑ j : Fin 64, (ch m c b h n).score i j * (ch m c b h n).v j e :=
  within _ b h n i e _ _ (fun j => w_score m c b h n i j) (fun j => (congrFun (k58 m c (by decide +kernel)) _).trans (w_v5 m c b h n j e))
theorem w_add : (L9 m c (Proc.devRef .tc main_v50_1) : Vec Ideal S32x32x4x64x128 .f32) (ix5 n b h d e)
    = ∑ j : Fin 64, (ch m c b h n).kOut j d * (ch m c b h n).v j e :=
  adds _ b h n d e _ _ (fun j => (congrFun (k58 m c (by decide +kernel)) _).trans (w_kOut m c b h n j d))
    (fun j => (congrFun (k58 m c (by decide +kernel)) _).trans (w_v5 m c b h n j e))
theorem w_dec : (L9 m c (Proc.devRef .tc main_v50_0) : Vec Ideal S32x32x4x64 .f32) (ix4 n b h d) = Ideal.exp ((ch m c b h n).cum 63 d) :=
  decays _ b h n d _ ((congrFun (k58 m c (by decide +kernel)) _).trans (w_last m c b h n d))
theorem w_qIn9 : (L9 m c (Proc.devRef .tc main_v30) : Vec Ideal S32x4x32x64x64 .f32) (ix5 b h n i d) = (ch m c b h n).qIn i d :=
  (congrFun ((k8 m c (by decide +kernel)).trans (k58 m c (by decide +kernel))) _).trans (w_qIn m c b h n i d)
theorem w_gate (t : Fin 2048) (k : Fin 512) : (L9 m c (Proc.devRef .tc main_v4) : Vec Ideal S32x2048x512 .f32) (ix3 b t k)
    = aP m c b t ⟨1024 + k.val, by omega⟩ :=
  (congrFun (pre_keeps (L1 m c) (r := main_v4) (by decide +kernel)) _).trans (g_cols (launchContents m c) b t k)

end words

/-- An argument at the loop's entry. -/
theorem entry_keeps {r : Ref sig .tc} (h0 : r ∉ hostOps0_W)
    (hr : r ∉ hostOps0_1_W ++ (hostOps0_2_W ++ (hostOps0_3_W ++ (hostOps0_4_W ++ (hostOps0_5_W ++ (hostOps0_6_W ++ (hostOps0_7_W ++ hostOps0_8_W))))))) :
    L9 m c (Proc.devRef .tc r) = launchContents m c (Proc.devRef .tc r) :=
  (pre_keeps (L1 m c) hr).trans (after_of_writes_sub hostOps0 _ hostOps0_writes h0)

/-- The contents before trip `k`, on the buffers the loop carries. -/
abbrev at_ (k : ℕ) : Valuation τ sig (Elt Ideal) := STEP^[k] (entryContents preI m c)

theorem at_0 : ∀ k, at_ m c k (Proc.devRef .tc main_v50_0) = L9 m c (Proc.devRef .tc main_v50_0)
  | 0 => rfl
  | k + 1 => by rw [at_, Function.iterate_succ_apply', STEP_main_v50_0]; exact at_0 k
theorem at_1 : ∀ k, at_ m c k (Proc.devRef .tc main_v50_1) = L9 m c (Proc.devRef .tc main_v50_1)
  | 0 => rfl
  | k + 1 => by rw [at_, Function.iterate_succ_apply', STEP_main_v50_1]; exact at_1 k
/-- The counter before trip `k` is `k`. -/
theorem at_2 : ∀ k, at_ m c k (Proc.devRef .tc main_v50_2) = fun _ => BitVec.ofNat 32 k
  | 0 => counter0 (L8 m c)
  | k + 1 => by
    rw [at_, Function.iterate_succ_apply', STEP_main_v50_2]
    unfold step_main_v50_2
    rw [show (STEP^[k] (entryContents preI m c)) (Proc.devRef .tc main_v50_2) = _ from at_2 k]
    funext x
    show IntOp.addi (BitVec.ofNat 32 k) 1#32 = _
    exact (BitVec.ofNat_add k 1).symm

/-- The state before trip `k`. -/
theorem at_3 (b : Fin 32) (h : Fin 4) (d : Fin 64) (e : Fin 128) : ∀ k, k ≤ 32 →
    (at_ m c k (Proc.devRef .tc main_v50_3) : Vec Ideal S32x4x64x128 .f32) (ix4 b h d e) = st m c b h k d e
  | 0, _ => state0 (L8 m c) b h d e
  | k + 1, hk => by
    rw [at_, Function.iterate_succ_apply', STEP_main_v50_3]
    exact state_step (at_ m c k) ⟨k, hk⟩ (at_2 m c k) b h d e _ _ _
      ((congrFun (at_0 m c k) _).trans (w_dec m c b h ⟨k, hk⟩ d)) (at_3 b h d e k (by omega))
      ((congrFun (at_1 m c k) _).trans (w_add m c b h ⟨k, hk⟩ d e))

/-- The stack before trip `k` holds the states of the chunks before `k`. -/
theorem at_4 (b : Fin 32) (h : Fin 4) (d : Fin 64) (e : Fin 128) : ∀ k, k ≤ 32 → ∀ n : Fin 32, n.val < k →
    (at_ m c k (Proc.devRef .tc main_v50_4) : Vec Ideal S32x32x4x64x128 .f32) (ix5 n b h d e) = st m c b h n d e
  | 0, _, n, hn => absurd hn (Nat.not_lt_zero _)
  | k + 1, hk, n, hn => by
    rw [at_, Function.iterate_succ_apply', STEP_main_v50_4]
    refine (stack_step (at_ m c k) ⟨k, hk⟩ (at_2 m c k) n b h d e).trans ?_
    by_cases hnk : n = ⟨k, hk⟩
    · rw [if_pos hnk, hnk]
      exact at_3 m c b h d e k (by omega)
    · rw [if_neg hnk]
      have : n.val ≠ k := fun h => hnk (Fin.ext h)
      exact at_4 b h d e k (by omega) n (by omega)

/-! ## After the loop -/

/-- The contents after the loop. -/
abbrev E : Valuation τ sig (Elt Ideal) := after condOps (atK m 32 c)

theorem E_keeps {r : Ref sig .tc}
    (hr : r ∉ condOps_W ++ (while0Ops0_W ++ (while0Ops0_1_W ++ (while0Ops0_2_W ++ (while0Ops0_3_W ++ while0Ops0_4_W))))) :
    E m c (Proc.devRef .tc r) = L9 m c (Proc.devRef .tc r) :=
  (after_of_writes_sub condOps _ condOps_writes (fun h => hr (List.mem_append_left _ h))).trans (trips_keep m c hr 32)

theorem E_stack (b : Fin 32) (h : Fin 4) (n : Fin 32) (d : Fin 64) (e : Fin 128) :
    (E m c (Proc.devRef .tc main_v50_4) : Vec Ideal S32x32x4x64x128 .f32) (ix5 n b h d e) = st m c b h n d e :=
  (congrFun ((cond_keeps (atK m 32 c) main_v50_4 (by decide)).trans (atK_agree m c 32 main_v50_4 (by decide))) _).trans
    (at_4 m c b h d e 32 le_rfl n n.isLt)

/-- The result, read at a row of all tokens and a column of all heads. -/
theorem result (r : Fin 65536) (k : Fin 512) :
    (finalContents condOps preI bodyI postI 32 m c (Proc.devRef .tc main_v72) : Vec Ideal S65536x512 .f32) (ix2 r k)
      = outG (aP m c) (aW m c) (aA m c) (aG m c) r k := by
  have eg : (launchContents m c (Proc.devRef .tc main_arg3) : Vec Ideal S128 .f32) (ix1 (⟨k.val % 128, by omega⟩ : Fin 128)) = aG m c ⟨k.val % 128, by omega⟩ := rfl
  have hi : (⟨r.val % 64, by omega⟩ : Fin 64) = ⟨r.val % 2048 % 64, by omega⟩ := Fin.ext (by show r.val % 64 = r.val % 2048 % 64; omega)
  have ht : tok (r.val % 2048 / 64) ⟨r.val % 64, by omega⟩ = ⟨r.val % 2048, by omega⟩ := Fin.ext (by simp only [tok]; omega)
  have hk : colG ⟨k.val / 128, by omega⟩ ⟨k.val % 128, by omega⟩ = ⟨1024 + k.val, by omega⟩ := Fin.ext (by simp only [colG]; omega)
  have e69 := normed (E m c) ⟨r.val / 2048, by omega⟩ ⟨r.val % 2048, by omega⟩ k _ _ _ _
    (fun e => (congrFun (E_keeps m c (r := main_v42) (by decide +kernel)) _).trans (w_within m c _ _ _ _ e))
    (fun d => (congrFun (E_keeps m c (r := main_v30) (by decide +kernel)) _).trans (w_qIn9 m c _ _ _ _ d))
    (fun d e => E_stack m c _ _ _ d e)
    ((congrFun ((E_keeps m c (r := main_arg3) (by decide +kernel)).trans (entry_keeps m c (by decide +kernel) (by decide +kernel))) _).trans eg) _ rfl
  have e70 := silu (after hostOps0_9 (E m c)) ⟨r.val / 2048, by omega⟩ ⟨r.val % 2048, by omega⟩ k _
    ((congrFun ((after_of_writes_sub hostOps0_9 _ hostOps0_9_writes (by decide +kernel)).trans (E_keeps m c (r := main_v4) (by decide +kernel))) _).trans
      (w_gate m c _ _ k))
  refine (product _ r k _ _ ((congrFun (after_of_writes_sub hostOps0_10 _ hostOps0_10_writes (by decide +kernel)) _).trans e69) e70).trans ?_
  unfold outG resG
  rw [ht, hk, hi]
  rfl

/-- An argument at the end. -/
theorem end_keeps {r : Ref sig .tc} (h0 : r ∉ hostOps0_W)
    (hr : r ∉ hostOps0_1_W ++ (hostOps0_2_W ++ (hostOps0_3_W ++ (hostOps0_4_W ++ (hostOps0_5_W ++ (hostOps0_6_W ++ (hostOps0_7_W ++ hostOps0_8_W)))))))
    (hb : r ∉ condOps_W ++ (while0Ops0_W ++ (while0Ops0_1_W ++ (while0Ops0_2_W ++ (while0Ops0_3_W ++ while0Ops0_4_W)))))
    (hp : r ∉ hostOps0_9_W ++ (hostOps0_10_W ++ hostOps0_11_W)) :
    finalContents condOps preI bodyI postI 32 m c (Proc.devRef .tc r) = launchContents m c (Proc.devRef .tc r) :=
  (post_keeps (E m c) hp).trans ((E_keeps m c hb).trans (entry_keeps m c h0 hr))

/-- The reference runs to `outG` of its arguments and leaves them as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72) = (fun y => outG (aP m c) (aW m c) (aA m c) (aG m c) (y 0) (y 1) : Vec Ideal S65536x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h c main_v72 rfl).trans (funext fun y => ?_),
    (h c main_arg0 rfl).trans (end_keeps m c (by decide +kernel) (by decide +kernel) (by decide +kernel) (by decide +kernel)),
    (h c main_arg1 rfl).trans (end_keeps m c (by decide +kernel) (by decide +kernel) (by decide +kernel) (by decide +kernel)),
    (h c main_arg2 rfl).trans (end_keeps m c (by decide +kernel) (by decide +kernel) (by decide +kernel) (by decide +kernel)),
    (h c main_arg3 rfl).trans (end_keeps m c (by decide +kernel) (by decide +kernel) (by decide +kernel) (by decide +kernel))⟩) (run_fold m ρ)
  exact (congrArg _ (eq_ix2 y)).trans (result m c (y 0) (y 1))

end GlaRef

end
-- ==== Proof.ResidualNorm.lean ====
/- The residual sum of a layer's mixer and its layer norm: every row block of the kernel, put together, against the norm of all rows. -/
module

public import proofs.«01_k».proof.Proof.Gen.Kernel6Ideal.Value
public import proofs.«01_k».proof.Proof.Gen.Reference6Ideal.Run
public import proofs.«01_k».proof.Proof.Projection
public import Idealize.ShloMosaic.Lib.Pipeline.Value
public import Idealize.ShloMosaic.Lib.Pipeline.ValueKit

@[expose] public section

set_option maxRecDepth 16384

noncomputable section

namespace Cert.ResidualNorm

open Cert.Kernel6Ideal Cert.Kernel6Ideal.Gen Cert.Projection
open Idealize.ShloMosaic hiding ix2 ix3 eq_ix2 eq_ix3
open Idealize.ShloMosaic.TcCoe Idealize.SL.Sem
open Idealize.ShloMosaic.ValueIdx (ix2 ix3 eq_ix2 eq_ix3)

/-- A row's residual sum: the mixer's input, weighted, and its output. -/
def residual (x y : Fin 1024 → EReal) (k : Fin 1024) : EReal := Ideal.ofBits .f32 0x3FD744FD#32 * x k + y k

/-- The mean of a row. -/
def mean (z : Fin 1024 → EReal) : EReal := Ideal.div (∑ k, z k) (Ideal.ofBits .f32 0x44800000#32)

/-- The layer norm of a row with gain `g` and bias `b`, at column `n`. -/
def norm (z g b : Fin 1024 → EReal) (n : Fin 1024) : EReal :=
  (z n - mean z) * Ideal.rsqrt (mean (fun k => (z k - mean z) * (z k - mean z)) + Ideal.ofBits .f32 0x3727C5AC#32) * g n + b n

/-- Both results, from the arguments: every token's norm. -/
def out (X Y : Vec Ideal S32x2048x1024 .f32) (G B : Vec Ideal S1024 .f32) : Vec Ideal S65536x1024 .f32 := fun y =>
  norm (residual (fun k => X (ix3 (batch (y 0)) (step (y 0)) k)) (fun k => Y (ix3 (batch (y 0)) (step (y 0)) k)))
    (fun k => G (ValueIdx.ix1 k)) (fun k => B (ValueIdx.ix1 k)) (y 1)

variable (m : (ℓ : Loc nD τ sig) → Buf (Elt Ideal) ℓ)

/-- The block numbers of the windows at point `t`. -/
theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![t.val, 0] := (by decide +kernel : ∀ t : Fin grid0.N, _)

/-- Row `r` of block `t`. -/
def row (t : Fin cfg0.N) (r : Fin 512) : Fin 65536 := ⟨t.val * 512 + r.val, by have := t.isLt; have h : cfg0.N = 128 := rfl; omega⟩

/-- The tokens the region finds, from the arguments. -/
theorem arr_x (c : Dev nD) (r : Fin 65536) (k : Fin 1024) :
    V m c main_v0 (ix2 r k) = m ((c.tc : Thread nD τ).loc main_arg0) (ix3 (batch r) (step r) k) := by
  entry_read
  pointwise
  rfl

theorem arr_y (c : Dev nD) (r : Fin 65536) (k : Fin 1024) :
    V m c main_v1 (ix2 r k) = m ((c.tc : Thread nD τ).loc main_arg1) (ix3 (batch r) (step r) k) := by
  entry_read
  pointwise
  rfl

/-- The gain and the bias it finds. -/
theorem arr_g (c : Dev nD) (k : Fin 1024) :
    V m c main_v2 (ix2 (0 : Fin 1) k) = m ((c.tc : Thread nD τ).loc main_arg2) (ValueIdx.ix1 k) := by
  entry_read
  pointwise
  rfl

theorem arr_b (c : Dev nD) (k : Fin 1024) :
    V m c main_v3 (ix2 (0 : Fin 1) k) = m ((c.tc : Thread nD τ).loc main_arg3) (ValueIdx.ix1 k) := by
  entry_read
  pointwise
  rfl

/-- What a point's body leaves in the output block. -/
theorem block (x y : Vec Ideal S512x1024 .f32) (g b : Vec Ideal S1x1024 .f32) (r : Fin 512) (n : Fin 1024) :
    out0_4 x y g b (ix2 r n) = norm (residual (fun k => x (ix2 r k)) (fun k => y (ix2 r k))) (fun k => g (ix2 0 k)) (fun k => b (ix2 0 k)) n := by
  have hz : (![0, 0] : Fin 2 → ℕ) = fun _ => 0 := by decide
  unfold out0_4
  rw [View.canon_unit_zero hz, View.ld_unit_zero hz, View.ld_unit_zero hz, View.ld_unit_zero hz, View.ld_unit_zero hz]
  unfold k0_pay1
  pointwise
  rfl

set_option backward.isDefEq.respectTransparency.types false in
/-- The output array after the run. -/
theorem final_arr (c : Dev nD) : (dats m 0 c).arrAt 4 cfg0.N
    = out (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨r, n, rfl⟩ : ∃ (r : Fin 512) (n : Fin 1024), y = ix2 r n := ⟨y 0, y 1, eq_ix2 _⟩
  refine (block _ _ _ _ r n).trans ?_
  have e : (win0_4.blk t).view.emb (ix2 r n) = ix2 (row t r) n := by
    simp only [← ix2_eq_valueIdx]
    blk_ext [idx_4 t, row]
  show _ = out _ _ _ _ ((win0_4.blk t).view.emb (ix2 r n))
  rw [e]
  have ex : ∀ k : Fin 1024, iblk m c 0 t (ix2 r k) = m ((c.tc : Thread nD τ).loc main_arg0) (ix3 (batch (row t r)) (step (row t r)) k) := fun k => by
    have e0 : iblk m c 0 t (ix2 r k) = V m c main_v0 (ix2 (row t r) k) := by
      simp only [← ix2_eq_valueIdx]
      blk_ext [iblk, idx_0 t, row]
    exact e0.trans (arr_x m c (row t r) k)
  have ey : ∀ k : Fin 1024, iblk m c 1 t (ix2 r k) = m ((c.tc : Thread nD τ).loc main_arg1) (ix3 (batch (row t r)) (step (row t r)) k) := fun k => by
    have e0 : iblk m c 1 t (ix2 r k) = V m c main_v1 (ix2 (row t r) k) := by
      simp only [← ix2_eq_valueIdx]
      blk_ext [iblk, idx_1 t, row]
    exact e0.trans (arr_y m c (row t r) k)
  have eg : ∀ k : Fin 1024, iblk m c 2 t (ix2 (0 : Fin 1) k) = m ((c.tc : Thread nD τ).loc main_arg2) (ValueIdx.ix1 k) := fun k => by
    have e0 : iblk m c 2 t (ix2 (0 : Fin 1) k) = V m c main_v2 (ix2 (0 : Fin 1) k) := by
      simp only [← ix2_eq_valueIdx]
      blk_ext [iblk, idx_2 t]
    exact e0.trans (arr_g m c k)
  have eb : ∀ k : Fin 1024, iblk m c 3 t (ix2 (0 : Fin 1) k) = m ((c.tc : Thread nD τ).loc main_arg3) (ValueIdx.ix1 k) := fun k => by
    have e0 : iblk m c 3 t (ix2 (0 : Fin 1) k) = V m c main_v3 (ix2 (0 : Fin 1) k) := by
      simp only [← ix2_eq_valueIdx]
      blk_ext [iblk, idx_3 t]
    exact e0.trans (arr_b m c k)
  show norm (residual (fun k => iblk m c 0 t (ix2 r k)) (fun k => iblk m c 1 t (ix2 r k))) (fun k => iblk m c 2 t (ix2 (0 : Fin 1) k))
    (fun k => iblk m c 3 t (ix2 (0 : Fin 1) k)) n = _
  rw [funext ex, funext ey, funext eg, funext eb]
  rfl

/-- The kernel runs to `out` of its arguments and leaves them as they were. -/
theorem run_kernel (ρ : Dev nD → PrngReg) : θ_run defs (onTc (τ := τ) (main (F := Ideal))) ⟨m, fun _ => 0, ρ⟩ fun r => ∀ c : Dev nD,
      r.2.mem ((c.tc : Thread nD τ).loc main_v4) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (final_arr m c), (h c).2⟩) (Cert.Kernel6Ideal.Value.run_blocks (F := Ideal) m ρ)

end Cert.ResidualNorm

namespace Cert.ResidualNormRef

open Cert.Reference6Ideal Cert.Reference6Ideal.Gen Cert.Projection Cert.ResidualNorm
open Idealize.ShloMosaic hiding ix2 ix3 eq_ix2 eq_ix3
open Idealize.ShloMosaic.TcCoe Idealize.SL.Sem
open Idealize.ShloMosaic.ValueIdx (ix2 ix3 eq_ix2 eq_ix3)

/-- The reference's residual sum of all tokens. -/
def sumV (X Y : Vec Ideal S32x2048x1024 .f32) : FVec Ideal S32x2048x1024 .f32 :=
  addf (mulf (broadcastInDim S32x2048x1024 ![] bcast_S_S32x2048x1024 (constant S_ .f32 0x3FD744FD#32)) X) Y

/-- Its mean over the columns. -/
def meanV (Z : FVec Ideal S32x2048x1024 .f32) : FVec Ideal S32x2048x1 .f32 :=
  Host.divf (broadcastInDim S32x2048x1 ![0, 1] bcast_S32x2048_S32x2048x1_0_1
      (Host.reduceAdd Z (constant S_ .f32 0x00000000#32) reducesTo_S32x2048x1024_S32x2048_d2 h_S_))
    (broadcastInDim S32x2048x1 ![] bcast_S_S32x2048x1 (constant S_ .f32 0x44800000#32))

/-- The rows less their means. -/
def centredV (Z : FVec Ideal S32x2048x1024 .f32) : FVec Ideal S32x2048x1024 .f32 :=
  subf Z (broadcastInDim S32x2048x1024 ![0, 1, 2] bcast_S32x2048x1_S32x2048x1024_0_1_2 (meanV Z))

theorem sumV_apply (X Y : Vec Ideal S32x2048x1024 .f32) (b : Fin 32) (t : Fin 2048) (k : Fin 1024) :
    sumV X Y (ix3 b t k) = residual (fun k => X (ix3 b t k)) (fun k => Y (ix3 b t k)) k := by
  unfold sumV
  pointwise
  rfl

theorem meanV_apply (Z : FVec Ideal S32x2048x1024 .f32) (b : Fin 32) (t : Fin 2048) :
    meanV Z (ix3 b t (0 : Fin 1)) = mean (fun k => Z (ix3 b t k)) := by
  unfold meanV
  pointwise
  rfl

theorem centredV_apply (Z : FVec Ideal S32x2048x1024 .f32) (b : Fin 32) (t : Fin 2048) (k : Fin 1024) :
    centredV Z (ix3 b t k) = Z (ix3 b t k) - mean (fun k => Z (ix3 b t k)) := by
  refine Eq.trans ?_ (congrArg (fun u => Z (ix3 b t k) - u) (meanV_apply Z b t))
  unfold centredV
  pointwise
  rfl

/-- The reference's composed operations, read at an index, from the centred rows and their squares' mean. -/
theorem scaled (C : FVec Ideal S32x2048x1024 .f32) (M : FVec Ideal S32x2048x1 .f32) (G B : Vec Ideal S1024 .f32) (r : Fin 65536) (n : Fin 1024) :
    shapeCast S65536x1024 (addf (mulf (mulf C (broadcastInDim S32x2048x1024 ![0, 1, 2] bcast_S32x2048x1_S32x2048x1024_0_1_2
        (Host.rsqrt (addf M (broadcastInDim S32x2048x1 ![] bcast_S_S32x2048x1 (constant S_ .f32 0x3727C5AC#32))))))
        (broadcastInDim S32x2048x1024 ![0, 1, 2] bcast_S1x1x1024_S32x2048x1024_0_1_2 (broadcastInDim S1x1x1024 ![2] bcast_S1024_S1x1x1024_2 G)))
        (broadcastInDim S32x2048x1024 ![0, 1, 2] bcast_S1x1x1024_S32x2048x1024_0_1_2 (broadcastInDim S1x1x1024 ![2] bcast_S1024_S1x1x1024_2 B)))
      shapeCasts_S32x2048x1024_S65536x1024 (ix2 r n)
      = C (ix3 (batch r) (step r) n) * Ideal.rsqrt (M (ix3 (batch r) (step r) (0 : Fin 1)) + Ideal.ofBits .f32 0x3727C5AC#32) * G (ValueIdx.ix1 n)
        + B (ValueIdx.ix1 n) := by
  pointwise
  rfl

/-- The reference's composed operations are `out`. -/
theorem value (X Y : Vec Ideal S32x2048x1024 .f32) (G B : Vec Ideal S1024 .f32) :
    shapeCast S65536x1024 (addf (mulf (mulf (centredV (sumV X Y)) (broadcastInDim S32x2048x1024 ![0, 1, 2] bcast_S32x2048x1_S32x2048x1024_0_1_2
        (Host.rsqrt (addf (meanV (mulf (centredV (sumV X Y)) (centredV (sumV X Y)))) (broadcastInDim S32x2048x1 ![] bcast_S_S32x2048x1 (constant S_ .f32 0x3727C5AC#32))))))
        (broadcastInDim S32x2048x1024 ![0, 1, 2] bcast_S1x1x1024_S32x2048x1024_0_1_2 (broadcastInDim S1x1x1024 ![2] bcast_S1024_S1x1x1024_2 G)))
        (broadcastInDim S32x2048x1024 ![0, 1, 2] bcast_S1x1x1024_S32x2048x1024_0_1_2 (broadcastInDim S1x1x1024 ![2] bcast_S1024_S1x1x1024_2 B)))
      shapeCasts_S32x2048x1024_S65536x1024 = Cert.ResidualNorm.out X Y G B := by
  funext y
  obtain ⟨r, n, rfl⟩ : ∃ (r : Fin 65536) (n : Fin 1024), y = ix2 r n := ⟨y 0, y 1, eq_ix2 _⟩
  refine (scaled _ _ G B r n).trans ?_
  have hc : (fun k => centredV (sumV X Y) (ix3 (batch r) (step r) k)) = fun k => residual (fun k => X (ix3 (batch r) (step r) k)) (fun k => Y (ix3 (batch r) (step r) k)) k
      - mean (residual (fun k => X (ix3 (batch r) (step r) k)) (fun k => Y (ix3 (batch r) (step r) k))) := funext fun k => by
    rw [centredV_apply, sumV_apply, funext (sumV_apply X Y (batch r) (step r))]
  have hm : meanV (mulf (centredV (sumV X Y)) (centredV (sumV X Y))) (ix3 (batch r) (step r) (0 : Fin 1))
      = mean (fun k => (fun k => centredV (sumV X Y) (ix3 (batch r) (step r) k)) k * (fun k => centredV (sumV X Y) (ix3 (batch r) (step r) k)) k) :=
    meanV_apply _ _ _
  rw [hm, hc, congrFun hc n]
  rfl

/-- The reference runs to `out` of its arguments and leaves them as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = Cert.ResidualNorm.out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (value _ _ _ _), (h c).2⟩) (Cert.Reference6Ideal.Value.run (F := Ideal) m ρ)

end Cert.ResidualNormRef

end
-- ==== Proof.GatePrep.lean ====
/- The RWKV-7 half of a token before the even layers' output projection: the scan's result normed, with its bonus, gated. -/
module

public import proofs.«01_k».proof.Proof.ScanPrep
public import proofs.«01_k».proof.Proof.Gen.Kernel7Ideal

@[expose] public section

set_option maxRecDepth 16384

noncomputable section

namespace Cert.GatePrep

open Cert.Kernel7Ideal Cert.Kernel7Ideal.Gen Cert.ScanPrep
open Idealize.ShloMosaic Idealize.SL.Sem

abbrev Ones := Vec Ideal S32x2048x8x1 .f32

/-- The scan's result, from [step, position, batch and head] to [batch, step, head, position]. -/
def byHead (y : Vec Ideal S2048x64x256 .f32) : Heads :=
  transpose S32x2048x8x64 [2, 0, 3, 1] (shapeCast S2048x64x32x8 y shapeCasts_S2048x64x256_S2048x64x32x8) transposes_S2048x64x32x8_S32x2048x8x64_2_0_3_1

/-- The gate's low-rank columns. -/
def gCols (s : Vec Ideal S32x2048x1696 .f32) : Vec Ideal S32x2048x96 .f32 := extractStridedSlice S32x2048x96 ![0, 0, 1600] s slices_S32x2048x1696_S32x2048x96_0_0_1600

def one96 : Vec Ideal S32x2048x96 .f32 := broadcastInDim S32x2048x96 ![] bcast_S_S32x2048x96 (constant (F := Ideal) S_ .f32 0x3F800000#32)

/-- The gate of every token. -/
def gate (z : Vec Ideal S32x2048x96 .f32) (G2 : Vec Ideal S96x512 .f32) : Tok :=
  Host.dotGeneral (F := Ideal) (φ₁ := .f32) (φ₂ := .f32) dot_S32x2048x96_S96x512_S32x2048x512_2_0_01_1_n_n none
    (Host.divf (F := Ideal) (φ := .f32) one96 (addf (F := Ideal) (φ := .f32) one96 (Host.exp (F := Ideal) (φ := .f32) (Host.negf (F := Ideal) (φ := .f32) z)))) G2

/-- Each head's sum, as an array with one column. -/
def total (y : Heads) : Ones := broadcastInDim S32x2048x8x1 ![0, 1, 2] bcast_S32x2048x8_S32x2048x8x1_0_1_2
  (Host.reduceAdd (F := Ideal) (φ := .f32) y (constant (F := Ideal) S_ .f32 0x00000000#32) reducesTo_S32x2048x8x64_S32x2048x8_d3 h_S_)

def ones (b : BitVec 32) : Ones := broadcastInDim S32x2048x8x1 ![] bcast_S_S32x2048x8x1 (constant (F := Ideal) S_ .f32 b)

def spread (o : Ones) : Heads := broadcastInDim S32x2048x8x64 ![0, 1, 2, 3] bcast_S32x2048x8x1_S32x2048x8x64_0_1_2_3 o

/-- Each head's mean. -/
def mean (y : Heads) : Ones := Host.divf (F := Ideal) (φ := .f32) (total y) (ones 0x42800000#32)

def centred (y : Heads) : Heads := subf (F := Ideal) (φ := .f32) y (spread (mean y))

/-- A weight of every head and position, at every token. -/
def perHead (w : Vec Ideal S8x64 .f32) : Heads :=
  broadcastInDim S32x2048x8x64 ![0, 1, 2, 3] bcast_S1x1x8x64_S32x2048x8x64_0_1_2_3 (broadcastInDim S1x1x8x64 ![2, 3] bcast_S8x64_S1x1x8x64_2_3 w)

/-- Each head's norm with gain and bias. -/
def norm (y : Heads) (g b : Vec Ideal S512 .f32) : Heads :=
  addf (F := Ideal) (φ := .f32) (mulf (F := Ideal) (φ := .f32) (mulf (F := Ideal) (φ := .f32) (centred y)
      (spread (Host.rsqrt (F := Ideal) (φ := .f32) (addf (F := Ideal) (φ := .f32) (mean (mulf (F := Ideal) (φ := .f32) (centred y) (centred y))) (ones 0x3A27C5AC#32)))))
    (perHead (shapeCast S8x64 g shapeCasts_S512_S8x64))) (perHead (shapeCast S8x64 b shapeCasts_S512_S8x64))

/-- The bonus of the current token. -/
def bonus (r k v : Heads) (RK : Vec Ideal S8x64 .f32) : Heads :=
  mulf (F := Ideal) (φ := .f32) (spread (total (mulf (F := Ideal) (φ := .f32) (mulf (F := Ideal) (φ := .f32) r k) (perHead RK)))) v

/-- The gated half, from shifted columns `s`, the scan's result `y` and the weights. -/
def half (s : Vec Ideal S32x2048x1696 .f32) (y : Heads) (A0 : Vec Ideal S512 .f32) (A2 : Vec Ideal S32x512 .f32) (G2 : Vec Ideal S96x512 .f32)
    (KA : Vec Ideal S512 .f32) (RK : Vec Ideal S8x64 .f32) (g b : Vec Ideal S512 .f32) : Tok :=
  mulf (F := Ideal) (φ := .f32) (shapeCast S32x2048x512 (addf (F := Ideal) (φ := .f32) (norm y g b) (bonus (x0 s) (x2 s A0 A2 KA) (x3 s) RK)) shapeCasts_S32x2048x8x64_S32x2048x512)
    (gate (gCols s) G2)

end Cert.GatePrep

end
-- ==== Proof.GatedOut.lean ====
/- The even layers' output projection from the scan's result on: the kernel's row blocks, put together, are one product of all rows. -/
module

public import proofs.«01_k».proof.Proof.GatePrep
public import proofs.«01_k».proof.Proof.ProjEvenOut
public import proofs.«01_k».proof.Proof.Gen.Kernel7Ideal.Value
public import proofs.«01_k».proof.Proof.Gen.Reference7Ideal.Run
public import Idealize.ShloMosaic.Lib.Pipeline.Value
public import Idealize.ShloMosaic.Lib.Pipeline.ValueKit
public import Idealize.ShloMosaic.Lib.StableHlo.RunLoop

@[expose] public section

set_option maxRecDepth 16384

noncomputable section

namespace Cert.GatedOut

open Cert.Kernel7Ideal Cert.Kernel7Ideal.Gen Cert.Projection Cert.GatePrep Cert.ScanPrep
open Idealize.ShloMosaic hiding ix2 ix3 eq_ix2 eq_ix3
open Idealize.ShloMosaic.TcCoe Idealize.SL.Sem Idealize.ShloMosaic.StableHlo
open Idealize.ShloMosaic.ValueIdx (ix2 ix3 eq_ix2 eq_ix3)

/-- Both results, from the arguments: every token's projection. -/
def out (P : Vec Ideal S32x2048x3248 .f32) (y : Vec Ideal S2048x64x256 .f32) (G : Vec Ideal S32x2048x512 .f32) (MU : Vec Ideal S1696 .f32) (A0 : Vec Ideal S512 .f32)
    (A2 : Vec Ideal S32x512 .f32) (G2 : Vec Ideal S96x512 .f32) (KA : Vec Ideal S512 .f32) (RK : Vec Ideal S8x64 .f32) (g b : Vec Ideal S512 .f32)
    (W : Vec Ideal S1024x1024 .f32) : Vec Ideal S65536x1024 .f32 :=
  Cert.ProjEvenOut.out G (half (shifted P MU) (byHead y) A0 A2 G2 KA RK g b) W

section Steps

variable (V : Valuation τ sig (Elt Ideal))

theorem cols : after hostOps0 V (Proc.devRef .tc main_v0) = mixCols (V (Proc.devRef .tc main_arg0)) := by
  after_results
  rfl
theorem zero_word : after hostOps0 V (Proc.devRef .tc main_c) = constantI S_ 32 0#32 := by
  after_results

theorem pad_rows (hc : V (Proc.devRef .tc main_c) = constantI S_ 32 0#32) :
    after hostOps0_1 V (Proc.devRef .tc main_v1) = padded (V (Proc.devRef .tc main_v0)) := by
  unfold padded
  rw [← hc]
  after_results
  rfl

/-- The token's two halves as rows. -/
theorem rows_of : after hostOps0_2 V (Proc.devRef .tc main_v82)
    = shapeCast S65536x1024 (concatenate S32x2048x1024 2 [⟨S32x2048x512, V (Proc.devRef .tc main_arg2)⟩,
        ⟨S32x2048x512, half (shift (V (Proc.devRef .tc main_v0)) (V (Proc.devRef .tc main_v1)) (V (Proc.devRef .tc main_arg3))) (byHead (V (Proc.devRef .tc main_arg1)))
          (V (Proc.devRef .tc main_arg4)) (V (Proc.devRef .tc main_arg5)) (V (Proc.devRef .tc main_arg6)) (V (Proc.devRef .tc main_arg7)) (V (Proc.devRef .tc main_arg8))
          (V (Proc.devRef .tc main_arg9)) (V (Proc.devRef .tc main_arg10))⟩] concatenates_S32x2048x512_S32x2048x512_S32x2048x1024_d2) shapeCasts_S32x2048x1024_S65536x1024 := by
  after_results
  rfl

/-- The weights, rounded. -/
theorem weights : after hostOps0_2 V (Proc.devRef .tc main_v83) = truncf (F := Ideal) (φ := .f32) .bf16 (V (Proc.devRef .tc main_arg11)) bitsLt_bf16_f32 := by
  after_results

end Steps

/-- The buffers the first two stretches write. -/
abbrev W0 : List (Ref sig .tc) := [main_v0, main_c]
abbrev W1 : List (Ref sig .tc) := [main_call0_v0, main_v1]
theorem writes_0 : (hostOps0 (F := Ideal)).Forall fun op => op.writes ⊆ (W0.map (Proc.devRef (τ := τ) .tc)).toFinset := forall_writes_sub_of_map rfl
theorem writes_1 : (hostOps0_1 (F := Ideal)).Forall fun op => op.writes ⊆ (W1.map (Proc.devRef (τ := τ) .tc)).toFinset := forall_writes_sub_of_map rfl

variable (m : (ℓ : Loc nD τ sig) → Buf (Elt Ideal) ℓ)

/-- The contents after each stretch. -/
abbrev L0 (c : Dev nD) : Valuation τ sig (Elt Ideal) := fun b => m (c, b)
abbrev L1 (c : Dev nD) : Valuation τ sig (Elt Ideal) := after hostOps0 (L0 m c)
abbrev L2 (c : Dev nD) : Valuation τ sig (Elt Ideal) := after hostOps0_1 (L1 m c)

/-- An argument after two stretches. -/
theorem a2 (c : Dev nD) {r : Ref sig .tc} (h0 : r ∉ W0) (h1 : r ∉ W1) : L2 m c (Proc.devRef .tc r) = L0 m c (Proc.devRef .tc r) :=
  (after_of_writes_sub hostOps0_1 _ writes_1 h1).trans (after_of_writes_sub hostOps0 _ writes_0 h0)

/-- The region finds what the third stretch leaves. -/
theorem entry_eq (c : Dev nD) (r : Ref sig .tc) : V m c r = after hostOps0_2 (L2 m c) (Proc.devRef .tc r) := by
  refine (congrFun (afterL_eq_after_flatten [hostOps0, hostOps0_1, hostOps0_2] (L0 m c)) (Proc.devRef .tc r)).symm.trans ?_
  simp only [afterL_cons, afterL_nil]

/-- The RWKV-7 half of the arguments. -/
abbrev rw (c : Dev nD) : Vec Ideal S32x2048x512 .f32 :=
  half (shifted (m ((c.tc : Thread nD τ).loc main_arg0)) (m ((c.tc : Thread nD τ).loc main_arg3))) (byHead (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The rows the region finds. -/
theorem arr_rows (c : Dev nD) : V m c main_v82 = shapeCast S65536x1024 (concatenate S32x2048x1024 2 [⟨S32x2048x512, (m ((c.tc : Thread nD τ).loc main_arg2))⟩, ⟨S32x2048x512, rw m c⟩]
    concatenates_S32x2048x512_S32x2048x512_S32x2048x1024_d2) shapeCasts_S32x2048x1024_S65536x1024 := by
  have e0 : L1 m c (Proc.devRef .tc main_v0) = mixCols (m ((c.tc : Thread nD τ).loc main_arg0)) := cols (L0 m c)
  have e2 : L2 m c (Proc.devRef .tc main_v0) = mixCols (m ((c.tc : Thread nD τ).loc main_arg0)) := (after_of_writes_sub hostOps0_1 _ writes_1 (by decide +kernel)).trans e0
  have e1 : L2 m c (Proc.devRef .tc main_v1) = padded (mixCols (m ((c.tc : Thread nD τ).loc main_arg0))) := (pad_rows (L1 m c) (zero_word _)).trans (congrArg padded e0)
  rw [entry_eq, rows_of, e1, e2]
  rw [a2 m c (r := main_arg1) (by decide +kernel) (by decide +kernel), a2 m c (r := main_arg2) (by decide +kernel) (by decide +kernel), a2 m c (r := main_arg3) (by decide +kernel) (by decide +kernel), a2 m c (r := main_arg4) (by decide +kernel) (by decide +kernel), a2 m c (r := main_arg5) (by decide +kernel) (by decide +kernel), a2 m c (r := main_arg6) (by decide +kernel) (by decide +kernel), a2 m c (r := main_arg7) (by decide +kernel) (by decide +kernel), a2 m c (r := main_arg8) (by decide +kernel) (by decide +kernel), a2 m c (r := main_arg9) (by decide +kernel) (by decide +kernel), a2 m c (r := main_arg10) (by decide +kernel) (by decide +kernel)]
  rfl

/-- Row `r` of block `t`. -/
def row (t : Fin cfg0.N) (r : Fin 512) : Fin 65536 := ⟨t.val * 512 + r.val, by have := t.isLt; have h : cfg0.N = 128 := rfl; omega⟩

/-- The block numbers of the windows at point `t`. -/
theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)

/-- Tokens as rows, read at an index. -/
theorem rows_apply (X : Vec Ideal S32x2048x1024 .f32) (r : Fin 65536) (k : Fin 1024) :
    shapeCast S65536x1024 X shapeCasts_S32x2048x1024_S65536x1024 (ix2 r k) = X (ix3 (batch r) (step r) k) := by
  pointwise
  rfl

/-- The tokens the region finds, from the arguments. -/
theorem arr_x (c : Dev nD) (r : Fin 65536) (k : Fin 1024) :
    V m c main_v82 (ix2 r k) = Cert.ProjEvenOut.tok (m ((c.tc : Thread nD τ).loc main_arg2)) (rw m c) (batch r) (step r) k := by
  rw [arr_rows]
  exact (rows_apply _ r k).trans (Cert.ProjEvenOut.cat_apply (m ((c.tc : Thread nD τ).loc main_arg2)) (rw m c) (batch r) (step r) k)

/-- The weights it finds; their rounding to bfloat16 is the identity over the extended reals. -/
theorem arr_w (c : Dev nD) (k : Fin 1024) (n : Fin 1024) :
    V m c main_v83 (ix2 k n) = m ((c.tc : Thread nD τ).loc main_arg11) (ix2 k n) := by
  rw [entry_eq, weights, a2 m c (r := main_arg11) (by decide +kernel) (by decide +kernel)]
  rfl

/-- What a point's body leaves in the output block. -/
theorem block (x : Vec Ideal S512x1024 .f32) (w : Vec Ideal S1024x1024 .bf16) (r : Fin 512) (n : Fin 1024) :
    out0_2 x w (ix2 r n) = ∑ k : Fin 1024, x (ix2 r k) * w (ix2 k n) := by
  have hz : (![0, 0] : Fin 2 → ℕ) = fun _ => 0 := by decide
  unfold out0_2
  rw [View.canon_unit_zero hz, View.ld_unit_zero hz, View.ld_unit_zero hz]
  unfold k0_pay1
  pointwise
  rfl

/-- A point's block of an input, element by element. -/
theorem blk_x (c : Dev nD) (t : Fin cfg0.N) (r : Fin 512) (k : Fin 1024) :
    iblk m c 0 t (ix2 r k) = V m c main_v82 (ix2 (row t r) k) := by
  simp only [← ix2_eq_valueIdx]
  blk_ext [iblk, idx_0 t, row]
theorem blk_w (c : Dev nD) (t : Fin cfg0.N) (k n : Fin 1024) :
    iblk m c 1 t (ix2 k n) = V m c main_v83 (ix2 k n) := by
  simp only [← ix2_eq_valueIdx]
  blk_ext [iblk, idx_1 t]

/-- Where a point's block of the result lies. -/
theorem emb_2 (t : Fin cfg0.N) (r : Fin 512) (n : Fin 1024) : (win0_2.blk t).view.emb (ix2 r n) = ix2 (row t r) n := by
  simp only [← ix2_eq_valueIdx]
  blk_ext [idx_2 t, row]

set_option backward.isDefEq.respectTransparency.types false in
/-- The output array after the run. -/
theorem final_arr (c : Dev nD) : (dats m 0 c).arrAt 2 cfg0.N
    = Cert.ProjEvenOut.out (m ((c.tc : Thread nD τ).loc main_arg2)) (rw m c) (m ((c.tc : Thread nD τ).loc main_arg11)) := by
  refine (dats m 0 c).arrAt_eq_of_covers 2 _ (by decide +kernel) fun t hf y => ?_
  blk_simp
  rw [after0_2]
  obtain ⟨r, n, rfl⟩ : ∃ (r : Fin 512) (n : Fin 1024), y = ix2 r n := ⟨y 0, y 1, eq_ix2 _⟩
  refine (block _ _ r n).trans ?_
  show _ = Cert.ProjEvenOut.out _ _ _ ((win0_2.blk t).view.emb (ix2 r n))
  rw [emb_2 t r n]
  refine sum_eq_entry (X := Cert.ProjEvenOut.tok (m ((c.tc : Thread nD τ).loc main_arg2)) (rw m c)) (W := fun k n => m ((c.tc : Thread nD τ).loc main_arg11) (ix2 k n)) (r := row t r) (n := n)
    (x := fun k => iblk m c 0 t (ix2 r k)) (w := fun k => iblk m c 1 t (ix2 k n)) (fun k => ?_) (fun k => ?_)
  · exact (blk_x m c t r k).trans (arr_x m c (row t r) k)
  · exact (blk_w m c t k n).trans (arr_w m c k n)

/-- The kernel runs to `out` of its arguments and leaves them as they were. -/
theorem run_kernel (ρ : Dev nD → PrngReg) : θ_run defs (onTc (τ := τ) (main (F := Ideal))) ⟨m, fun _ => 0, ρ⟩ fun r => ∀ c : Dev nD,
      r.2.mem ((c.tc : Thread nD τ).loc main_v84) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun _ h c => ⟨(h c).1.trans (final_arr m c), (h c).2⟩) (Cert.Kernel7Ideal.Value.run_blocks (F := Ideal) m ρ)

end Cert.GatedOut

namespace Cert.GatedOutRef

open Cert.Reference7Ideal Cert.Reference7Ideal.Gen Cert.ScanPrep Cert.GatePrep
open Idealize.ShloMosaic Idealize.ShloMosaic.TcCoe Idealize.SL.Sem

variable (m : (ℓ : Loc nD τ sig) → Buf (Elt Ideal) ℓ)

/-- The reference's composed operations are the product with the gated half. -/
theorem composed (c : Dev nD) : Cert.Reference7Ideal.Value.res_out0 (F := Ideal) m c
    = shapeCast S65536x1024 (Host.dotGeneral (F := Ideal) (φ₁ := .f32) (φ₂ := .f32) dot_S32x2048x1024_S1024x1024_S32x2048x1024_2_0_01_1_n_n none
        (concatenate S32x2048x1024 2 [⟨S32x2048x512, (m ((c.tc : Thread nD τ).loc main_arg2))⟩, ⟨S32x2048x512, half (shifted (m ((c.tc : Thread nD τ).loc main_arg0)) (m ((c.tc : Thread nD τ).loc main_arg3))) (byHead (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))⟩]
          concatenates_S32x2048x512_S32x2048x512_S32x2048x1024_d2) (m ((c.tc : Thread nD τ).loc main_arg11))) shapeCasts_S32x2048x1024_S65536x1024 := by
  unfold Cert.Reference7Ideal.Value.res_out0 Cert.Reference7Ideal.Value.res_main_v82
  rfl

/-- The reference runs to `out` of its arguments and leaves them as they were. -/
theorem run_reference (ρ : Dev nD → PrngReg) :
    θ_run defs (onTc (τ := τ) (main (F := Ideal))) ⟨m, fun _ => 0, ρ⟩ fun r => ∀ c : Dev nD,
      r.2.mem ((c.tc : Thread nD τ).loc main_v82) = Cert.GatedOut.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun _ h c => ⟨(h c).1.trans ((composed m c).trans (Cert.ProjEvenOutRef.value _ _ _)), (h c).2⟩) (Cert.Reference7Ideal.Value.run (F := Ideal) m ρ)

end Cert.GatedOutRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.ScanClaim
public import proofs.«01_k».proof.Proof.SameText
public import proofs.«01_k».proof.Proof.ProjEvenIn
public import proofs.«01_k».proof.Proof.ProjOddIn
public import proofs.«01_k».proof.Proof.ProjEvenOut
public import proofs.«01_k».proof.Proof.GlaValue
public import proofs.«01_k».proof.Proof.GlaRefValue
public import proofs.«01_k».proof.Proof.ResidualNorm
public import proofs.«01_k».proof.Proof.GatedOut
public import Idealize.ShloMosaic.Adequacy
public import Idealize.ShloMosaic.Init

@[expose] public section

set_option maxRecDepth 16384

noncomputable section

namespace Cert.Proof

open Idealize.ShloMosaic Idealize.SL.Sem Cert.Kernel

set_option maxHeartbeats 8000000 in
/-- The scan's program runs, leaves its arguments as they were and every semaphore counter at zero. -/
theorem frame_kernel : Cert.quiescent_Kernel (hKernel := Cert.Kernel.Gen.facts) := fun m ρ _ => by
  rw [Cert.Scan.defs_same (hI := Cert.KernelIdeal.Gen.facts)]
  exact Cert.Scan.frame_run (F := Bits) m ρ

/-- So does its reading over the extended reals. -/
theorem frame_ideal : Cert.quiescent_KernelIdeal (hKernelIdeal := Cert.KernelIdeal.Gen.facts) := fun m ρ _ =>
  Cert.Scan.frame_run (F := Ideal) m ρ

/-- So does the reference. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.Scan.run_reference m ρ)

/-- The scan and the recurrence compute the same function over the extended reals. -/
theorem value : Cert.algebraic_KernelIdeal_ReferenceIdeal (hKernelIdeal := Cert.KernelIdeal.Gen.facts) (hReferenceIdeal := Cert.ReferenceIdeal.Gen.facts) :=
  fun m ρ m' ρ' _ hag => ⟨_, Cert.Scan.run_kernel m ρ,
    (θ_run _ _ _).mono (fun _ h c => ⟨(h c).1.trans (by
      obtain ⟨h0, h1, h2, h3, h4, h5, h6, h7⟩ := hag c
      rw [h0, h1, h2, h3, h4, h5, h6, h7]), (h c).2⟩) (Cert.Scan.run_reference m' ρ')⟩

/-- The even layers' input projection: its program's frame, its reading's and its reference's. -/
theorem frame_even_in : Cert.quiescent_Kernel2 (hKernel2 := Cert.Kernel2.Gen.facts) := fun m ρ _ => Cert.Kernel2.Gen.frame m ρ
theorem frame_even_in_ideal : Cert.quiescent_Kernel2Ideal (hKernel2Ideal := Cert.Kernel2Ideal.Gen.facts) := fun m ρ _ => Cert.Kernel2Ideal.Gen.frame m ρ
theorem frame_even_in_reference : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩) (Cert.ProjEvenInRef.run_reference m ρ)

/-- It and its reference compute the same function over the extended reals. -/
theorem value_even_in : Cert.algebraic_Kernel2Ideal_Reference2Ideal (hKernel2Ideal := Cert.Kernel2Ideal.Gen.facts) (hReference2Ideal := Cert.Reference2Ideal.Gen.facts) :=
  fun m ρ m' ρ' _ hag => ⟨_, Cert.ProjEvenIn.run_kernel m ρ,
    (θ_run _ _ _).mono (fun _ h c => ⟨(h c).1.trans (by
      obtain ⟨h0, h1⟩ := hag c
      rw [h0, h1]), (h c).2⟩) (Cert.ProjEvenInRef.run_reference m' ρ')⟩

/-- The odd layers' input projection: its program's frame, its reading's and its reference's. -/
theorem frame_odd_in : Cert.quiescent_Kernel3 (hKernel3 := Cert.Kernel3.Gen.facts) := fun m ρ _ => Cert.Kernel3.Gen.frame m ρ
theorem frame_odd_in_ideal : Cert.quiescent_Kernel3Ideal (hKernel3Ideal := Cert.Kernel3Ideal.Gen.facts) := fun m ρ _ => Cert.Kernel3Ideal.Gen.frame m ρ
theorem frame_odd_in_reference : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩) (Cert.ProjOddInRef.run_reference m ρ)

/-- It and its reference compute the same function over the extended reals. -/
theorem value_odd_in : Cert.algebraic_Kernel3Ideal_Reference3Ideal (hKernel3Ideal := Cert.Kernel3Ideal.Gen.facts) (hReference3Ideal := Cert.Reference3Ideal.Gen.facts) :=
  fun m ρ m' ρ' _ hag => ⟨_, Cert.ProjOddIn.run_kernel m ρ,
    (θ_run _ _ _).mono (fun _ h c => ⟨(h c).1.trans (by
      obtain ⟨h0, h1⟩ := hag c
      rw [h0, h1]), (h c).2⟩) (Cert.ProjOddInRef.run_reference m' ρ')⟩

/-- The even layers' output projection: its program's frame, its reading's and its reference's. -/
theorem frame_even_out : Cert.quiescent_Kernel4 (hKernel4 := Cert.Kernel4.Gen.facts) := fun m ρ _ => Cert.Kernel4.Gen.frame m ρ
theorem frame_even_out_ideal : Cert.quiescent_Kernel4Ideal (hKernel4Ideal := Cert.Kernel4Ideal.Gen.facts) := fun m ρ _ => Cert.Kernel4Ideal.Gen.frame m ρ
theorem frame_even_out_reference : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩) (Cert.ProjEvenOutRef.run_reference m ρ)

/-- It and its reference compute the same function over the extended reals. -/
theorem value_even_out : Cert.algebraic_Kernel4Ideal_Reference4Ideal (hKernel4Ideal := Cert.Kernel4Ideal.Gen.facts) (hReference4Ideal := Cert.Reference4Ideal.Gen.facts) :=
  fun m ρ m' ρ' _ hag => ⟨_, Cert.ProjEvenOut.run_kernel m ρ,
    (θ_run _ _ _).mono (fun _ h c => ⟨(h c).1.trans (by
      obtain ⟨h0, h1, h2⟩ := hag c
      rw [h0, h1, h2]), (h c).2⟩) (Cert.ProjEvenOutRef.run_reference m' ρ')⟩

/-- The gated linear attention: its program's frame, its reading's and its reference's. -/
theorem frame_gla : Cert.quiescent_Kernel5 (hKernel5 := Cert.Kernel5.Gen.facts) := fun m ρ _ => Cert.Kernel5.Gen.frame m ρ
theorem frame_gla_ideal : Cert.quiescent_Kernel5Ideal (hKernel5Ideal := Cert.Kernel5Ideal.Gen.facts) := fun m ρ _ => Cert.Kernel5Ideal.Gen.frame m ρ
theorem frame_gla_reference : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩) (GlaRef.run m ρ)

/-- It and its reference compute the same function over the extended reals. -/
theorem value_gla : Cert.algebraic_Kernel5Ideal_Reference5Ideal (hKernel5Ideal := Cert.Kernel5Ideal.Gen.facts) (hReference5Ideal := Cert.Reference5Ideal.Gen.facts) :=
  fun m ρ m' ρ' _ hag => ⟨_, Gla.run_kernel m ρ,
    (θ_run _ _ _).mono (fun _ h c => ⟨(h c).1.trans (by
      obtain ⟨h0, h1, h2, h3⟩ := hag c
      change Gla.out _ _ _ _ = _
      rw [h0, h1, h2, h3]), (h c).2⟩) (GlaRef.run m' ρ')⟩

/-- The residual sum with its layer norm: its program's frame, its reading's and its reference's. -/
theorem frame_norm : Cert.quiescent_Kernel6 (hKernel6 := Cert.Kernel6.Gen.facts) := fun m ρ _ => Cert.Kernel6.Gen.frame m ρ
theorem frame_norm_ideal : Cert.quiescent_Kernel6Ideal (hKernel6Ideal := Cert.Kernel6Ideal.Gen.facts) := fun m ρ _ => Cert.Kernel6Ideal.Gen.frame m ρ
theorem frame_norm_reference : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩) (Cert.ResidualNormRef.run_reference m ρ)

/-- It and its reference compute the same function over the extended reals. -/
theorem value_norm : Cert.algebraic_Kernel6Ideal_Reference6Ideal (hKernel6Ideal := Cert.Kernel6Ideal.Gen.facts) (hReference6Ideal := Cert.Reference6Ideal.Gen.facts) :=
  fun m ρ m' ρ' _ hag => ⟨_, Cert.ResidualNorm.run_kernel m ρ,
    (θ_run _ _ _).mono (fun _ h c => ⟨(h c).1.trans (by
      obtain ⟨h0, h1, h2, h3⟩ := hag c
      rw [h0, h1, h2, h3]), (h c).2⟩) (Cert.ResidualNormRef.run_reference m' ρ')⟩

/-- The even layers' output projection with the RWKV-7 head norm, bonus and gate: its program's frame, its reading's and its reference's. -/
theorem frame_gated : Cert.quiescent_Kernel7 (hKernel7 := Cert.Kernel7.Gen.facts) := fun m ρ _ => Cert.Kernel7.Gen.frame m ρ
theorem frame_gated_ideal : Cert.quiescent_Kernel7Ideal (hKernel7Ideal := Cert.Kernel7Ideal.Gen.facts) := fun m ρ _ => Cert.Kernel7Ideal.Gen.frame m ρ
theorem frame_gated_reference : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩) (Cert.GatedOutRef.run_reference m ρ)

/-- It and its reference compute the same function over the extended reals. -/
theorem value_gated : Cert.algebraic_Kernel7Ideal_Reference7Ideal (hKernel7Ideal := Cert.Kernel7Ideal.Gen.facts) (hReference7Ideal := Cert.Reference7Ideal.Gen.facts) :=
  fun m ρ m' ρ' _ hag => ⟨_, Cert.GatedOut.run_kernel m ρ,
    (θ_run _ _ _).mono (fun _ h c => ⟨(h c).1.trans (by
      obtain ⟨h0, h1, h2, h3, h4, h5, h6, h7, h8, h9, h10, h11⟩ := hag c
      rw [h0, h1, h2, h3, h4, h5, h6, h7, h8, h9, h10, h11]), (h c).2⟩) (Cert.GatedOutRef.run_reference m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  frame_kernel, frame_ideal, frame_reference,
  frame_even_in, frame_even_in_ideal, frame_even_in_reference,
  frame_odd_in, frame_odd_in_ideal, frame_odd_in_reference,
  frame_even_out, frame_even_out_ideal, frame_even_out_reference,
  frame_gla, frame_gla_ideal, frame_gla_reference,
  frame_norm, frame_norm_ideal, frame_norm_reference,
  frame_gated, frame_gated_ideal, frame_gated_reference,
  trivial, value, trivial, value_even_in, trivial, value_odd_in, trivial, value_even_out, trivial, value_gla, trivial, value_norm,
  trivial, value_gated⟩

end Cert.Proof

end
